-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .bf16) (main_arg1 : FVec F S1024x1024 .bf16) (main_arg2 : FVec F S4x1024x8x128 .f32) (main_arg3 : FVec F S4x1024x8x128 .f32) (main_arg4 : FVec F S1024x1024 .bf16) : IVec S_ 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_c : IVec S_ 1 := constantI S_ 1 1#1
  let main_v4 : IVec S_ 1 := (fun x v => Host.reduce IntOp.andi x v reducesTo_S4x256x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S4x1024x8x128 .f32 := Host.absf main_arg2
  let main_cst_2 : FVec F S_ .f32 := constant S_ .f32 0x7F800000#32
  let main_v12 : FVec F S4x1024x8x128 .f32 := broadcastInDim S4x1024x8x128 ![] bcast_S_S4x1024x8x128 main_cst_2
  let main_v13 : IVec S4x1024x8x128 1 := cmpf .olt main_v11 main_v12
  let main_c_3 : IVec S_ 1 := constantI S_ 1 1#1
  let main_v14 : IVec S_ 1 := (fun x v => Host.reduce IntOp.andi x v reducesTo_S4x1024x8x128_S_d0_1_2_3 h_S_) main_v13 main_c_3
  let main_v15 : IVec S_ 1 := andi main_v10 main_v14
  main_v15
-- ==== Pre_finite_scores_ReferenceIdeal.lean ====
abbrev S4x256x1024 : Shape := ⟨3, ![4, 256, 1024]⟩
abbrev S1024x4096 : Shape := ⟨2, ![1024, 4096]⟩
abbrev S4x1024x8x128 : Shape := ⟨4, ![4, 1024, 8, 128]⟩
abbrev S4096x1024 : Shape := ⟨2, ![4096, 1024]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .bf16) (main_arg1 : FVec F S1024x4096 .bf16) (main_arg2 : FVec F S4x1024x8x128 .f32) (main_arg3 : FVec F S4x1024x8x128 .f32) (main_arg4 : FVec F S4096x1024 .bf16) : IVec S_ 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_c : IVec S_ 1 := constantI S_ 1 1#1
  let main_v4 : IVec S_ 1 := (fun x v => Host.reduce IntOp.andi x v reducesTo_S4x256x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S4x1024x8x128 .f32 := Host.absf main_arg2
  let main_cst_2 : FVec F S_ .f32 := constant S_ .f32 0x7F800000#32
  let main_v12 : FVec F S4x1024x8x128 .f32 := broadcastInDim S4x1024x8x128 ![] bcast_S_S4x1024x8x128 main_cst_2
  let main_v13 : IVec S4x1024x8x128 1 := cmpf .olt main_v11 main_v12
  let main_c_3 : IVec S_ 1 := constantI S_ 1 1#1
  let main_v14 : IVec S_ 1 := (fun x v => Host.reduce IntOp.andi x v reducesTo_S4x1024x8x128_S_d0_1_2_3 h_S_) main_v13 main_c_3
  let main_v15 : IVec S_ 1 := andi main_v10 main_v14
  main_v15
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S1x256x1024 : Shape := ⟨3, ![1, 256, 1024]⟩
abbrev S1024x512 : Shape := ⟨2, ![1024, 512]⟩
abbrev S512x1024 : Shape := ⟨2, ![512, 1024]⟩
abbrev S256x1024 : Shape := ⟨2, ![256, 1024]⟩
abbrev S2x1024x128 : Shape := ⟨3, ![2, 1024, 128]⟩
abbrev S2x2 : Shape := ⟨2, ![2, 2]⟩
abbrev S2x4x3x32x1024 : Shape := ⟨5, ![2, 4, 3, 32, 1024]⟩
abbrev S2x4x6 : Shape := ⟨3, ![2, 4, 6]⟩
abbrev S1x1 : Shape := ⟨2, ![1, 1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x1x1 : Shape := ⟨3, ![1, 1, 1]⟩
abbrev S1x1x1x32x1024 : Shape := ⟨5, ![1, 1, 1, 32, 1024]⟩
abbrev S32x1024 : Shape := ⟨2, ![32, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S4x1024x8x128, .f32⟩
  | .hbm, ⟨3, _⟩ => ⟨S4x1024x8x128, .f32⟩
  | .hbm, ⟨4, _⟩ => ⟨S1024x1024, .bf16⟩
  | .hbm, ⟨5, _⟩ => ⟨S1024x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S256x1024, .f32⟩
  | .local _ .vmem, ⟨8, _⟩ => ⟨S1024x1024, .bf16⟩
  | .local _ .vmem, ⟨9, _⟩ => ⟨S2x1024x128, .f32⟩
  | .local _ .vmem, ⟨10, _⟩ => ⟨S2x1024x128, .f32⟩
  | .local _ .vmem, ⟨11, _⟩ => ⟨S2x4x3x32x1024, .bf16⟩
  | .local _ .vmem, ⟨12, _⟩ => ⟨S2x4x3x32x1024, .bf16⟩
  | .local _ .vmem, ⟨13, _⟩ => ⟨S2x4x3x32x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  (ofTc nBuf bufTy 1 107 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v11 : BitVec 1 := Scalar.cmpi .eq v1 c0_i32
  let v12 : BitVec 32 := Scalar.extui v11
  let c0_i32_6 : BitVec 32 := 0#32
  let v13 : BitVec 1 := Scalar.cmpi .ne v12 c0_i32_6
  v13

def k0_off1 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c0_i32_68 : BitVec 32 := 0#32
  ![v10.toNat, 0]
def k0_off2 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c0_i32_69 : BitVec 32 := 0#32
  let c0_i32_70 : BitVec 32 := 0#32
  ![v10.toNat, 0, 0]
def k0_off3 (i : grid0.Coords) (d2 : Dev nD) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_60 : BitVec 32 := 0#32
  let v123 : BitVec 1 := Scalar.cmpi .sgt v1 c0_i32_60
  let v124 : BitVec 32 := Scalar.extui v123
  let c0_i32_61 : BitVec 32 := 0#32
  let v125 : BitVec 1 := Scalar.cmpi .slt v1 c0_i32_61
  let v126 : BitVec 32 := Scalar.extui v125
  let v127 : BitVec 32 := Scalar.subi v124 v126
  let c2_i32_59 : BitVec 32 := 2#32
  let c0_i32_62 : BitVec 32 := 0#32
  let v128 : BitVec 1 := Scalar.cmpi .sgt c2_i32_59 c0_i32_62
  let v129 : BitVec 32 := Scalar.extui v128
  let c0_i32_63 : BitVec 32 := 0#32
  let v130 : BitVec 1 := Scalar.cmpi .slt c2_i32_59 c0_i32_63
  let v131 : BitVec 32 := Scalar.extui v130
  let v132 : BitVec 32 := Scalar.subi v129 v131
  let v133 : BitVec 1 := Scalar.cmpi .ne v127 v132
  let v134 : BitVec 32 := Scalar.remsi v1 c2_i32_59
  let c0_i32_64 : BitVec 32 := 0#32
  let v135 : BitVec 1 := Scalar.cmpi .ne v134 c0_i32_64
  let v136 : BitVec 1 := Scalar.andi v133 v135
  let v122 : BitVec 32 := Scalar.divsi v1 c2_i32_59
  let c1_i32_65 : BitVec 32 := 1#32
  let v137 : BitVec 32 := Scalar.subi v122 c1_i32_65
  let v138 : BitVec 32 := Scalar.select v136 v137 v122
  let c0_i32_71 : BitVec 32 := 0#32
  let c2_i32_66 : BitVec 32 := 2#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let v139 : BitVec 32 := Scalar.muli c2_i32_66 v4
  let c2_i32_67 : BitVec 32 := 2#32
  let v140 : BitVec 32 := Scalar.remsi v1 c2_i32_67
  let v141 : BitVec 32 := Scalar.addi v139 v140
  let c0_i32_72 : BitVec 32 := 0#32
  ![v138.toNat, 0, v141.toNat, 0]
def k0_off4 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c1_i32_73 : BitVec 32 := 1#32
  ![v10.toNat, 1]
def k0_dev1 (d2 : Dev nD) : Nat :=
  let c0_i32_80 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_79 : BitVec 32 := 1#32
  let v155 : BitVec 32 := Scalar.muli v7 c1_i32_79
  let v156 : BitVec 32 := Scalar.addi c0_i32_80 v155
  v156.toNat
def k0_dev2 (d2 : Dev nD) : Nat :=
  let c0_i32_83 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_82 : BitVec 32 := 1#32
  let v157 : BitVec 32 := Scalar.muli v9 c1_i32_82
  let v158 : BitVec 32 := Scalar.addi c0_i32_83 v157
  v158.toNat
def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_7 : BitVec 32 := 1#32
  let v14 : BitVec 32 := Scalar.addi v1 c1_i32_7
  let c8_i32 : BitVec 32 := 8#32
  let v15 : BitVec 1 := Scalar.cmpi .slt v14 c8_i32
  let v16 : BitVec 32 := Scalar.extui v15
  let c0_i32_8 : BitVec 32 := 0#32
  let v17 : BitVec 1 := Scalar.cmpi .ne v16 c0_i32_8
  v17

def k0_off5 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_60 : BitVec 32 := 1#32
  let v123 : BitVec 32 := Scalar.addi v1 c1_i32_60
  let c2_i32_61 : BitVec 32 := 2#32
  let v124 : BitVec 32 := Scalar.remsi v123 c2_i32_61
  let c0_i32_71 : BitVec 32 := 0#32
  ![v124.toNat, 0]
def k0_off6 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_60 : BitVec 32 := 1#32
  let v123 : BitVec 32 := Scalar.addi v1 c1_i32_60
  let c2_i32_61 : BitVec 32 := 2#32
  let v124 : BitVec 32 := Scalar.remsi v123 c2_i32_61
  let c0_i32_72 : BitVec 32 := 0#32
  let c0_i32_73 : BitVec 32 := 0#32
  ![v124.toNat, 0, 0]
def k0_off7 (i : grid0.Coords) (d2 : Dev nD) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_59 : BitVec 32 := 1#32
  let v122 : BitVec 32 := Scalar.addi v1 c1_i32_59
  let c0_i32_63 : BitVec 32 := 0#32
  let v126 : BitVec 1 := Scalar.cmpi .sgt v122 c0_i32_63
  let v127 : BitVec 32 := Scalar.extui v126
  let c0_i32_64 : BitVec 32 := 0#32
  let v128 : BitVec 1 := Scalar.cmpi .slt v122 c0_i32_64
  let v129 : BitVec 32 := Scalar.extui v128
  let v130 : BitVec 32 := Scalar.subi v127 v129
  let c2_i32_62 : BitVec 32 := 2#32
  let c0_i32_65 : BitVec 32 := 0#32
  let v131 : BitVec 1 := Scalar.cmpi .sgt c2_i32_62 c0_i32_65
  let v132 : BitVec 32 := Scalar.extui v131
  let c0_i32_66 : BitVec 32 := 0#32
  let v133 : BitVec 1 := Scalar.cmpi .slt c2_i32_62 c0_i32_66
  let v134 : BitVec 32 := Scalar.extui v133
  let v135 : BitVec 32 := Scalar.subi v132 v134
  let v136 : BitVec 1 := Scalar.cmpi .ne v130 v135
  let v137 : BitVec 32 := Scalar.remsi v122 c2_i32_62
  let c0_i32_67 : BitVec 32 := 0#32
  let v138 : BitVec 1 := Scalar.cmpi .ne v137 c0_i32_67
  let v139 : BitVec 1 := Scalar.andi v136 v138
  let v125 : BitVec 32 := Scalar.divsi v122 c2_i32_62
  let c1_i32_68 : BitVec 32 := 1#32
  let v140 : BitVec 32 := Scalar.subi v125 c1_i32_68
  let v141 : BitVec 32 := Scalar.select v139 v140 v125
  let c0_i32_74 : BitVec 32 := 0#32
  let c2_i32_69 : BitVec 32 := 2#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let v142 : BitVec 32 := Scalar.muli c2_i32_69 v4
  let c2_i32_70 : BitVec 32 := 2#32
  let v143 : BitVec 32 := Scalar.remsi v122 c2_i32_70
  let v144 : BitVec 32 := Scalar.addi v142 v143
  let c0_i32_75 : BitVec 32 := 0#32
  ![v141.toNat, 0, v144.toNat, 0]
def k0_off8 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_60 : BitVec 32 := 1#32
  let v123 : BitVec 32 := Scalar.addi v1 c1_i32_60
  let c2_i32_61 : BitVec 32 := 2#32
  let v124 : BitVec 32 := Scalar.remsi v123 c2_i32_61
  let c1_i32_76 : BitVec 32 := 1#32
  ![v124.toNat, 1]
def k0_off9 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c0_i32_18 : BitVec 32 := 0#32
  ![v10.toNat, 0]
def k0_off10 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c0_i32_19 : BitVec 32 := 0#32
  let c0_i32_20 : BitVec 32 := 0#32
  ![v10.toNat, 0, 0]
def k0_off11 (i : grid0.Coords) (d2 : Dev nD) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_10 : BitVec 32 := 0#32
  let v19 : BitVec 1 := Scalar.cmpi .sgt v1 c0_i32_10
  let v20 : BitVec 32 := Scalar.extui v19
  let c0_i32_11 : BitVec 32 := 0#32
  let v21 : BitVec 1 := Scalar.cmpi .slt v1 c0_i32_11
  let v22 : BitVec 32 := Scalar.extui v21
  let v23 : BitVec 32 := Scalar.subi v20 v22
  let c2_i32_9 : BitVec 32 := 2#32
  let c0_i32_12 : BitVec 32 := 0#32
  let v24 : BitVec 1 := Scalar.cmpi .sgt c2_i32_9 c0_i32_12
  let v25 : BitVec 32 := Scalar.extui v24
  let c0_i32_13 : BitVec 32 := 0#32
  let v26 : BitVec 1 := Scalar.cmpi .slt c2_i32_9 c0_i32_13
  let v27 : BitVec 32 := Scalar.extui v26
  let v28 : BitVec 32 := Scalar.subi v25 v27
  let v29 : BitVec 1 := Scalar.cmpi .ne v23 v28
  let v30 : BitVec 32 := Scalar.remsi v1 c2_i32_9
  let c0_i32_14 : BitVec 32 := 0#32
  let v31 : BitVec 1 := Scalar.cmpi .ne v30 c0_i32_14
  let v32 : BitVec 1 := Scalar.andi v29 v31
  let v18 : BitVec 32 := Scalar.divsi v1 c2_i32_9
  let c1_i32_15 : BitVec 32 := 1#32
  let v33 : BitVec 32 := Scalar.subi v18 c1_i32_15
  let v34 : BitVec 32 := Scalar.select v32 v33 v18
  let c0_i32_21 : BitVec 32 := 0#32
  let c2_i32_16 : BitVec 32 := 2#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let v35 : BitVec 32 := Scalar.muli c2_i32_16 v4
  let c2_i32_17 : BitVec 32 := 2#32
  let v36 : BitVec 32 := Scalar.remsi v1 c2_i32_17
  let v37 : BitVec 32 := Scalar.addi v35 v36
  let c0_i32_22 : BitVec 32 := 0#32
  ![v34.toNat, 0, v37.toNat, 0]
def k0_off12 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let c1_i32_23 : BitVec 32 := 1#32
  ![v10.toNat, 1]
def k0_off13 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_5 : BitVec 32 := 2#32
  let v10 : BitVec 32 := Scalar.remsi v1 c2_i32_5
  let v58 : Index := Scalar.indexCast v10
  let c0_33 : Index := 0#32
  let c0_34 : Index := 0#32
  ![v58.toNat, 0, 0]
def k0_cond5 (i : grid0.Coords) : BitVec 1 :=
  let arg1 : BitVec 32 := BitVec.ofNat 32 (i 1).val
  let c1_i32_56 : BitVec 32 := 1#32
  let v116 : BitVec 1 := Scalar.cmpi .eq arg1 c1_i32_56
  let v117 : BitVec 32 := Scalar.extui v116
  let c0_i32_57 : BitVec 32 := 0#32
  let v118 : BitVec 1 := Scalar.cmpi .ne v117 c0_i32_57
  v118

def k0_off14 (i : grid0.Coords) : Fin 2 → Nat :=
  let arg0 : BitVec 32 := BitVec.ofNat 32 (i 0).val
  let c256_i32 : BitVec 32 := 256#32
  let v124 : BitVec 32 := Scalar.muli arg0 c256_i32
  let v125 : Index := Scalar.indexCast v124
  let c0_61 : Index := 0#32
  ![v125.toNat, 0]
def k0_cond6 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c7_i32 : BitVec 32 := 7#32
  let v119 : BitVec 1 := Scalar.cmpi .eq v1 c7_i32
  let v120 : BitVec 32 := Scalar.extui v119
  let c0_i32_58 : BitVec 32 := 0#32
  let v121 : BitVec 1 := Scalar.cmpi .ne v120 c0_i32_58
  v121

def k0_off15 (d2 : Dev nD) (c0_i32_60 : BitVec 32) (c0_i32_61 : BitVec 32) : Fin 2 → Nat :=
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c16_i32 : BitVec 32 := 16#32
  let v122 : BitVec 32 := Scalar.addi v4 c16_i32
  let c4_i32_59 : BitVec 32 := 4#32
  let v123 : BitVec 32 := Scalar.remsi v122 c4_i32_59
  let c128_i32 : BitVec 32 := 128#32
  let v124 : BitVec 32 := Scalar.muli v123 c128_i32
  let v125 : BitVec 32 := Scalar.addi c0_i32_60 v124
  let v126 : BitVec 32 := Scalar.addi v125 c0_i32_61
  let c0_i32_106 : BitVec 32 := 0#32
  ![v126.toNat, 0]
def k0_dev3 (d2 : Dev nD) : Nat :=
  let c0_i32_103 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_102 : BitVec 32 := 1#32
  let v162 : BitVec 32 := Scalar.muli v9 c1_i32_102
  let v163 : BitVec 32 := Scalar.addi c0_i32_103 v162
  v163.toNat
def k0_dev4 (d2 : Dev nD) : Nat :=
  let c0_i32_117 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_116 : BitVec 32 := 1#32
  let v171 : BitVec 32 := Scalar.muli v7 c1_i32_116
  let v172 : BitVec 32 := Scalar.addi c0_i32_117 v171
  v172.toNat
def k0_dev5 (d2 : Dev nD) : Nat :=
  let c0_i32_131 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_130 : BitVec 32 := 1#32
  let v180 : BitVec 32 := Scalar.muli v9 c1_i32_130
  let v181 : BitVec 32 := Scalar.addi c0_i32_131 v180
  v181.toNat
def k0_dev6 (d2 : Dev nD) : Nat :=
  let c0_i32_145 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_144 : BitVec 32 := 1#32
  let v189 : BitVec 32 := Scalar.muli v7 c1_i32_144
  let v190 : BitVec 32 := Scalar.addi c0_i32_145 v189
  v190.toNat
def k0_dev7 (d2 : Dev nD) : Nat :=
  let c0_i32_159 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_158 : BitVec 32 := 1#32
  let v198 : BitVec 32 := Scalar.muli v9 c1_i32_158
  let v199 : BitVec 32 := Scalar.addi c0_i32_159 v198
  v199.toNat
def k0_dev8 (d2 : Dev nD) : Nat :=
  let c0_i32_173 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_172 : BitVec 32 := 1#32
  let v207 : BitVec 32 := Scalar.muli v7 c1_i32_172
  let v208 : BitVec 32 := Scalar.addi c0_i32_173 v207
  v208.toNat
def k0_dev9 (d2 : Dev nD) : Nat :=
  let c0_i32_186 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_185 : BitVec 32 := 1#32
  let v216 : BitVec 32 := Scalar.muli v9 c1_i32_185
  let v217 : BitVec 32 := Scalar.addi c0_i32_186 v216
  v217.toNat
def k0_dev10 (d2 : Dev nD) : Nat :=
  let c0_i32_200 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_199 : BitVec 32 := 1#32
  let v225 : BitVec 32 := Scalar.muli v7 c1_i32_199
  let v226 : BitVec 32 := Scalar.addi c0_i32_200 v225
  v226.toNat
def k0_off16 (d2 : Dev nD) (c0_i32_227 : BitVec 32) (c1_i32_223 : BitVec 32) (c0_i32_228 : BitVec 32) : Fin 2 → Nat :=
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let v243 : BitVec 32 := Scalar.subi v4 c1_i32_223
  let c16_i32_224 : BitVec 32 := 16#32
  let v244 : BitVec 32 := Scalar.addi v243 c16_i32_224
  let c4_i32_225 : BitVec 32 := 4#32
  let v245 : BitVec 32 := Scalar.remsi v244 c4_i32_225
  let c128_i32_226 : BitVec 32 := 128#32
  let v246 : BitVec 32 := Scalar.muli v245 c128_i32_226
  let v247 : BitVec 32 := Scalar.addi c0_i32_227 v246
  let v248 : BitVec 32 := Scalar.addi v247 c0_i32_228
  let v249 : Index := Scalar.indexCast v248
  let c0_229 : Index := 0#32
  ![v249.toNat, 0]
def k0_off16_at (r : Fin 32) : BitVec 32 × BitVec 32 × BitVec 32 :=
  if r.val < 16 then
    if r.val < 8 then
      if r.val < 4 then
        if r.val < 2 then
          if r.val < 1 then
            (0#32, 1#32, 0#32)
          else
            (512#32, 4294967295#32, 0#32)
        else
          if r.val < 3 then
            (0#32, 1#32, 32#32)
          else
            (512#32, 4294967295#32, 32#32)
      else
        if r.val < 6 then
          if r.val < 5 then
            (0#32, 1#32, 64#32)
          else
            (512#32, 4294967295#32, 64#32)
        else
          if r.val < 7 then
            (0#32, 1#32, 96#32)
          else
            (512#32, 4294967295#32, 96#32)
    else
      if r.val < 12 then
        if r.val < 10 then
          if r.val < 9 then
            (0#32, 2#32, 0#32)
          else
            (512#32, 4294967294#32, 0#32)
        else
          if r.val < 11 then
            (0#32, 2#32, 32#32)
          else
            (512#32, 4294967294#32, 32#32)
      else
        if r.val < 14 then
          if r.val < 13 then
            (0#32, 2#32, 64#32)
          else
            (512#32, 4294967294#32, 64#32)
        else
          if r.val < 15 then
            (0#32, 2#32, 96#32)
          else
            (512#32, 4294967294#32, 96#32)
  else
    if r.val < 24 then
      if r.val < 20 then
        if r.val < 18 then
          if r.val < 17 then
            (0#32, 3#32, 0#32)
          else
            (512#32, 4294967293#32, 0#32)
        else
          if r.val < 19 then
            (0#32, 3#32, 32#32)
          else
            (512#32, 4294967293#32, 32#32)
      else
        if r.val < 22 then
          if r.val < 21 then
            (0#32, 3#32, 64#32)
          else
            (512#32, 4294967293#32, 64#32)
        else
          if r.val < 23 then
            (0#32, 3#32, 96#32)
          else
            (512#32, 4294967293#32, 96#32)
    else
      if r.val < 28 then
        if r.val < 26 then
          if r.val < 25 then
            (0#32, 0#32, 0#32)
          else
            (512#32, 0#32, 0#32)
        else
          if r.val < 27 then
            (0#32, 0#32, 32#32)
          else
            (512#32, 0#32, 32#32)
      else
        if r.val < 30 then
          if r.val < 29 then
            (0#32, 0#32, 64#32)
          else
            (512#32, 0#32, 64#32)
        else
          if r.val < 31 then
            (0#32, 0#32, 96#32)
          else
            (512#32, 0#32, 96#32)
def k0_dev11 (d2 : Dev nD) : Nat :=
  let c0_i32_248 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_247 : BitVec 32 := 1#32
  let v255 : BitVec 32 := Scalar.muli v9 c1_i32_247
  let v256 : BitVec 32 := Scalar.addi c0_i32_248 v255
  v256.toNat
def k0_dev12 (d2 : Dev nD) : Nat :=
  let c0_i32_295 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_294 : BitVec 32 := 1#32
  let v286 : BitVec 32 := Scalar.muli v7 c1_i32_294
  let v287 : BitVec 32 := Scalar.addi c0_i32_295 v286
  v287.toNat
def k0_dev13 (d2 : Dev nD) : Nat :=
  let c0_i32_344 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_343 : BitVec 32 := 1#32
  let v317 : BitVec 32 := Scalar.muli v9 c1_i32_343
  let v318 : BitVec 32 := Scalar.addi c0_i32_344 v317
  v318.toNat
def k0_dev14 (d2 : Dev nD) : Nat :=
  let c0_i32_393 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_392 : BitVec 32 := 1#32
  let v348 : BitVec 32 := Scalar.muli v7 c1_i32_392
  let v349 : BitVec 32 := Scalar.addi c0_i32_393 v348
  v349.toNat
def k0_dev15 (d2 : Dev nD) : Nat :=
  let c0_i32_441 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_440 : BitVec 32 := 1#32
  let v379 : BitVec 32 := Scalar.muli v9 c1_i32_440
  let v380 : BitVec 32 := Scalar.addi c0_i32_441 v379
  v380.toNat
def k0_dev16 (d2 : Dev nD) : Nat :=
  let c0_i32_490 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_489 : BitVec 32 := 1#32
  let v410 : BitVec 32 := Scalar.muli v7 c1_i32_489
  let v411 : BitVec 32 := Scalar.addi c0_i32_490 v410
  v411.toNat
def k0_dev17 (d2 : Dev nD) : Nat :=
  let c0_i32_538 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_537 : BitVec 32 := 1#32
  let v441 : BitVec 32 := Scalar.muli v9 c1_i32_537
  let v442 : BitVec 32 := Scalar.addi c0_i32_538 v441
  v442.toNat
def k0_dev18 (d2 : Dev nD) : Nat :=
  let c0_i32_587 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_586 : BitVec 32 := 1#32
  let v472 : BitVec 32 := Scalar.muli v7 c1_i32_586
  let v473 : BitVec 32 := Scalar.addi c0_i32_587 v472
  v473.toNat
def k0_dev19 (d2 : Dev nD) : Nat :=
  let c0_i32_640 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_639 : BitVec 32 := 1#32
  let v504 : BitVec 32 := Scalar.muli v9 c1_i32_639
  let v505 : BitVec 32 := Scalar.addi c0_i32_640 v504
  v505.toNat
def k0_dev20 (d2 : Dev nD) : Nat :=
  let c0_i32_692 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_691 : BitVec 32 := 1#32
  let v536 : BitVec 32 := Scalar.muli v7 c1_i32_691
  let v537 : BitVec 32 := Scalar.addi c0_i32_692 v536
  v537.toNat
def k0_dev21 (d2 : Dev nD) : Nat :=
  let c0_i32_745 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_744 : BitVec 32 := 1#32
  let v568 : BitVec 32 := Scalar.muli v9 c1_i32_744
  let v569 : BitVec 32 := Scalar.addi c0_i32_745 v568
  v569.toNat
def k0_dev22 (d2 : Dev nD) : Nat :=
  let c0_i32_798 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_797 : BitVec 32 := 1#32
  let v600 : BitVec 32 := Scalar.muli v7 c1_i32_797
  let v601 : BitVec 32 := Scalar.addi c0_i32_798 v600
  v601.toNat
def k0_dev23 (d2 : Dev nD) : Nat :=
  let c0_i32_851 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_850 : BitVec 32 := 1#32
  let v632 : BitVec 32 := Scalar.muli v9 c1_i32_850
  let v633 : BitVec 32 := Scalar.addi c0_i32_851 v632
  v633.toNat
def k0_dev24 (d2 : Dev nD) : Nat :=
  let c0_i32_904 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_903 : BitVec 32 := 1#32
  let v664 : BitVec 32 := Scalar.muli v7 c1_i32_903
  let v665 : BitVec 32 := Scalar.addi c0_i32_904 v664
  v665.toNat
def k0_dev25 (d2 : Dev nD) : Nat :=
  let c0_i32_957 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_956 : BitVec 32 := 1#32
  let v696 : BitVec 32 := Scalar.muli v9 c1_i32_956
  let v697 : BitVec 32 := Scalar.addi c0_i32_957 v696
  v697.toNat
def k0_dev26 (d2 : Dev nD) : Nat :=
  let c0_i32_1010 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1009 : BitVec 32 := 1#32
  let v728 : BitVec 32 := Scalar.muli v7 c1_i32_1009
  let v729 : BitVec 32 := Scalar.addi c0_i32_1010 v728
  v729.toNat
def k0_dev27 (d2 : Dev nD) : Nat :=
  let c0_i32_1307 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1306 : BitVec 32 := 1#32
  let v914 : BitVec 32 := Scalar.muli v9 c1_i32_1306
  let v915 : BitVec 32 := Scalar.addi c0_i32_1307 v914
  v915.toNat
def k0_dev28 (d2 : Dev nD) : Nat :=
  let c0_i32_1325 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1324 : BitVec 32 := 1#32
  let v924 : BitVec 32 := Scalar.muli v7 c1_i32_1324
  let v925 : BitVec 32 := Scalar.addi c0_i32_1325 v924
  v925.toNat
def k0_dev29 (d2 : Dev nD) : Nat :=
  let c0_i32_1343 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1342 : BitVec 32 := 1#32
  let v934 : BitVec 32 := Scalar.muli v9 c1_i32_1342
  let v935 : BitVec 32 := Scalar.addi c0_i32_1343 v934
  v935.toNat
def k0_dev30 (d2 : Dev nD) : Nat :=
  let c0_i32_1361 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1360 : BitVec 32 := 1#32
  let v944 : BitVec 32 := Scalar.muli v7 c1_i32_1360
  let v945 : BitVec 32 := Scalar.addi c0_i32_1361 v944
  v945.toNat
def k0_dev31 (d2 : Dev nD) : Nat :=
  let c0_i32_1379 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1378 : BitVec 32 := 1#32
  let v954 : BitVec 32 := Scalar.muli v9 c1_i32_1378
  let v955 : BitVec 32 := Scalar.addi c0_i32_1379 v954
  v955.toNat
def k0_dev32 (d2 : Dev nD) : Nat :=
  let c0_i32_1397 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1396 : BitVec 32 := 1#32
  let v964 : BitVec 32 := Scalar.muli v7 c1_i32_1396
  let v965 : BitVec 32 := Scalar.addi c0_i32_1397 v964
  v965.toNat
def k0_dev33 (d2 : Dev nD) : Nat :=
  let c0_i32_1415 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1414 : BitVec 32 := 1#32
  let v974 : BitVec 32 := Scalar.muli v9 c1_i32_1414
  let v975 : BitVec 32 := Scalar.addi c0_i32_1415 v974
  v975.toNat
def k0_dev34 (d2 : Dev nD) : Nat :=
  let c0_i32_1433 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1432 : BitVec 32 := 1#32
  let v984 : BitVec 32 := Scalar.muli v7 c1_i32_1432
  let v985 : BitVec 32 := Scalar.addi c0_i32_1433 v984
  v985.toNat
def k0_off17 (d2 : Dev nD) (c0_i32_1447 : BitVec 32) (c1_i32_1443 : BitVec 32) (c0_i32_1448 : BitVec 32) : Fin 2 → Nat :=
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let v997 : BitVec 32 := Scalar.addi v4 c1_i32_1443
  let c16_i32_1444 : BitVec 32 := 16#32
  let v998 : BitVec 32 := Scalar.addi v997 c16_i32_1444
  let c4_i32_1445 : BitVec 32 := 4#32
  let v999 : BitVec 32 := Scalar.remsi v998 c4_i32_1445
  let c128_i32_1446 : BitVec 32 := 128#32
  let v1000 : BitVec 32 := Scalar.muli v999 c128_i32_1446
  let v1001 : BitVec 32 := Scalar.addi c0_i32_1447 v1000
  let v1002 : BitVec 32 := Scalar.addi v1001 c0_i32_1448
  let v1003 : Index := Scalar.indexCast v1002
  let c0_1449 : Index := 0#32
  ![v1003.toNat, 0]
def k0_off17_at (r : Fin 8) : BitVec 32 × BitVec 32 × BitVec 32 :=
  if r.val < 4 then
    if r.val < 2 then
      if r.val < 1 then
        (0#32, 1#32, 0#32)
      else
        (512#32, 4294967295#32, 0#32)
    else
      if r.val < 3 then
        (0#32, 1#32, 32#32)
      else
        (512#32, 4294967295#32, 32#32)
  else
    if r.val < 6 then
      if r.val < 5 then
        (0#32, 1#32, 64#32)
      else
        (512#32, 4294967295#32, 64#32)
    else
      if r.val < 7 then
        (0#32, 1#32, 96#32)
      else
        (512#32, 4294967295#32, 96#32)
def k0_dev35 (d2 : Dev nD) : Nat :=
  let c0_i32_1565 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1564 : BitVec 32 := 1#32
  let v1090 : BitVec 32 := Scalar.muli v9 c1_i32_1564
  let v1091 : BitVec 32 := Scalar.addi c0_i32_1565 v1090
  v1091.toNat
def k0_dev36 (d2 : Dev nD) : Nat :=
  let c0_i32_1601 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1600 : BitVec 32 := 1#32
  let v1108 : BitVec 32 := Scalar.muli v7 c1_i32_1600
  let v1109 : BitVec 32 := Scalar.addi c0_i32_1601 v1108
  v1109.toNat
def k0_dev37 (d2 : Dev nD) : Nat :=
  let c0_i32_1637 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1636 : BitVec 32 := 1#32
  let v1126 : BitVec 32 := Scalar.muli v9 c1_i32_1636
  let v1127 : BitVec 32 := Scalar.addi c0_i32_1637 v1126
  v1127.toNat
def k0_dev38 (d2 : Dev nD) : Nat :=
  let c0_i32_1673 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1672 : BitVec 32 := 1#32
  let v1144 : BitVec 32 := Scalar.muli v7 c1_i32_1672
  let v1145 : BitVec 32 := Scalar.addi c0_i32_1673 v1144
  v1145.toNat
def k0_dev39 (d2 : Dev nD) : Nat :=
  let c0_i32_1709 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1708 : BitVec 32 := 1#32
  let v1162 : BitVec 32 := Scalar.muli v9 c1_i32_1708
  let v1163 : BitVec 32 := Scalar.addi c0_i32_1709 v1162
  v1163.toNat
def k0_dev40 (d2 : Dev nD) : Nat :=
  let c0_i32_1745 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1744 : BitVec 32 := 1#32
  let v1180 : BitVec 32 := Scalar.muli v7 c1_i32_1744
  let v1181 : BitVec 32 := Scalar.addi c0_i32_1745 v1180
  v1181.toNat
def k0_dev41 (d2 : Dev nD) : Nat :=
  let c0_i32_1781 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1780 : BitVec 32 := 1#32
  let v1198 : BitVec 32 := Scalar.muli v9 c1_i32_1780
  let v1199 : BitVec 32 := Scalar.addi c0_i32_1781 v1198
  v1199.toNat
def k0_dev42 (d2 : Dev nD) : Nat :=
  let c0_i32_1817 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1816 : BitVec 32 := 1#32
  let v1216 : BitVec 32 := Scalar.muli v7 c1_i32_1816
  let v1217 : BitVec 32 := Scalar.addi c0_i32_1817 v1216
  v1217.toNat
def k0_dev43 (d2 : Dev nD) : Nat :=
  let c0_i32_1948 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_1947 : BitVec 32 := 1#32
  let v1322 : BitVec 32 := Scalar.muli v9 c1_i32_1947
  let v1323 : BitVec 32 := Scalar.addi c0_i32_1948 v1322
  v1323.toNat
def k0_dev44 (d2 : Dev nD) : Nat :=
  let c0_i32_1984 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_1983 : BitVec 32 := 1#32
  let v1340 : BitVec 32 := Scalar.muli v7 c1_i32_1983
  let v1341 : BitVec 32 := Scalar.addi c0_i32_1984 v1340
  v1341.toNat
def k0_dev45 (d2 : Dev nD) : Nat :=
  let c0_i32_2020 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_2019 : BitVec 32 := 1#32
  let v1358 : BitVec 32 := Scalar.muli v9 c1_i32_2019
  let v1359 : BitVec 32 := Scalar.addi c0_i32_2020 v1358
  v1359.toNat
def k0_dev46 (d2 : Dev nD) : Nat :=
  let c0_i32_2056 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_2055 : BitVec 32 := 1#32
  let v1376 : BitVec 32 := Scalar.muli v7 c1_i32_2055
  let v1377 : BitVec 32 := Scalar.addi c0_i32_2056 v1376
  v1377.toNat
def k0_dev47 (d2 : Dev nD) : Nat :=
  let c0_i32_2092 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_2091 : BitVec 32 := 1#32
  let v1394 : BitVec 32 := Scalar.muli v9 c1_i32_2091
  let v1395 : BitVec 32 := Scalar.addi c0_i32_2092 v1394
  v1395.toNat
def k0_dev48 (d2 : Dev nD) : Nat :=
  let c0_i32_2128 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_2127 : BitVec 32 := 1#32
  let v1412 : BitVec 32 := Scalar.muli v7 c1_i32_2127
  let v1413 : BitVec 32 := Scalar.addi c0_i32_2128 v1412
  v1413.toNat
def k0_dev49 (d2 : Dev nD) : Nat :=
  let c0_i32_2164 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c1_i32_3 : BitVec 32 := 1#32
  let v8 : BitVec 32 := Scalar.addi v4 c1_i32_3
  let c4_i32_4 : BitVec 32 := 4#32
  let v9 : BitVec 32 := Scalar.remsi v8 c4_i32_4
  let c1_i32_2163 : BitVec 32 := 1#32
  let v1430 : BitVec 32 := Scalar.muli v9 c1_i32_2163
  let v1431 : BitVec 32 := Scalar.addi c0_i32_2164 v1430
  v1431.toNat
def k0_dev50 (d2 : Dev nD) : Nat :=
  let c0_i32_2200 : BitVec 32 := 0#32
  let v2 : BitVec 32 := Dev.word d2
  let c1_i32 : BitVec 32 := 1#32
  let v3 : BitVec 32 := Scalar.divsi v2 c1_i32
  let c4_i32 : BitVec 32 := 4#32
  let v4 : BitVec 32 := Scalar.remsi v3 c4_i32
  let c4_i32_0 : BitVec 32 := 4#32
  let v5 : BitVec 32 := Scalar.addi v4 c4_i32_0
  let c1_i32_1 : BitVec 32 := 1#32
  let v6 : BitVec 32 := Scalar.subi v5 c1_i32_1
  let c4_i32_2 : BitVec 32 := 4#32
  let v7 : BitVec 32 := Scalar.remsi v6 c4_i32_2
  let c1_i32_2199 : BitVec 32 := 1#32
  let v1448 : BitVec 32 := Scalar.muli v7 c1_i32_2199
  let v1449 : BitVec 32 := Scalar.addi c0_i32_2200 v1448
  v1449.toNat
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S4x256x1024 : Shape := ⟨3, ![4, 256, 1024]⟩
abbrev S1024x4096 : Shape := ⟨2, ![1024, 4096]⟩
abbrev S4x1024x8x128 : Shape := ⟨4, ![4, 1024, 8, 128]⟩
abbrev S4096x1024 : Shape := ⟨2, ![4096, 1024]⟩
abbrev S4x256x4096 : Shape := ⟨3, ![4, 256, 4096]⟩
abbrev S4x256x32x128 : Shape := ⟨4, ![4, 256, 32, 128]⟩
abbrev S4x1024x8x4x128 : Shape := ⟨5, ![4, 1024, 8, 4, 128]⟩
abbrev S4x1024x32x128 : Shape := ⟨4, ![4, 1024, 32, 128]⟩
abbrev S4x32x256x1024 : Shape := ⟨4, ![4, 32, 256, 1024]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S4x256x32x1 : Shape := ⟨4, ![4, 256, 32, 1]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x4096, .bf16⟩
  | .hbm, ⟨2, _⟩ => ⟨S4x1024x8x128, .f32⟩
  | .hbm, ⟨3, _⟩ => ⟨S4x1024x8x128, .f32⟩
  | .hbm, ⟨4, _⟩ => ⟨S4096x1024, .bf16⟩
  | .hbm, ⟨5, _⟩ => ⟨S4x256x1024, .f32⟩
  | .hbm, ⟨6, _⟩ => ⟨S1024x4096, .f32⟩
  | .hbm, ⟨7, _⟩ => ⟨S4x256x4096, .f32⟩
  | .hbm, ⟨8, _⟩ => ⟨S4x256x32x128, .f32⟩
  | .hbm, ⟨9, _⟩ => ⟨S4x1024x8x4x128, .f32⟩
  | .hbm, ⟨10, _⟩ => ⟨S4x1024x32x128, .f32⟩
  | .hbm, ⟨11, _⟩ => ⟨S4x1024x8x4x128, .f32⟩
  | .hbm, ⟨12, _⟩ => ⟨S4x1024x32x128, .f32⟩
  | .hbm, ⟨13, _⟩ => ⟨S4x32x256x1024, .f32⟩
  | .hbm, ⟨14, _⟩ => ⟨S_, .f32⟩
  | .hbm, ⟨15, _⟩ => ⟨S_, .f32⟩
  | .hbm, ⟨16, _⟩ => ⟨S4x32x256x1024, .f32⟩
  | .hbm, ⟨17, _⟩ => ⟨S4x32x256x1024, .f32⟩
  | .hbm, ⟨18, _⟩ => ⟨S_, .f32⟩
  | .hbm, ⟨19, _⟩ => ⟨S4x32x256, .f32⟩
  | .hbm, ⟨20, _⟩ => ⟨S4x32x256x1, .f32⟩
  | .hbm, ⟨21, _⟩ => ⟨S4x32x256x1024, .f32⟩
  | .hbm, ⟨22, _⟩ => ⟨S4x32x256x1024, .f32⟩
  | .hbm, ⟨23, _⟩ => ⟨S4x32x256x1024, .f32⟩
  | .hbm, ⟨24, _⟩ => ⟨S_, .f32⟩
  | .hbm, ⟨25, _⟩ => ⟨S4x32x256, .f32⟩
  | .hbm, ⟨26, _⟩ => ⟨S4x32x256x1, .f32⟩
  | .hbm, ⟨27, _⟩ => ⟨S4x32x128x256, .f32⟩
  | .hbm, ⟨28, _⟩ => ⟨S4x256x32x128, .f32⟩
  | .hbm, ⟨29, _⟩ => ⟨S4x256x32x1, .f32⟩
  | .hbm, ⟨30, _⟩ => ⟨S4x256x32x128, .f32⟩
  | .hbm, ⟨31, _⟩ => ⟨S4x256x32x128, .f32⟩
  | .hbm, ⟨32, _⟩ => ⟨S1024x4096, .f32⟩
  | .hbm, ⟨33, _⟩ => ⟨S4096x1024, .f32⟩
  | .hbm, ⟨34, _⟩ => ⟨S1024x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.RingProg.lean ====
module

public import proofs.«01_k».proof.Proof.Gen.KernelIdeal.Frame

@[expose] public section

set_option maxRecDepth 16384

noncomputable section

/-! The ring part of the kernel body (its last grid point), written as loops over the directions `d`, the
sub-chunks `j` and the steps `s`, and proved equal to the printed statements. -/

namespace Cert.KernelIdeal.Ring

open Idealize.ShloMosaic Idealize.ShloMosaic.TcCoe
open Cert.KernelIdeal Cert.KernelIdeal.Gen
open Idealize.SL Idealize.SL.Sem

variable {F : FTy → Type} [FloatOps F]

/-! ### Offsets -/

/-- The word of direction `d`'s base row (0 or 512). -/
abbrev baseW (d : Fin 2) : BitVec 32 := BitVec.ofNat 32 (512 * d.val)
/-- The word of sub-chunk `j`'s row inside a chunk. -/
abbrev subW (j : Fin 4) : BitVec 32 := BitVec.ofNat 32 (32 * j.val)
/-- The word of the signed distance `k`: `k` in direction 0, `-k` in direction 1. -/
abbrev distW (d : Fin 2) (k : Nat) : BitVec 32 := match d with
  | 0 => BitVec.ofNat 32 k
  | 1 => BitVec.ofNat 32 ((4294967296 - k) % 4294967296)

/-- The rows of the partial-sum buffer the first copy of a lane sends. -/
abbrev offA (c : Dev nD) (d : Fin 2) (j : Fin 4) : Fin 2 → Nat := k0_off15 c (baseW d) (subW j)
/-- The rows of the chunk `k` steps upstream of device `c`. -/
abbrev offB (c : Dev nD) (d : Fin 2) (j : Fin 4) (k : Nat) : Fin 2 → Nat := k0_off16 c (baseW d) (distW d k) (subW j)
/-- The rows of the chunk one step downstream of device `c`. -/
abbrev offC (c : Dev nD) (d : Fin 2) (j : Fin 4) : Fin 2 → Nat := k0_off17 c (baseW d) (distW d 1) (subW j)

theorem offA_eq : ∀ (c : Dev nD) (d : Fin 2) (j : Fin 4), offA c d j = ![512 * d.val + 128 * (c.val % 4) + 32 * j.val, 0] := by decide +kernel
theorem offB_eq : ∀ (c : Dev nD) (d : Fin 2) (j : Fin 4) (k : Fin 4),
    offB c d j k.val = ![512 * d.val + 128 * ((c.val + (if d = 0 then 4 - k.val else k.val)) % 4) + 32 * j.val, 0] := by decide +kernel
theorem offC_eq : ∀ (c : Dev nD) (d : Fin 2) (j : Fin 4),
    offC c d j = ![512 * d.val + 128 * ((c.val + (if d = 0 then 1 else 3)) % 4) + 32 * j.val, 0] := by decide +kernel

theorem offA_inb : ∀ (c : Dev nD) (d : Fin 2) (j : Fin 4), ∀ a, offA c d j a + S32x1024.size a ≤ S1024x1024.size a := by decide +kernel
theorem offB_inb : ∀ (c : Dev nD) (d : Fin 2) (j : Fin 4) (k : Fin 4), ∀ a, offB c d j k.val a + S32x1024.size a ≤ S1024x1024.size a := by decide +kernel
theorem offC_inb : ∀ (c : Dev nD) (d : Fin 2) (j : Fin 4), ∀ a, offC c d j a + S32x1024.size a ≤ S1024x1024.size a := by decide +kernel
theorem offA_words : ∀ (c : Dev nD) (d : Fin 2) (j : Fin 4),
    (Rect.unit (s := S1024x1024) (offA c d j) S32x1024.size (offA_inb c d j)).WholeWords (EltTy.packing .bf16) := by decide +kernel
theorem cell_inb : ∀ (d : Fin 2) (j : Fin 4) (s : Fin 3), ∀ a, (![d.val, j.val, s.val, 0, 0] : Fin 5 → Nat) a + S1x1x1x32x1024.size a ≤ S2x4x3x32x1024.size a := by decide +kernel
theorem cell_words : ∀ (d : Fin 2) (j : Fin 4) (s : Fin 3),
    (Rect.unit (s := S2x4x3x32x1024) ![d.val, j.val, s.val, 0, 0] S1x1x1x32x1024.size (cell_inb d j s)).WholeWords (EltTy.packing .bf16) := by decide +kernel
theorem cell_packed : ∀ (d : Fin 2) (j : Fin 4) (s : Fin 3),
    (Rect.unit (s := S2x4x3x32x1024) ![d.val, j.val, s.val, 0, 0] S1x1x1x32x1024.size (cell_inb d j s)).PackedRows (EltTy.packing .bf16) := by decide +kernel
theorem sem_inb : ∀ (d : Fin 2) (j : Fin 4) (k : Fin 6), ∀ a, (![d.val, j.val, k.val] : Fin 3 → Nat) a + S1x1x1.size a ≤ S2x4x6.size a := by decide +kernel

/-- Rectangles of the partial-sum buffer and the result, and a lane's rectangle in a ring buffer. -/
abbrev rA (c : Dev nD) (d : Fin 2) (j : Fin 4) : Rect S1024x1024 := Rect.unit (s := S1024x1024) (offA c d j) S32x1024.size (offA_inb c d j)
abbrev rB (c : Dev nD) (d : Fin 2) (j : Fin 4) (k : Fin 4) : Rect S1024x1024 := Rect.unit (s := S1024x1024) (offB c d j k.val) S32x1024.size (offB_inb c d j k)
abbrev rC (c : Dev nD) (d : Fin 2) (j : Fin 4) : Rect S1024x1024 := Rect.unit (s := S1024x1024) (offC c d j) S32x1024.size (offC_inb c d j)
abbrev rP (d : Fin 2) (j : Fin 4) (s : Fin 3) : Rect S2x4x3x32x1024 := Rect.unit (s := S2x4x3x32x1024) ![d.val, j.val, s.val, 0, 0] S1x1x1x32x1024.size (cell_inb d j s)

/-! ### Memrefs and semaphores -/

abbrev pM : Memref sig .tc .vmem S1024x1024 .bf16 := Memref.whole cc0_scratch1
abbrev RM : Memref sig .tc .vmem S2x4x3x32x1024 .bf16 := Memref.whole cc0_scratch5
abbrev SM : Memref sig .tc .vmem S2x4x3x32x1024 .bf16 := Memref.whole cc0_scratch6
abbrev AM : Memref sig .tc .vmem S2x4x3x32x1024 .bf16 := Memref.whole cc0_scratch7

/-- The lane's rectangle of a ring buffer, as the copies name it. -/
abbrev pc (b : Memref sig .tc .vmem S2x4x3x32x1024 .bf16) (d : Fin 2) (j : Fin 4) (s : Fin 3) : Memref sig .tc .vmem S32x1024 .bf16 :=
  (b.slice (rP d j s) (fun _ => rfl)).squeeze S32x1024 squeezes_S1x1x1x32x1024_S32x1024
/-- The rows of the partial-sum buffer the first copy of a lane sends, as it names them. -/
abbrev pcP (c : Dev nD) (d : Fin 2) (j : Fin 4) : Memref sig .tc .vmem S32x1024 .bf16 := pM.slice (rA c d j) (fun _ => rfl)

abbrev semAt (a : DmaSems sig S2x4x6) (d : Fin 2) (j : Fin 4) (k : Fin 6) : DmaSem sig :=
  ((a.slice (Rect.unit (s := S2x4x6) ![d.val, j.val, k.val] S1x1x1.size (sem_inb d j k))).squeeze S_ squeezes_S1x1x1_S_).sem
/-- The send and the receive semaphore of lane `(d, j)`, copy `k` (0, 1, 2 the reduce steps, 3, 4, 5 the gather steps). -/
abbrev sS (d : Fin 2) (j : Fin 4) (k : Fin 6) : DmaSem sig := semAt cc0_scratch8 d j k
abbrev rS (d : Fin 2) (j : Fin 4) (k : Fin 6) : DmaSem sig := semAt cc0_scratch9 d j k

theorem pc_words (b : Memref sig .tc .vmem S2x4x3x32x1024 .bf16) (hb : b.IsWhole) (d : Fin 2) (j : Fin 4) (s : Fin 3) : (pc b d j s).view.WordExact :=
  (hb.wordExact_slice rfl _ (cell_words d j s)).reshape _ _
theorem pcP_words (c : Dev nD) (d : Fin 2) (j : Fin 4) : (pcP c d j).view.WordExact :=
  (Memref.isWhole_whole _).wordExact_slice rfl _ (offA_words c d j)

/-- The device a lane of direction `d` sends to: the right neighbour in direction 0, the left one in direction 1. -/
abbrev tgt (c : Dev nD) (d : Fin 2) : Dev nD := match d with
  | 0 => ⟨k0_dev3 c, by revert c; decide +kernel⟩
  | 1 => ⟨k0_dev4 c, by revert c; decide +kernel⟩

/-! ### The ring's operations -/

/-- The source and the destination of copy `k` of lane `(d, j)` of device `c`. -/
abbrev srcM (c : Dev nD) (d : Fin 2) (j : Fin 4) (k : Fin 6) : Memref sig .tc .vmem S32x1024 .bf16 := match k with
  | 0 => pcP c d j
  | 1 => pc SM d j 0
  | 2 => pc SM d j 1
  | 3 => pc SM d j 2
  | 4 => pc AM d j 0
  | 5 => pc AM d j 1
abbrev dstM (d : Fin 2) (j : Fin 4) (k : Fin 6) : Memref sig .tc .vmem S32x1024 .bf16 := match k with
  | 0 => pc RM d j 0
  | 1 => pc RM d j 1
  | 2 => pc RM d j 2
  | 3 => pc AM d j 0
  | 4 => pc AM d j 1
  | 5 => pc AM d j 2

theorem srcM_words (c : Dev nD) (d : Fin 2) (j : Fin 4) (k : Fin 6) : (srcM c d j k).view.WordExact := by
  match k with
  | 0 => exact pcP_words c d j
  | 1 => exact pc_words SM (Memref.isWhole_whole _) d j 0
  | 2 => exact pc_words SM (Memref.isWhole_whole _) d j 1
  | 3 => exact pc_words SM (Memref.isWhole_whole _) d j 2
  | 4 => exact pc_words AM (Memref.isWhole_whole _) d j 0
  | 5 => exact pc_words AM (Memref.isWhole_whole _) d j 1
theorem dstM_words (d : Fin 2) (j : Fin 4) (k : Fin 6) : (dstM d j k).view.WordExact := by
  match k with
  | 0 => exact pc_words RM (Memref.isWhole_whole _) d j 0
  | 1 => exact pc_words RM (Memref.isWhole_whole _) d j 1
  | 2 => exact pc_words RM (Memref.isWhole_whole _) d j 2
  | 3 => exact pc_words AM (Memref.isWhole_whole _) d j 0
  | 4 => exact pc_words AM (Memref.isWhole_whole _) d j 1
  | 5 => exact pc_words AM (Memref.isWhole_whole _) d j 2
theorem dstM_scr (d : Fin 2) (j : Fin 4) (k : Fin 6) : (dstM d j k).view.ref.isScScratch = false := by
  match k with
  | 0 => rfl
  | 1 => rfl
  | 2 => rfl
  | 3 => rfl
  | 4 => rfl
  | 5 => rfl

/-- Start copy `k` of lane `(d, j)`. -/
def send (c : Dev nD) (d : Fin 2) (j : Fin 4) (k : Fin 6) : Prog (TpuEff nD τ sig (Elt F) Λ₀ .tc) PUnit :=
  Prog.lift (.enqueueDma (srcM c d j k) (.remote (Dev.tc (tgt c d)) (dstM d j k) (.dma (sS d j k)) (dstM_scr d j k)) (.dma (rS d j k))
    (srcM_words c d j k) (dstM_words d j k) ⟨⟨rfl, Or.inl rfl⟩, trivial⟩)
/-- Wait for the arrival of copy `k` of lane `(d, j)`. -/
def waitR (c : Dev nD) (d : Fin 2) (j : Fin 4) (k : Fin 6) : Prog (TpuEff nD τ sig (Elt F) Λ₀ .tc) PUnit :=
  Prog.lift (.waitDma2 (rS d j k) (srcM c d j k) (dstM d j k) (srcM_words c d j k) (dstM_words d j k))
/-- Wait until copy `k` of lane `(d, j)` has left. -/
def waitS (c : Dev nD) (d : Fin 2) (j : Fin 4) (k : Fin 6) : Prog (TpuEff nD τ sig (Elt F) Λ₀ .tc) PUnit :=
  Prog.lift (.waitDma2 (sS d j k) (dstM d j k) (srcM c d j k) (dstM_words d j k) (srcM_words c d j k))

/-- The sum a reduce step stores: what arrived plus the device's own rows. -/
def addPay (r : Vec F S1x1x1x32x1024 .bf16) (p : Vec F S32x1024 .bf16) : Vec F S1x1x1x32x1024 .bf16 :=
  shapeCast S1x1x1x32x1024 (addf (shapeCast S32x1024 r shapeCasts_S1x1x1x32x1024_S32x1024) p) shapeCasts_S32x1024_S1x1x1x32x1024
/-- The f32 rows an arrived chunk gives the result. -/
def extPay (r : Vec F S1x1x1x32x1024 .bf16) : Vec F S32x1024 .f32 :=
  extf .f32 (shapeCast S32x1024 r shapeCasts_S1x1x1x32x1024_S32x1024) bitsLt_bf16_f32

/-- Reduce step `s` of lane `(d, j)`: the running sum. -/
def addStep (c : Dev nD) (d : Fin 2) (j : Fin 4) (s : Fin 3) : Prog (TpuEff nD τ sig (Elt F) Λ₀ .tc) PUnit := do
  let r : Vec F S1x1x1x32x1024 .bf16 ← Prog.lift (.load RM (rP d j s).toLoadRect (View.loadsAt_vmem h_S1x1x1x32x1024))
  let p : Vec F S32x1024 .bf16 ← Prog.lift (.load pM (rB c d j s.succ).toLoadRect (View.loadsAt_vmem h_S32x1024))
  let _ : Vec F S1x1x1x32x1024 .bf16 ← Prog.lift (.load SM (rP d j s).toLoadRect (View.loadsAt_vmem h_S1x1x1x32x1024))
  Prog.lift (.store SM (rP d j s) (addPay r p) Finset.univ (View.stores_vmem h_S1x1x1x32x1024 ((Memref.isWhole_whole _).storeExact_slice rfl _ (cell_packed d j s)) (fun _ => rfl)) (.inl rfl))

/-- The rows of the result a lane's chunk goes to, from ring buffer `b`'s slot `s`. -/
def outStep (o : Memref sig .tc .vmem S1024x1024 .f32) (b : Memref sig .tc .vmem S2x4x3x32x1024 .bf16) (d : Fin 2) (j : Fin 4) (s : Fin 3)
    (off : Fin 2 → Nat) (hoff : ∀ a, off a + S32x1024.size a ≤ S1024x1024.size a) : Prog (TpuEff nD τ sig (Elt F) Λ₀ .tc) PUnit := do
  let r : Vec F S1x1x1x32x1024 .bf16 ← Prog.lift (.load b (rP d j s).toLoadRect (View.loadsAt_vmem h_S1x1x1x32x1024))
  let _ : Vec F S32x1024 .f32 ← Prog.lift (.load o (Rect.unit (s := S1024x1024) off S32x1024.size hoff).toLoadRect (View.loadsAt_vmem h_S32x1024))
  Prog.lift (.store o (Rect.unit (s := S1024x1024) off S32x1024.size hoff) (extPay r) Finset.univ (View.stores_vmem_bits_univ h_S32x1024 rfl) (.inl rfl))

/-- The lanes in program order, and a loop over them. -/
abbrev lanes : List (Fin 2 × Fin 4) := [(0, 0), (1, 0), (0, 1), (1, 1), (0, 2), (1, 2), (0, 3), (1, 3)]
def forList {X : Type} (f : X → Prog (TpuEff nD τ sig (Elt F) Λ₀ .tc) PUnit) : List X → Prog (TpuEff nD τ sig (Elt F) Λ₀ .tc) PUnit
  | [] => pure ⟨⟩
  | x :: xs => f x >>= fun _ => forList f xs
abbrev forLanes (f : Fin 2 → Fin 4 → Prog (TpuEff nD τ sig (Elt F) Λ₀ .tc) PUnit) : Prog (TpuEff nD τ sig (Elt F) Λ₀ .tc) PUnit :=
  forList (fun l => f l.1 l.2) lanes

/-- A reduce step of one lane: the arrival, the sum, the next copy (none after the last step). -/
def rsStep (c : Dev nD) (s : Fin 3) (d : Fin 2) (j : Fin 4) : Prog (TpuEff nD τ sig (Elt F) Λ₀ .tc) PUnit := do
  waitR c d j (s.castLE (by decide))
  addStep c d j s
  match s with
  | 0 => send c d j 1
  | 1 => send c d j 2
  | 2 => pure ⟨⟩
/-- A gather step of one lane: the arrival, the next copy (none after the last step). -/
def agStep (c : Dev nD) (s : Fin 3) (d : Fin 2) (j : Fin 4) : Prog (TpuEff nD τ sig (Elt F) Λ₀ .tc) PUnit := do
  waitR c d j (s.natAdd 3)
  match s with
  | 0 => send c d j 4
  | 1 => send c d j 5
  | 2 => pure ⟨⟩

/-- The ring. -/
def ringProg (c : Dev nD) (o : Memref sig .tc .vmem S1024x1024 .f32) : Prog (TpuEff nD τ sig (Elt F) Λ₀ .tc) PUnit := do
  forLanes fun d j => send c d j 0
  forList (fun s => forLanes (rsStep c s)) [0, 1, 2]
  forLanes fun d j => send c d j 3
  forLanes fun d j => outStep o SM d j 2 (offC c d j) (offC_inb c d j)
  forList (fun s : Fin 3 => do
    forLanes (agStep c s)
    forLanes fun d j => outStep o AM d j s (offB c d j (s.castSucc).val) (offB_inb c d j s.castSucc)) [0, 1, 2]
  forList (fun k => forLanes fun d j => waitS c d j k) [0, 1, 2, 3, 4, 5]

end Cert.KernelIdeal.Ring

end
-- ==== Proof.Protocol.lean ====
module

public import proofs.«01_k».proof.Proof.RingProg
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

/-! The protocol of the ring: its semaphore cells, what each device's copies carry, who pays which cell with
what, and the order of the waits. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The resource algebra: the pipeline's part, the ring's rounds and the local copies' counters -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ### Devices and cells -/

/-- The device that sends to `c` in direction `d`. -/
abbrev src (c : Dev nD) (d : Fin 2) : Dev nD := tgt c (1 - d)
theorem tgt_src : ∀ (c : Dev nD) (d : Fin 2), tgt (src c d) d = c := by decide +kernel
theorem src_tgt : ∀ (c : Dev nD) (d : Fin 2), src (tgt c d) d = c := by decide +kernel

/-- The runtime's barrier semaphore. -/
abbrev barS : Sem sig := (SemArray.scalar (sig.barrier 0 rfl) : Sems sig S_).sem
/-- The ring's cells: the barrier, and a send cell (`false`) and a receive cell (`true`) for each lane's copy. -/
abbrev KI : Type := Option (Bool × Fin 2 × Fin 4 × Fin 6)
abbrev csem : KI → SemLoc sig
  | none => .reg barS
  | some (false, d, j, k) => .dma (sS d j k)
  | some (true, d, j, k) => .dma (rS d j k)
theorem dma_inj : ∀ (x y : Bool × Fin 2 × Fin 4 × Fin 6), csem (some x) = csem (some y) → x = y := by decide +kernel
theorem csem_inj : Function.Injective csem := by
  rintro (_ | x) (_ | y) h
  · rfl
  · obtain ⟨b, d, j, k⟩ := y; cases b <;> cases h
  · obtain ⟨b, d, j, k⟩ := x; cases b <;> cases h
  · rw [dma_inj x y h]
/-- Which of the ring's cells a semaphore is, if any. -/
def kOf (sm : SemLoc sig) : Option KI := open Classical in if h : ∃ k, csem k = sm then some h.choose else none
theorem kOf_csem (k : KI) : kOf (csem k) = some k := by
  have h : ∃ k', csem k' = csem k := ⟨k, rfl⟩
  unfold kOf; rw [dif_pos h]; exact congrArg some (csem_inj h.choose_spec)
theorem kOf_of_ne (sm : SemLoc sig) (h : ∀ k, csem k ≠ sm) : kOf sm = none := by
  unfold kOf; rw [dif_neg (by rintro ⟨k, hk⟩; exact h k hk)]

abbrev barCell (c : Dev nD) : GSem nD τ sig := ((c : Thread nD τ), .reg barS)
abbrev sendCell (c : Dev nD) (d : Fin 2) (j : Fin 4) (k : Fin 6) : GSem nD τ sig := ((c : Thread nD τ), .dma (sS d j k))
abbrev recvCell (c : Dev nD) (d : Fin 2) (j : Fin 4) (k : Fin 6) : GSem nD τ sig := ((c : Thread nD τ), .dma (rS d j k))
abbrev kcell (ck : Dev nD × KI) : GSem nD τ sig := ((ck.1 : Thread nD τ), csem ck.2)

/-- A copy's credit. -/
abbrev N : ℕ := (pc RM 0 0 0).view.dmaCredit
theorem N_pos : 0 < N := View.dmaCredit_pos _ (by decide)
theorem dst_amount (d : Fin 2) (j : Fin 4) (k : Fin 6) : (dstM d j k).view.dmaCredit = N := by
  match k with | 0 => rfl | 1 => rfl | 2 => rfl | 3 => rfl | 4 => rfl | 5 => rfl
theorem src_amount (c : Dev nD) (d : Fin 2) (j : Fin 4) (k : Fin 6) : (srcM c d j k).view.dmaCredit = N := by
  match k with | 0 => rfl | 1 => rfl | 2 => rfl | 3 => rfl | 4 => rfl | 5 => rfl

/-! ### What the copies carry -/

/-- Rows of a lane. -/
abbrev Rows (F : FTy → Type) : Type := Vec F S32x1024 .bf16

/-- Device `c`'s own rows `k` steps upstream. -/
def ownRows (P : Dev nD → Vec F S1024x1024 .bf16) (c : Dev nD) (d : Fin 2) (j : Fin 4) (k : Fin 4) : Rows F :=
  pM.view.readAt (Elt F) (rB c d j k).toLoadRect (P c)

/-- The partial sum lane `(d, j)` of device `c` sends as copy `n` (0, 1, 2, 3): its own rows first, then what
    arrived plus its own rows. -/
def partSum (P : Dev nD → Vec F S1024x1024 .bf16) (d : Fin 2) (j : Fin 4) : (n : ℕ) → Dev nD → Rows F
  | 0, c => (pcP c d j).view.read (Elt F) (P c)
  | n + 1, c => addf (partSum P d j n (src c d)) (ownRows P c d j (Fin.ofNat 4 (n + 1)))

/-- The finished rows lane `(d, j)` of device `c` passes on at gather step `n`. -/
def fin3 (P : Dev nD → Vec F S1024x1024 .bf16) (d : Fin 2) (j : Fin 4) : (n : ℕ) → Dev nD → Rows F
  | 0, c => partSum P d j 3 c
  | n + 1, c => fin3 P d j n (src c d)

/-- What copy `k` of lane `(d, j)` of device `c` carries. -/
def sent (P : Dev nD → Vec F S1024x1024 .bf16) (c : Dev nD) (d : Fin 2) (j : Fin 4) (k : Fin 6) : Rows F := match k with
  | 0 => partSum P d j 0 c
  | 1 => partSum P d j 1 c
  | 2 => partSum P d j 2 c
  | 3 => fin3 P d j 0 c
  | 4 => fin3 P d j 1 c
  | 5 => fin3 P d j 2 c

variable (P : Dev nD → Vec F S1024x1024 .bf16)

/-- A memref held at any contents. -/
def anyAt (c : Dev nD) (m : Memref sig .tc .vmem S32x1024 .bf16) : sProp 𝕄 := iprop(∃ X : Rows F, owns (c : Thread nD τ) m fullShare X)

/-! ### The schedule -/

/-- What the next device in direction `d` hands `c` at the barrier: its landing buffers of that direction. -/
def barPay (c : Dev nD) (d : Fin 2) : sProp 𝕄 :=
  bigSep (Finset.univ : Finset (Fin 4 × Fin 6)) fun x => anyAt (tgt c d) (dstM d x.1 x.2)
/-- What an arrival leaves: the landing buffer holding what was sent. -/
def recvPay (c : Dev nD) (d : Fin 2) (j : Fin 4) (k : Fin 6) : sProp 𝕄 := owns (c : Thread nD τ) (dstM d j k) fullShare (sent P (src c d) d j k)
/-- What a departure gives back: the half share of the source. -/
def sendPay (c : Dev nD) (d : Fin 2) (j : Fin 4) (k : Fin 6) : sProp 𝕄 := owns (c : Thread nD τ) (srcM c d j k) fullShare.right (sent P c d j k)

omit [FloatOps F] in
instance anyAt_storable (c : Dev nD) (m : Memref sig .tc .vmem S32x1024 .bf16) : BI.Storable (upEmb : UEmb _ 𝕄) (anyAt (F := F) c m) := by
  unfold anyAt owns; infer_instance
omit [FloatOps F] in
instance barPay_storable (c : Dev nD) (d : Fin 2) : BI.Storable (upEmb : UEmb _ 𝕄) (barPay (F := F) c d) := by unfold barPay; infer_instance
instance recvPay_storable (c : Dev nD) (d : Fin 2) (j : Fin 4) (k : Fin 6) : BI.Storable (upEmb : UEmb _ 𝕄) (recvPay P c d j k) := by
  unfold recvPay owns; infer_instance
instance sendPay_storable (c : Dev nD) (d : Fin 2) (j : Fin 4) (k : Fin 6) : BI.Storable (upEmb : UEmb _ 𝕄) (sendPay P c d j k) := by
  unfold sendPay owns; infer_instance

/-- The duties of a cell, the units of one and what it carries, by the cell's kind. -/
def kDuties : Option KI → Finset (Fin 2)
  | some none => Finset.univ
  | some (some _) => {0}
  | none => ∅
def kAmount : Option KI → ℕ
  | some none => 1
  | _ => N
def kPay (c : Dev nD) (x : Fin 2) : Option KI → sProp 𝕄
  | some none => barPay c x
  | some (some (false, d, j, k)) => sendPay P c d j k
  | some (some (true, d, j, k)) => recvPay P c d j k
  | none => iprop(emp)
instance kPay_storable (c : Dev nD) (x : Fin 2) (o : Option KI) : BI.Storable (upEmb : UEmb _ 𝕄) (kPay P c x o) := by
  match o with
  | some none => unfold kPay; infer_instance
  | some (some (false, d, j, k)) => unfold kPay; infer_instance
  | some (some (true, d, j, k)) => unfold kPay; infer_instance
  | none => unfold kPay; infer_instance

/-- One round: a barrier cell has two duties of one unit, a copy's cell one duty of the copy's credit. -/
def ringRd : Rounds.Schedule (GSem nD τ sig) (Fin 2) 𝕄 where
  duties g r := if r = 0 ∧ g.1.2 = .tc then kDuties (kOf g.2) else ∅
  unitless _ := False
  amount g _ _ := kAmount (kOf g.2)
  payload g _ x := kPay P g.1.1 x (kOf g.2)
  amount_pos g _ _ _ := by
    unfold kAmount; split
    · exact Nat.one_pos
    · exact N_pos

instance ringRd_payload_storable (g : GSem nD τ sig) (r : ℕ) (d : Fin 2) :
    BI.Storable (upEmb : UEmb _ 𝕄) ((ringRd P).payload g r d) := kPay_storable P g.1.1 d (kOf g.2)

theorem duties_k (c : Dev nD) (k : KI) : (ringRd P).duties (kcell (c, k)) 0 = kDuties (some k) := by
  dsimp only [ringRd]; rw [if_pos ⟨rfl, rfl⟩, kOf_csem]
theorem duties_later (g : GSem nD τ sig) : ∀ r, 1 ≤ r → (ringRd P).duties g r = ∅ :=
  fun r hr => by dsimp only [ringRd]; rw [if_neg fun h => by omega]
theorem amount_k (c : Dev nD) (k : KI) (r : ℕ) (x : Fin 2) : (ringRd P).amount (kcell (c, k)) r x = kAmount (some k) := by
  dsimp only [ringRd]; rw [kOf_csem]
theorem payload_k (c : Dev nD) (k : KI) (r : ℕ) (x : Fin 2) : (ringRd P).payload (kcell (c, k)) r x = kPay P c x (some k) := by
  dsimp only [ringRd]; rw [kOf_csem]
theorem expect_bar (c : Dev nD) : (ringRd P).expect (kcell (c, none)) 0 = 2 := by
  unfold Schedule.expect Schedule.amountOf
  rw [duties_k, Finset.sum_congr rfl fun d _ => amount_k P c none 0 d]; rfl
theorem expect_copy (c : Dev nD) (x) : (ringRd P).expect (kcell (c, some x)) 0 = N := by
  unfold Schedule.expect Schedule.amountOf
  rw [duties_k, Finset.sum_congr rfl fun d _ => amount_k P c (some x) 0 d]
  exact Finset.sum_singleton _ _
theorem rest_bar (c : Dev nD) : bigSep ((ringRd P).duties (kcell (c, none)) 0 \ ∅) (fun d => (ringRd P).payload (kcell (c, none)) 0 d)
    = iprop(barPay c 0 ∗ barPay c 1) := by
  rw [Finset.sdiff_empty, duties_k]
  show bigSep Finset.univ _ = _
  rw [bigSep_univ_eq_bigSepL [0, 1] (by decide) (by decide), bigSepL_cons_cons, bigSepL_singleton, payload_k, payload_k]
  rfl
theorem rest_copy (c : Dev nD) (x) : bigSep ((ringRd P).duties (kcell (c, some x)) 0 \ ∅) (fun d => (ringRd P).payload (kcell (c, some x)) 0 d)
    = kPay P c 0 (some (some x)) := by
  rw [Finset.sdiff_empty, duties_k]
  show bigSep {0} _ = _
  rw [bigSep_singleton, payload_k]

/-! ### Levels and what a device owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, the receive cells of copy `k` at `2 + k`, everything else at 0. -/
def kLv : Option KI → ℕ
  | some none => 1
  | some (some (true, _, _, k)) => 2 + k.val
  | _ => 0
def lv (g : GSem nD τ sig) (_ : Unit) : ℕ := kLv (kOf g.2)
theorem lv_k (c : Dev nD) (k : KI) : lv (kcell (c, k)) () = kLv (some k) := by unfold lv; rw [kOf_csem]

/-- What device `c` owes for copy `k` of the lanes `ls`. -/
def owedL (c : Dev nD) (k : Fin 6) (ls : List (Fin 2 × Fin 4)) : CellTallies nD τ sig Unit :=
  (ls.map fun l => tallyAt (recvCell (tgt c l.1) l.1 l.2 k) () N).sum
/-- What it owes for the copies from `k` on. -/
def owedK (c : Dev nD) (ks : List (Fin 6)) : CellTallies nD τ sig Unit := (ks.map fun k => owedL c k lanes).sum
theorem owedL_cons (c : Dev nD) (k : Fin 6) (l : Fin 2 × Fin 4) (ls) :
    owedL c k (l :: ls) = owedL c k ls + tallyAt (recvCell (tgt c l.1) l.1 l.2 k) () N := by
  unfold owedL; rw [List.map_cons, List.sum_cons, add_comm]
theorem owedL_nil (c : Dev nD) (k : Fin 6) : owedL c k [] = 0 := rfl
theorem owedK_cons (c : Dev nD) (k : Fin 6) (ks) : owedK c (k :: ks) = owedL c k lanes + owedK c ks := by
  unfold owedK; rw [List.map_cons, List.sum_cons]
theorem owedK_nil (c : Dev nD) : owedK c [] = 0 := rfl

/-- Everything owed lies on a TensorCore's cell above level `n`. -/
def Above (n : ℕ) (O : CellTallies nD τ sig Unit) : Prop := ∀ g u, 0 < O g u → u ∈ L g ∧ n < lv g u
theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally (n : ℕ) (c : Dev nD) (k : KI) (a : ℕ) (hn : n < kLv (some k)) : Above n (tallyAt (kcell (c, k)) () a) := fun g u hp => by
  rw [tallyAt_apply] at hp
  by_cases h : g = kcell (c, k) ∧ u = ()
  · obtain ⟨rfl, rfl⟩ := h
    exact ⟨by rw [L_tc]; exact Finset.mem_singleton_self _, by rw [lv_k]; exact hn⟩
  · rw [if_neg h] at hp; exact absurd hp (Nat.lt_irrefl 0)
theorem Above.owedL (n : ℕ) (c : Dev nD) (k : Fin 6) (hn : n < 2 + k.val) (ls) : Above n (owedL c k ls) := by
  induction ls with
  | nil => exact Above.zero n
  | cons l ls ih => rw [owedL_cons]; exact ih.add (Above.tally n _ (some (true, l.1, l.2, k)) _ hn)
theorem Above.owedK (n : ℕ) (c : Dev nD) (ks : List (Fin 6)) (hn : ∀ k ∈ ks, n < 2 + k.val) : Above n (owedK c ks) := by
  induction ks with
  | nil => exact Above.zero n
  | cons k ks ih =>
    rw [owedK_cons]
    exact (Above.owedL n c k (hn k (List.mem_cons_self ..)) lanes).add (ih fun k' hk' => hn k' (List.mem_cons_of_mem _ hk'))

/-- A wait on a cell no higher than `n` is in order while everything owed is above `n`. -/
theorem mayWait (n : ℕ) (c : Dev nD) (sm : SemLoc sig) (hs : kLv (kOf sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-- What device `c` owes at launch: all its copies' arrivals and one unit to each neighbour's barrier. -/
def O₀ (c : Dev nD) : CellTallies nD τ sig Unit :=
  (owedK c [0, 1, 2, 3, 4, 5] + tallyAt (barCell (tgt c 0)) () 1) + tallyAt (barCell (tgt c 1)) () 1
theorem Above.O₀ (c : Dev nD) : Above 0 (O₀ c) :=
  ((Above.owedK 0 c _ (fun k _ => by omega)).add (Above.tally 0 _ none _ (by decide))).add (Above.tally 0 _ none _ (by decide))

end Cert.KernelIdeal.Ring

end
-- ==== Proof.RingWp.lean ====
module

public import proofs.«01_k».proof.Proof.Protocol
public import Idealize.ShloMosaic.Lib.Pipeline.Value

@[expose] public section

set_option maxRecDepth 16384

noncomputable section

/-! One rule for each operation of the ring: a copy started, an arrival, a departure, a running sum, rows of the
result. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (P : Dev nD → Vec F S1024x1024 .bf16) (K : Dev nD × KI → ℕ)

/-- The facts that last: every cell's invariant, that its round 0 is reached, and the levels. -/
def recs : sProp 𝕄 :=
  iprop((bigSep Finset.univ fun ck => cellInv ER (ringRd P) (K ck) (kcell ck)) ∗ (bigSep Finset.univ fun ck => reached ER (kcell ck) 0) ∗ levAts L lv)
instance recs_persistent : BI.Persistent (recs P K) := by unfold recs; infer_instance
theorem recs_inv (c : Dev nD) (k : KI) : recs P K ⊢ cellInv ER (ringRd P) (K (c, k)) (kcell (c, k)) := by
  unfold recs; iintro ⟨H, -, -⟩
  iapply (show (bigSep Finset.univ (fun ck => cellInv ER (ringRd P) (K ck) (kcell ck)) : sProp 𝕄) ⊢ cellInv ER (ringRd P) (K (c, k)) (kcell (c, k)) from
    bigSep_elim (Finset.mem_univ (c, k))); iexact H
theorem recs_reached (c : Dev nD) (k : KI) : recs P K ⊢ reached ER (kcell (c, k)) 0 := by
  unfold recs; iintro ⟨-, H, -⟩
  iapply (show (bigSep Finset.univ (fun ck => reached ER (kcell ck) 0) : sProp 𝕄) ⊢ reached ER (kcell (c, k)) 0 from
    bigSep_elim (Finset.mem_univ (c, k))); iexact H
theorem recs_lev : recs P K ⊢ levAts L lv := by
  unfold recs; iintro ⟨-, -, H⟩; iexact H

/-- What a device still owes, whatever it has waited for. -/
def owesE (c : Dev nD) (O : CellTallies nD τ sig Unit) : sProp 𝕄 := iprop(∃ W, owes (c : Thread nD τ) O W)

set_option maxHeartbeats 1000000 in
/-- Starting copy `k` of lane `(d, j)`: the half share of its source and the peer's landing buffer go in. -/
theorem wp_send (c : Dev nD) (d : Fin 2) (j : Fin 4) (k : Fin 6) (R : CellTallies nD τ sig Unit) (ls : List (Fin 2 × Fin 4)) (Q : PUnit → sProp 𝕄) :
    iprop(recs P K ∗ owesE c (owedL c k ((d, j) :: ls) + R) ∗ dutyTok ER (sendCell c d j k) 0 0 ∗ dutyTok ER (recvCell (tgt c d) d j k) 0 0
        ∗ owns (c : Thread nD τ) (srcM c d j k) fullShare.right (sent P c d j k) ∗ anyAt (tgt c d) (dstM d j k))
      ⊢ iprop(((cred (tallyAt (sendCell c d j k) () N) ∗ owesE c (owedL c k ls + R)) -∗ Q ⟨⟩) -∗ WP c (send c d j k) Q) := by
  unfold owesE anyAt owns
  iintro ⟨#HR, ⟨%W, HO⟩, Ht, Ht', ⟨%fs, %hfs, Hs⟩, ⟨%X, %fd, %hfd, Hd⟩⟩ Hk
  unfold send Prog.lift
  iapply (Rounds.wp_send_pointsTo 𝒱₀ ER (ringRd P) (c : Thread nD τ) none (κ₁ := K (c, some (false, d, j, k))) (κ₂ := K (tgt c d, some (true, d, j, k)))
    (c' := (tgt c d : Thread nD τ)) (src := srcM c d j k) (dst := dstM d j k) (sS := SemLoc.dma (sS d j k)) (sem := SemLoc.dma (rS d j k)) (O₀ := owedL c k ((d, j) :: ls) + R)
    (r₁ := 0) (r₂ := 0) (d₁ := (0 : Fin 2)) (d₂ := (0 : Fin 2)) (fd := fd) (fs := fs) (q := fullShare.right)
    (by rw [duties_k P c (some (false, d, j, k))]; exact Finset.mem_singleton_self _) (by rw [duties_k P (tgt c d) (some (true, d, j, k))]; exact Finset.mem_singleton_self _)
    () () N (dst_amount d j k) (amount_k P c (some (false, d, j, k)) 0 0) (amount_k P (tgt c d) (some (true, d, j, k)) 0 0) (owedL c k ls + R)
    (by rw [owedL_cons, add_right_comm]) (W := W)
    (by
      rw [payload_k P c (some (false, d, j, k))]; show _ ⊢ sendPay P c d j k
      unfold sendPay owns; iintro H; iexists fs; isplitr; · ipureintro; exact hfs
      iexact H)
    (by
      rw [payload_k P (tgt c d) (some (true, d, j, k))]; show _ ⊢ recvPay P (tgt c d) d j k
      unfold recvPay owns; iintro H; iexists ((dstM d j k).view.write (Elt F) fd ((srcM c d j k).view.read (Elt F) fs) Finset.univ); isplitr
      · ipureintro; exact (View.read_write_univ fd _).trans (hfs.trans (by rw [src_tgt]))
      iexact H)) $$ [HO Ht Ht' Hs Hd]
  · isplitr; · iapply (recs_inv P K c (some (false, d, j, k))); iexact HR
    isplitr; · iapply (recs_inv P K (tgt c d) (some (true, d, j, k))); iexact HR
    isplitl [Hs]; · iexact Hs
    isplitl [Hd]; · iexact Hd
    isplitl [HO]; · iexact HO
    isplitl [Ht]; · iexact Ht
    isplitr; · iapply (recs_reached P K c (some (false, d, j, k))); iexact HR
    isplitl [Ht']; · iexact Ht'
    iapply (recs_reached P K (tgt c d) (some (true, d, j, k))); iexact HR
  iintro ⟨Hc, HO⟩
  rw [wp_ret]; imodintro
  iapply Hk
  isplitl [Hc]; · iexact Hc
  iexists W; iexact HO

/-- Waiting for an arrival: the landing buffer with what was sent. -/
theorem wp_waitR (c : Dev nD) (d : Fin 2) (j : Fin 4) (k : Fin 6) (O : CellTallies nD τ sig Unit) (hO : Above (2 + k.val) O) (Q : PUnit → sProp 𝕄) :
    iprop(recs P K ∗ owesE c O ∗ cred (tallyAt (recvCell c d j k) () N) ∗ atPos ER (recvCell c d j k) 0 ∅ 0)
      ⊢ iprop(((owesE c O ∗ atPos ER (recvCell c d j k) 1 ∅ 0 ∗ owns (c : Thread nD τ) (dstM d j k) fullShare (sent P (src c d) d j k)) -∗ Q ⟨⟩)
        -∗ WP c (waitR c d j k) Q) := by
  unfold owesE
  iintro ⟨#HR, ⟨%W, HO⟩, Hc, Hat⟩ Hk
  unfold waitR Prog.lift
  iapply (Rounds.wp_wait_rest_token 𝒱₀ ER (ringRd P) (c : Thread nD τ) none (κ := K (c, some (true, d, j, k)))
      (wpE_waitDma2_eq 𝒱₀ (c : Thread nD τ) none Set.univ) (Set.mem_univ _) () (O := O) (W := W) (R := 0) (m := 0) (T := ∅)
      (by rw [Nat.zero_add]; exact (dst_amount d j k).trans (expect_copy P c (true, d, j, k)).symm)) $$ [HO Hc Hat]
  · isplitr; · iapply (recs_inv P K c (some (true, d, j, k))); iexact HR
    isplitl [Hc]; · rw [dst_amount]; iexact Hc
    isplitl [HO]; · iexact HO
    isplitr
    · iapply (mayWait (2 + k.val) c (csem (some (true, d, j, k))) (by rw [kOf_csem]; exact le_refl _) O hO)
      iapply (recs_lev P K); iexact HR
    iexact Hat
  iintro ⟨HO, Hat, -, Hp⟩
  rw [wp_ret]; imodintro
  iapply Hk
  isplitl [HO]; · iexists _; iexact HO
  isplitl [Hat]; · iexact Hat
  ihave Hp' := (Entails.of_eq ((rest_copy P c (true, d, j, k)).trans (show kPay P c 0 (some (some (true, d, j, k))) = recvPay P c d j k from rfl))) $$ Hp
  unfold recvPay; iexact Hp'

/-- Waiting for a departure: the half share of the source comes back. -/
theorem wp_waitS (c : Dev nD) (d : Fin 2) (j : Fin 4) (k : Fin 6) (Q : PUnit → sProp 𝕄) :
    iprop(recs P K ∗ owesE c 0 ∗ cred (tallyAt (sendCell c d j k) () N) ∗ atPos ER (sendCell c d j k) 0 ∅ 0)
      ⊢ iprop(((owesE c 0 ∗ atPos ER (sendCell c d j k) 1 ∅ 0 ∗ owns (c : Thread nD τ) (srcM c d j k) fullShare.right (sent P c d j k)) -∗ Q ⟨⟩)
        -∗ WP c (waitS c d j k) Q) := by
  unfold owesE
  iintro ⟨#HR, ⟨%W, HO⟩, Hc, Hat⟩ Hk
  unfold waitS Prog.lift
  iapply (Rounds.wp_wait_rest_token 𝒱₀ ER (ringRd P) (c : Thread nD τ) none (κ := K (c, some (false, d, j, k)))
      (wpE_waitDma2_eq 𝒱₀ (c : Thread nD τ) none Set.univ) (Set.mem_univ _) () (O := 0) (W := W) (R := 0) (m := 0) (T := ∅)
      (by rw [Nat.zero_add]; exact (src_amount c d j k).trans (expect_copy P c (false, d, j, k)).symm)) $$ [HO Hc Hat]
  · isplitr; · iapply (recs_inv P K c (some (false, d, j, k))); iexact HR
    isplitl [Hc]; · rw [src_amount]; iexact Hc
    isplitl [HO]; · iexact HO
    isplitr; · rw [MayWait_zero]; iempintro
    iexact Hat
  iintro ⟨HO, Hat, -, Hp⟩
  rw [wp_ret]; imodintro
  iapply Hk
  isplitl [HO]; · iexists _; iexact HO
  isplitl [Hat]; · iexact Hat
  ihave Hp' := (Entails.of_eq ((rest_copy P c (false, d, j, k)).trans (show kPay P c 0 (some (some (false, d, j, k))) = sendPay P c d j k from rfl))) $$ Hp
  unfold sendPay; iexact Hp'

/-! ### Loads and stores of a lane's piece -/

theorem pc_set (b : Memref sig .tc .vmem S2x4x3x32x1024 .bf16) (d : Fin 2) (j : Fin 4) (s : Fin 3) :
    (pc b d j s).view.set = (b.view.slice (rP d j s)).set := View.set_reshape _ _

/-- Reading a piece's rectangle gives, as rows, what the piece holds. -/
theorem wp_loadPiece (b : Memref sig .tc .vmem S2x4x3x32x1024 .bf16) (c : Dev nD) (d : Fin 2) (j : Fin 4) (s : Fin 3) (q : PosShare TreeShare) (X : Rows F)
    (h : b.view.LoadsAt (rP d j s).toLoadRect) (Q : Vec F S1x1x1x32x1024 .bf16 → sProp 𝕄) :
    owns (c : Thread nD τ) (pc b d j s) q X
      ⊢ iprop((∀ r : Vec F S1x1x1x32x1024 .bf16, (⌜shapeCast S32x1024 r shapeCasts_S1x1x1x32x1024_S32x1024 = X⌝ ∗ owns (c : Thread nD τ) (pc b d j s) q X) -∗ Q r)
        -∗ WP c (Prog.lift (.load b (rP d j s).toLoadRect h)) Q) := by
  unfold owns
  iintro ⟨%f, %hf, H⟩ Hk
  unfold Prog.lift
  iapply (wp_load 𝒱₀ (c : Thread nD τ) none Set.univ (m := b) (S := (pc b d j s).view.set) (q := q) (f := f) (by rw [pc_set, View.set_slice]; exact Finset.Subset.refl _)) $$ H
  iintro H
  rw [wp_ret]; imodintro
  iapply Hk
  isplitr
  · ipureintro; exact hf
  iexists f; isplitr; · ipureintro; exact hf
  iexact H

/-- Storing to a piece's rectangle leaves the piece holding the rows stored. -/
theorem wp_storePiece (b : Memref sig .tc .vmem S2x4x3x32x1024 .bf16) (c : Dev nD) (d : Fin 2) (j : Fin 4) (s : Fin 3) (w : Vec F S1x1x1x32x1024 .bf16)
    {hx : (b.access (rP d j s)).Stores Finset.univ} {hm : (Finset.univ : Finset (rP d j s).shape.Idx) = Finset.univ ∨ ∀ a, (rP d j s).stride a = 1} (Q : PUnit → sProp 𝕄) :
    anyAt c (pc b d j s)
      ⊢ iprop((owns (c : Thread nD τ) (pc b d j s) fullShare (shapeCast S32x1024 w shapeCasts_S1x1x1x32x1024_S32x1024) -∗ Q ⟨⟩)
        -∗ WP c (Prog.lift (.store b (rP d j s) w Finset.univ hx hm)) Q) := by
  unfold anyAt owns
  iintro ⟨%X, %f, %hf, H⟩ Hk
  unfold Prog.lift
  iapply (wp_store 𝒱₀ (c : Thread nD τ) none Set.univ (m := b) (r := rP d j s) (Mk := Finset.univ) (S := (pc b d j s).view.set) (f := f) (by rw [pc_set]; exact Finset.Subset.refl _)) $$ H
  iintro H
  rw [wp_ret]; imodintro
  iapply Hk
  iexists _; isplitr
  · ipureintro
    show shapeCast S32x1024 ((b.access (rP d j s)).read (Elt F) ((b.access (rP d j s)).write (Elt F) f w Finset.univ)) shapeCasts_S1x1x1x32x1024_S32x1024 = _
    rw [View.read_write_univ]
  iexact H

/-- The left half of the partial-sum buffer, which the sums read. -/
def pLeft (c : Dev nD) : sProp 𝕄 := ((c : Thread nD τ).loc cc0_scratch1) ↦{fullShare.left} P c

theorem wp_addStep (c : Dev nD) (d : Fin 2) (j : Fin 4) (s : Fin 3) (X : Rows F) (Q : PUnit → sProp 𝕄) :
    iprop(owns (c : Thread nD τ) (pc RM d j s) fullShare X ∗ pLeft P c ∗ anyAt c (pc SM d j s))
      ⊢ iprop(((owns (c : Thread nD τ) (pc RM d j s) fullShare X ∗ pLeft P c ∗ owns (c : Thread nD τ) (pc SM d j s) fullShare (addf X (ownRows P c d j s.succ))) -∗ Q ⟨⟩)
        -∗ WP c (addStep c d j s) Q) := by
  iintro ⟨Hr, Hp, Hs⟩ Hk
  unfold addStep WP
  rw [wp_bind]
  iapply (wp_loadPiece RM c d j s fullShare X) $$ Hr
  iintro %r ⟨%hr, Hr⟩
  rw [wp_bind]
  unfold pLeft
  iapply (wp_load 𝒱₀ (c : Thread nD τ) none Set.univ (m := pM) (r := (rB c d j s.succ).toLoadRect) (Finset.subset_univ _)) $$ Hp
  iintro Hp
  rw [wp_ret]; imodintro
  rw [wp_bind]
  unfold anyAt
  icases Hs with ⟨%Y, Hs⟩
  iapply (wp_loadPiece SM c d j s fullShare Y) $$ Hs
  iintro %r' ⟨%hr', Hs⟩
  iapply (wp_storePiece SM c d j s) $$ [Hs]
  · unfold anyAt; iexists Y; iexact Hs
  iintro Hs
  iapply Hk
  isplitl [Hr]; · iexact Hr
  isplitl [Hp]; · iexact Hp
  rw [show shapeCast S32x1024 (addPay r (pM.view.readAt (Elt F) (rB c d j s.succ).toLoadRect (P c))) shapeCasts_S1x1x1x32x1024_S32x1024
    = addf X (ownRows P c d j s.succ) from by unfold addPay; rw [shapeCast_shapeCast, hr]; rfl]
  iexact Hs

/-! ### Rows of the result -/

abbrev oM : Memref sig .tc .vmem S1024x1024 .f32 := Memref.whole cc0_stg3_0
/-- The rows at `off` replaced. -/
def putRows (f : Vec F S1024x1024 .f32) (off : Fin 2 → ℕ) (hoff : ∀ a, off a + S32x1024.size a ≤ S1024x1024.size a) (X : Rows F) : Vec F S1024x1024 .f32 :=
  (oM.access (Rect.unit (s := S1024x1024) off S32x1024.size hoff)).write (Elt F) f (extf .f32 X bitsLt_bf16_f32) Finset.univ

theorem wp_outStep (b : Memref sig .tc .vmem S2x4x3x32x1024 .bf16) (c : Dev nD) (d : Fin 2) (j : Fin 4) (s : Fin 3) (q : PosShare TreeShare) (X : Rows F)
    (off : Fin 2 → ℕ) (hoff : ∀ a, off a + S32x1024.size a ≤ S1024x1024.size a) (f : Vec F S1024x1024 .f32) (Q : PUnit → sProp 𝕄) :
    iprop(owns (c : Thread nD τ) (pc b d j s) q X ∗ (((c : Thread nD τ).loc cc0_stg3_0) ↦{fullShare} f))
      ⊢ iprop(((owns (c : Thread nD τ) (pc b d j s) q X ∗ (((c : Thread nD τ).loc cc0_stg3_0) ↦{fullShare} putRows f off hoff X)) -∗ Q ⟨⟩)
        -∗ WP c (outStep oM b d j s off hoff) Q) := by
  iintro ⟨Hr, Ho⟩ Hk
  unfold outStep WP
  rw [wp_bind]
  iapply (wp_loadPiece b c d j s q X) $$ Hr
  iintro %r ⟨%hr, Hr⟩
  rw [wp_bind]
  unfold Prog.lift
  iapply (wp_load 𝒱₀ (c : Thread nD τ) none Set.univ (m := oM) (r := (Rect.unit (s := S1024x1024) off S32x1024.size hoff).toLoadRect) (Finset.subset_univ _)) $$ Ho
  iintro Ho
  rw [wp_ret]; imodintro
  iapply (wp_store 𝒱₀ (c : Thread nD τ) none Set.univ (m := oM) (r := Rect.unit (s := S1024x1024) off S32x1024.size hoff) (Mk := Finset.univ) (Finset.subset_univ _)) $$ Ho
  iintro Ho
  rw [wp_ret]; imodintro
  iapply Hk
  isplitl [Hr]; · iexact Hr
  unfold putRows
  rw [← hr]
  iexact Ho

end Cert.KernelIdeal.Ring

end
-- ==== Proof.OutRows.lean ====
module

public import proofs.«01_k».proof.Proof.RingWp

@[expose] public section

set_option maxRecDepth 16384

noncomputable section

/-! What the ring writes to the result: every block of 32 rows holds the sum its last device finished. -/

namespace Cert.KernelIdeal.Ring

open Cert.KernelIdeal Cert.KernelIdeal.Gen
open Idealize.ShloMosaic Idealize.ShloMosaic.TcCoe

variable {F : FTy → Type} [FloatOps F]
variable (P : Dev nD → Vec F S1024x1024 .bf16)

/-- Entry `(r, x)` of the finished block of direction `d`, chunk `q`, sub-chunk `j`. -/
def finEntry (d : Fin 2) (q : Dev nD) (j : Fin 4) (i : S32x1024.Idx) : Elt F .f32 :=
  extf .f32 (partSum P d j 3 (src q d)) bitsLt_bf16_f32 i

/-- The result, the same on every device. -/
def outFin : Vec F S1024x1024 .f32 := fun i =>
  finEntry P ⟨(i 0).val / 512, by have h : (i 0).val < 1024 := (i 0).isLt; omega⟩ ⟨(i 0).val % 512 / 128, by have h : (i 0).val < 1024 := (i 0).isLt; show _ < 4; omega⟩
    ⟨(i 0).val % 128 / 32, by omega⟩ (fun a => match a with | ⟨0, _⟩ => ⟨(i 0).val % 32, by show _ < 32; omega⟩ | ⟨1, _⟩ => i 1)

/-- Row `i` is one of the 32 from `off`. -/
def inRows (off : Fin 2 → ℕ) (i : S1024x1024.Idx) : Prop := off 0 ≤ (i 0).val ∧ (i 0).val < off 0 + 32

/-- The buffer holds the result outside the rows still to be written. -/
def Done (rem : List (Fin 2 → ℕ)) (f : Vec F S1024x1024 .f32) : Prop := ∀ i, (∀ off ∈ rem, ¬ inRows off i) → f i = outFin P i

/-- A block of the result read at its own place. -/
theorem outFin_block (d : Fin 2) (q : Dev nD) (j : Fin 4) (off : Fin 2 → ℕ) (h0 : off 0 = 512 * d.val + 128 * q.val + 32 * j.val) (h1 : off 1 = 0)
    (i : S1024x1024.Idx) (x : S32x1024.Idx) (hx0 : (i 0).val = off 0 + (x 0).val) (hx1 : (i 1).val = off 1 + (x 1).val) :
    outFin P i = extf .f32 (partSum P d j 3 (src q d)) bitsLt_bf16_f32 x := by
  unfold outFin
  have hx : (x 0).val < 32 := (x 0).isLt
  have hq : q.val < 4 := q.isLt
  have e1 : (⟨(i 0).val / 512, by have h : (i 0).val < 1024 := (i 0).isLt; omega⟩ : Fin 2) = d := Fin.ext (by show (i 0).val / 512 = d.val; omega)
  have e2 : (⟨(i 0).val % 512 / 128, by have h : (i 0).val < 1024 := (i 0).isLt; show _ < 4; omega⟩ : Dev nD) = q := Fin.ext (by show (i 0).val % 512 / 128 = q.val; omega)
  have e3 : (⟨(i 0).val % 128 / 32, by omega⟩ : Fin 4) = j := Fin.ext (by show (i 0).val % 128 / 32 = j.val; omega)
  rw [e1, e2, e3]
  show finEntry P d q j _ = finEntry P d q j x
  congr 1
  funext a
  match a with
  | ⟨0, _⟩ => exact Fin.ext (by show (i 0).val % 32 = (x 0).val; omega)
  | ⟨1, _⟩ => exact Fin.ext (by show (i 1).val = (x 1).val; omega)

/-- Writing a finished block leaves one block less to write. -/
theorem Done.put {rem : List (Fin 2 → ℕ)} {f : Vec F S1024x1024 .f32} (off : Fin 2 → ℕ) (hoff : ∀ a, off a + S32x1024.size a ≤ S1024x1024.size a)
    (hd : Done P (off :: rem) f) (d : Fin 2) (q : Dev nD) (j : Fin 4) (h0 : off 0 = 512 * d.val + 128 * q.val + 32 * j.val) (h1 : off 1 = 0)
    (X : Rows F) (hX : X = partSum P d j 3 (src q d)) : Done P rem (putRows f off hoff X) := by
  intro i hi
  subst hX
  unfold putRows
  by_cases h : inRows off i
  · obtain ⟨hl, hu⟩ := h
    have hi1 : (i 1).val < 1024 := (i 1).isLt
    let x : S32x1024.Idx := fun a => match a with
      | ⟨0, _⟩ => ⟨(i 0).val - off 0, by show _ < 32; omega⟩
      | ⟨1, _⟩ => i 1
    have hx : (oM.access (Rect.unit (s := S1024x1024) off S32x1024.size hoff)).emb x = i := by
      funext a
      match a with
      | ⟨0, _⟩ => exact Fin.ext (by show off 0 + 1 * ((i 0).val - off 0) = (i 0).val; omega)
      | ⟨1, _⟩ => exact Fin.ext (by show off 1 + 1 * (i 1).val = (i 1).val; omega)
    have hw := View.write_emb_of_mem (Val := Elt F) (v := oM.access (Rect.unit (s := S1024x1024) off S32x1024.size hoff)) f
      (extf .f32 (partSum P d j 3 (src q d)) bitsLt_bf16_f32) (Finset.mem_univ x)
    rw [hx] at hw
    refine hw.trans ?_
    rw [outFin_block P d q j off h0 h1 i x (by show (i 0).val = off 0 + ((i 0).val - off 0); omega) (by show (i 1).val = off 1 + (i 1).val; omega)]
    rfl
  · rw [View.write_of_not_mem]
    · exact hd i fun o ho => by
        rcases List.mem_cons.mp ho with rfl | ho
        · exact h
        · exact hi o ho
    · intro hm
      obtain ⟨x, -, rfl⟩ := Finset.mem_map.mp hm
      apply h
      have hx : (x 0).val < 32 := (x 0).isLt
      constructor
      · show off 0 ≤ off 0 + 1 * (x 0).val; omega
      · show off 0 + 1 * (x 0).val < off 0 + 32; omega

/-- The blocks in the order the ring writes them. -/
abbrev rem0 (c : Dev nD) : List (Fin 2 → ℕ) := lanes.map fun l => offC c l.1 l.2
abbrev rem1 (c : Dev nD) (s : Fin 3) : List (Fin 2 → ℕ) := lanes.map fun l => offB c l.1 l.2 s.castSucc.val

/-- Every row belongs to a block written. -/
theorem blocks_cover : ∀ (c : Dev nD) (b : Fin 32), ∃ off ∈ rem0 c ++ (rem1 c 0 ++ (rem1 c 1 ++ rem1 c 2)), off 0 = 32 * b.val := by decide +kernel

theorem Done.start (c : Dev nD) (f : Vec F S1024x1024 .f32) : Done P (rem0 c ++ (rem1 c 0 ++ (rem1 c 1 ++ rem1 c 2))) f := by
  intro i hi
  have h : (i 0).val < 1024 := (i 0).isLt
  obtain ⟨off, hm, h0⟩ := blocks_cover c ⟨(i 0).val / 32, by omega⟩
  refine absurd ?_ (hi off hm)
  change off 0 = 32 * ((i 0).val / 32) at h0
  unfold inRows; omega

theorem Done.finish {f : Vec F S1024x1024 .f32} (h : Done P [] f) : f = outFin P := funext fun i => h i fun _ ho => absurd ho (List.not_mem_nil)

/-- The chunk device `c` finishes, and the chunk it receives at gather step `s`. -/
abbrev qC (c : Dev nD) (d : Fin 2) : Dev nD := tgt c d
abbrev qB (c : Dev nD) (d : Fin 2) : ℕ → Dev nD | 0 => c | n + 1 => src (qB c d n) d
theorem offC_chunk : ∀ (c : Dev nD) (d : Fin 2) (j : Fin 4), offC c d j 0 = 512 * d.val + 128 * (qC c d).val + 32 * j.val ∧ offC c d j 1 = 0 := by decide +kernel
theorem offB_chunk : ∀ (c : Dev nD) (d : Fin 2) (j : Fin 4) (s : Fin 3),
    offB c d j s.castSucc.val 0 = 512 * d.val + 128 * (qB c d s.val).val + 32 * j.val ∧ offB c d j s.castSucc.val 1 = 0 := by decide +kernel

theorem qB_src (d : Fin 2) (c : Dev nD) : ∀ n : ℕ, qB (src c d) d n = qB c d (n + 1)
  | 0 => rfl
  | n + 1 => by show src (qB (src c d) d n) d = src (qB c d (n + 1)) d; rw [qB_src d c n]

theorem fin3_eq (d : Fin 2) (j : Fin 4) : ∀ (n : ℕ) (c : Dev nD), fin3 P d j n (src c d) = partSum P d j 3 (src (qB c d n) d)
  | 0, _ => rfl
  | n + 1, c => by
    show fin3 P d j n (src (src c d) d) = _
    rw [fin3_eq d j n (src c d)]
    rw [qB_src]

end Cert.KernelIdeal.Ring

end
-- ==== Proof.RingRun.lean ====
module

public import proofs.«01_k».proof.Proof.OutRows
public import Idealize.ShloMosaic.Lib.Pipeline.BigSepL
public import Idealize.ShloMosaic.Lib.MemrefSat

@[expose] public section

set_option maxRecDepth 16384

noncomputable section

/-! The whole ring: from the ghost state, the landing buffers of the neighbours and the device's partial sums to the
result and every buffer back. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ### A loop over the lanes -/

omit [FloatOps F] [Named F] in
theorem owns_split {c : Dev nD} {m : Memref sig .tc .vmem S32x1024 .bf16} {X : Rows F} :
    (owns (c : Thread nD τ) m fullShare X : sProp 𝕄) ⊢ iprop(owns (c : Thread nD τ) m fullShare.left X ∗ owns (c : Thread nD τ) m fullShare.right X) := (owns_halves _ _ _ _).1

omit [FloatOps F] [Named F] in
theorem overL_sep {X : Type} (A B : X → sProp 𝕄) : ∀ ls : List X, bigSepL ls (fun x => iprop(A x ∗ B x)) ⊣⊢ iprop(bigSepL ls A ∗ bigSepL ls B)
  | [] => ⟨by iintro -; isplitl []; (· iempintro); iempintro, by iintro -; iempintro⟩
  | x :: xs => by
    rw [bigSepL_cons', bigSepL_cons', bigSepL_cons']
    constructor
    · iintro ⟨⟨Ha, Hb⟩, H⟩
      ihave H' := (overL_sep A B xs).1 $$ H
      icases H' with ⟨HA, HB⟩
      isplitl [Ha HA]
      · isplitl [Ha]; · iexact Ha
        iexact HA
      isplitl [Hb]; · iexact Hb
      iexact HB
    · iintro ⟨⟨Ha, HA⟩, Hb, HB⟩
      isplitl [Ha Hb]
      · isplitl [Ha]; · iexact Ha
        iexact Hb
      iapply (overL_sep A B xs).2
      isplitl [HA]; · iexact HA
      iexact HB

/-- A loop whose every turn takes `Pre` of its item to `Post` of it, passing on a state of the items left. -/
theorem wp_forList (c : Dev nD) {X : Type} (f : X → Prog (TpuEff nD τ sig (Elt F) Λ₀ .tc) PUnit) (I : List X → sProp 𝕄) (Pre Post : X → sProp 𝕄)
    (h : ∀ x xs, iprop(I (x :: xs) ∗ Pre x) ⊢ WP c (f x) (fun _ => iprop(I xs ∗ Post x))) (xs : List X) (Q : PUnit → sProp 𝕄) :
    iprop(I xs ∗ bigSepL xs Pre) ⊢ iprop(((I [] ∗ bigSepL xs Post) -∗ Q ⟨⟩) -∗ WP c (forList f xs) Q) := by
  induction xs generalizing Q with
  | nil =>
    iintro ⟨HI, -⟩ Hk
    unfold forList WP
    rw [wp_pure]
    imodintro
    iapply Hk
    isplitl [HI]; · iexact HI
    iempintro
  | cons x xs ih =>
    rw [bigSepL_cons', bigSepL_cons']
    iintro ⟨HI, Hx, Hxs⟩ Hk
    unfold forList WP
    rw [wp_bind]
    ihave H := (h x xs) $$ [HI Hx]
    · isplitl [HI]; · iexact HI
      iexact Hx
    iapply (wp_wand _ _ _) $$ H
    iintro %u ⟨HI, Hx⟩
    iapply (ih Q) $$ [HI Hxs]
    · isplitl [HI]; · iexact HI
      iexact Hxs
    iintro ⟨HI, Hxs⟩
    iapply Hk
    isplitl [HI]; · iexact HI
    isplitl [Hx]; · iexact Hx
    iexact Hxs

variable (P : Dev nD → Vec F S1024x1024 .bf16) (K : Dev nD × KI → ℕ) (c : Dev nD)

/-! ### What a lane holds for copy `k` -/

/-- The right to send: both duty tokens and the peer's landing buffer. -/
def canSend (k : Fin 6) (l : Fin 2 × Fin 4) : sProp 𝕄 :=
  iprop(dutyTok ER (sendCell c l.1 l.2 k) 0 0 ∗ dutyTok ER (recvCell (tgt c l.1) l.1 l.2 k) 0 0 ∗ anyAt (tgt c l.1) (dstM l.1 l.2 k))
/-- The right to wait for the arrival. -/
def canRecv (k : Fin 6) (l : Fin 2 × Fin 4) : sProp 𝕄 :=
  iprop(cred (tallyAt (recvCell c l.1 l.2 k) () N) ∗ atPos ER (recvCell c l.1 l.2 k) 0 ∅ 0)
/-- Arrived. -/
def recvd (k : Fin 6) (l : Fin 2 × Fin 4) : sProp 𝕄 := atPos ER (recvCell c l.1 l.2 k) 1 ∅ 0
/-- Sent, the departure not waited for. -/
def flying (k : Fin 6) (l : Fin 2 × Fin 4) : sProp 𝕄 := cred (tallyAt (sendCell c l.1 l.2 k) () N)
def unsent (k : Fin 6) (l : Fin 2 × Fin 4) : sProp 𝕄 := atPos ER (sendCell c l.1 l.2 k) 0 ∅ 0
/-- Departed. -/
def left (k : Fin 6) (l : Fin 2 × Fin 4) : sProp 𝕄 := atPos ER (sendCell c l.1 l.2 k) 1 ∅ 0
/-- The source, and the landing buffer, of copy `k` with what it carries. -/
def srcAt (k : Fin 6) (q : PosShare TreeShare) (l : Fin 2 × Fin 4) : sProp 𝕄 := owns (c : Thread nD τ) (srcM c l.1 l.2 k) q (sent P c l.1 l.2 k)
def dstAt (k : Fin 6) (q : PosShare TreeShare) (l : Fin 2 × Fin 4) : sProp 𝕄 := owns (c : Thread nD τ) (dstM l.1 l.2 k) q (sent P (src c l.1) l.1 l.2 k)
/-- The running-sum buffer's slot `s`, at any contents. -/
def sumAny (s : Fin 3) (l : Fin 2 × Fin 4) : sProp 𝕄 := anyAt c (pc SM l.1 l.2 s)

/-- The state between two turns of a loop that sends copy `k`. -/
def sendI (k : Fin 6) (ks : List (Fin 6)) (xs : List (Fin 2 × Fin 4)) : sProp 𝕄 :=
  iprop(recs P K ∗ owesE c (owedL c k xs + owedK c ks) ∗ pLeft P c)

/-- A copy started in every lane. -/
theorem turn_send (k : Fin 6) (ks : List (Fin 6)) (x : Fin 2 × Fin 4) (xs : List (Fin 2 × Fin 4)) :
    iprop(sendI P K c k ks (x :: xs) ∗ canSend c k x ∗ srcAt P c k fullShare.right x)
      ⊢ WP c (send c x.1 x.2 k) (fun _ => iprop(sendI P K c k ks xs ∗ flying c k x)) := by
  unfold sendI canSend srcAt flying
  iintro ⟨⟨#HR, HO, Hp⟩, ⟨Ht, Ht', Hd⟩, Hs⟩
  iapply (wp_send P K c x.1 x.2 k (owedK c ks) xs) $$ [HO Ht Ht' Hd Hs]
  · isplitr; · iexact HR
    isplitl [HO]; · iexact HO
    isplitl [Ht]; · iexact Ht
    isplitl [Ht']; · iexact Ht'
    isplitl [Hs]; · iexact Hs
    iexact Hd
  iintro ⟨Hc, HO⟩
  isplitl [HO Hp]
  · isplitr; · iexact HR
    isplitl [HO]; · iexact HO
    iexact Hp
  iexact Hc

/-- A reduce step of a lane: the arrival and the sum. `k` is the copy that arrived, `k'` the one the sum is for. -/
theorem turn_sum (d : Fin 2) (j : Fin 4) (s : Fin 3) (k k' : Fin 6) (hk : k = s.castLE (by decide)) (hd : dstM d j k = pc RM d j s) (hs : srcM c d j k' = pc SM d j s)
    (hv : addf (sent P (src c d) d j k) (ownRows P c d j s.succ) = sent P c d j k')
    (O : CellTallies nD τ sig Unit) (hO : Above (2 + k.val) O) (Q : PUnit → sProp 𝕄) :
    iprop(recs P K ∗ owesE c O ∗ pLeft P c ∗ canRecv c k (d, j) ∗ sumAny c s (d, j))
      ⊢ iprop(((owesE c O ∗ pLeft P c ∗ recvd c k (d, j) ∗ dstAt P c k fullShare (d, j) ∗ srcAt P c k' fullShare (d, j)) -∗ Q ⟨⟩)
        -∗ WP c (waitR c d j (s.castLE (by decide)) >>= fun _ => addStep c d j s) Q) := by
  subst hk
  unfold canRecv sumAny recvd dstAt srcAt WP
  iintro ⟨#HR, HO, Hp, ⟨Hc, Hat⟩, Hs⟩ Hk
  rw [wp_bind]
  iapply (wp_waitR P K c d j _ O hO) $$ [HO Hc Hat]
  · isplitr; · iexact HR
    isplitl [HO]; · iexact HO
    isplitl [Hc]; · iexact Hc
    iexact Hat
  iintro ⟨HO, Hat, Hr⟩
  rw [hd, hs, ← hv]
  iapply (wp_addStep P c d j s (sent P (src c d) d j (s.castLE (by decide)))) $$ [Hr Hp Hs]
  · isplitl [Hr]; · iexact Hr
    isplitl [Hp]; · iexact Hp
    iexact Hs
  iintro ⟨Hr, Hp, Hs⟩
  iapply Hk
  isplitl [HO]; · iexact HO
  isplitl [Hp]; · iexact Hp
  isplitl [Hat]; · iexact Hat
  isplitl [Hr]; · iexact Hr
  iexact Hs

/-- Reduce step 0 or 1 of a lane: the sum goes on as the next copy. -/
theorem turn_rs (s : Fin 3) (k k' : Fin 6) (hk : k = s.castLE (by decide)) (hlt : k.val < k'.val) (ks : List (Fin 6)) (hks : ∀ i ∈ ks, k.val < i.val)
    (hd : ∀ d j, dstM d j k = pc RM d j s) (hs : ∀ d j, srcM c d j k' = pc SM d j s)
    (hv : ∀ d j, addf (sent P (src c d) d j k) (ownRows P c d j s.succ) = sent P c d j k')
    (hp : ∀ d j, rsStep (F := F) c s d j = (waitR c d j (s.castLE (by decide)) >>= fun _ => addStep c d j s) >>= fun _ => send c d j k')
    (x : Fin 2 × Fin 4) (xs : List (Fin 2 × Fin 4)) :
    iprop(sendI P K c k' ks (x :: xs) ∗ canRecv c k x ∗ sumAny c s x ∗ canSend c k' x)
      ⊢ WP c (rsStep c s x.1 x.2) (fun _ => iprop(sendI P K c k' ks xs ∗ recvd c k x ∗ dstAt P c k fullShare x ∗ srcAt P c k' fullShare.left x ∗ flying c k' x)) := by
  obtain ⟨d, j⟩ := x
  rw [hp]
  unfold sendI WP
  iintro ⟨⟨#HR, HO, Hp⟩, Hc, Hs, Hn⟩
  rw [wp_bind]
  iapply (turn_sum P K c d j s k k' hk (hd d j) (hs d j) (hv d j) _
    (Above.add (Above.owedL (2 + k.val) c k' (by omega) _) (Above.owedK (2 + k.val) c ks (fun i hi => by have := hks i hi; omega)))) $$ [HO Hp Hc Hs]
  · isplitr; · iexact HR
    isplitl [HO]; · iexact HO
    isplitl [Hp]; · iexact Hp
    isplitl [Hc]; · iexact Hc
    iexact Hs
  iintro ⟨HO, Hp, Hat, Hr, Hs⟩
  unfold srcAt
  ihave Hs' := owns_split $$ Hs
  icases Hs' with ⟨Hl, Hrt⟩
  ihave Hw := (turn_send P K c k' ks (d, j) xs) $$ [HO Hp Hn Hrt]
  · unfold sendI srcAt
    isplitl [HO Hp]
    · isplitr; · iexact HR
      isplitl [HO]; · iexact HO
      iexact Hp
    isplitl [Hn]; · iexact Hn
    iexact Hrt
  iapply (wp_wand _ _ _) $$ Hw
  iintro %u ⟨HI, Hf⟩
  unfold sendI
  isplitl [HI]; · iexact HI
  isplitl [Hat]; · iexact Hat
  isplitl [Hr]; · iexact Hr
  isplitl [Hl]; · iexact Hl
  iexact Hf

/-- The last reduce step of a lane. -/
theorem turn_rs2 (ks : List (Fin 6)) (hks : ∀ i ∈ ks, 2 < i.val) (x : Fin 2 × Fin 4) :
    iprop((recs P K ∗ owesE c (owedK c ks) ∗ pLeft P c) ∗ canRecv c 2 x ∗ sumAny c 2 x)
      ⊢ WP c (rsStep c 2 x.1 x.2) (fun _ => iprop((recs P K ∗ owesE c (owedK c ks) ∗ pLeft P c) ∗ recvd c 2 x ∗ dstAt P c 2 fullShare x ∗ srcAt P c 3 fullShare x)) := by
  obtain ⟨d, j⟩ := x
  rw [show rsStep (F := F) c 2 d j = (waitR c d j ((2 : Fin 3).castLE (by decide)) >>= fun _ => addStep c d j 2) from rfl]
  iintro ⟨⟨#HR, HO, Hp⟩, Hc, Hs⟩
  iapply (turn_sum P K c d j 2 2 3 rfl rfl rfl rfl _
    (Above.owedK (2 + (2 : Fin 6).val) c ks (fun i hi => by have := hks i hi; show 2 + 2 < 2 + i.val; omega))) $$ [HO Hp Hc Hs]
  · isplitr; · iexact HR
    isplitl [HO]; · iexact HO
    isplitl [Hp]; · iexact Hp
    isplitl [Hc]; · iexact Hc
    iexact Hs
  iintro ⟨HO, Hp, Hat, Hr, Hs⟩
  isplitl [HO Hp]
  · isplitr; · iexact HR
    isplitl [HO]; · iexact HO
    iexact Hp
  isplitl [Hat]; · iexact Hat
  isplitl [Hr]; · iexact Hr
  iexact Hs

/-- Gather step 0 or 1 of a lane: what arrived goes on. -/
theorem turn_ag (s : Fin 3) (k k' : Fin 6) (hk : k = s.natAdd 3) (hlt : k.val < k'.val) (ks : List (Fin 6)) (hks : ∀ i ∈ ks, k.val < i.val)
    (hd : ∀ d j, dstM d j k = srcM c d j k') (hv : ∀ d j, sent P (src c d) d j k = sent P c d j k')
    (hp : ∀ d j, agStep (F := F) c s d j = (waitR c d j k >>= fun _ => send c d j k'))
    (x : Fin 2 × Fin 4) (xs : List (Fin 2 × Fin 4)) :
    iprop(sendI P K c k' ks (x :: xs) ∗ canRecv c k x ∗ canSend c k' x)
      ⊢ WP c (agStep c s x.1 x.2) (fun _ => iprop(sendI P K c k' ks xs ∗ recvd c k x ∗ dstAt P c k fullShare.left x ∗ flying c k' x)) := by
  obtain ⟨d, j⟩ := x
  rw [hp]
  unfold sendI canRecv recvd WP
  iintro ⟨⟨#HR, HO, Hp⟩, ⟨Hc, Hat⟩, Hn⟩
  rw [wp_bind]
  iapply (wp_waitR P K c d j k _
    (Above.add (Above.owedL (2 + k.val) c k' (by omega) _) (Above.owedK (2 + k.val) c ks (fun i hi => by have := hks i hi; omega)))) $$ [HO Hc Hat]
  · isplitr; · iexact HR
    isplitl [HO]; · iexact HO
    isplitl [Hc]; · iexact Hc
    iexact Hat
  iintro ⟨HO, Hat, Hr⟩
  ihave Hr' := owns_split $$ Hr
  icases Hr' with ⟨Hl, Hrt⟩
  ihave Hw := (turn_send P K c k' ks (d, j) xs) $$ [HO Hp Hn Hrt]
  · unfold sendI srcAt
    isplitl [HO Hp]
    · isplitr; · iexact HR
      isplitl [HO]; · iexact HO
      iexact Hp
    isplitl [Hn]; · iexact Hn
    rw [← hd d j, ← hv d j]
    iexact Hrt
  iapply (wp_wand _ _ _) $$ Hw
  iintro %u ⟨HI, Hf⟩
  unfold sendI dstAt
  isplitl [HI]; · iexact HI
  isplitl [Hat]; · iexact Hat
  isplitl [Hl]; · iexact Hl
  iexact Hf

/-- The last gather step of a lane. -/
theorem turn_ag2 (x : Fin 2 × Fin 4) :
    iprop((recs P K ∗ owesE c 0) ∗ canRecv c 5 x)
      ⊢ WP c (agStep c 2 x.1 x.2) (fun _ => iprop((recs P K ∗ owesE c 0) ∗ recvd c 5 x ∗ dstAt P c 5 fullShare x)) := by
  obtain ⟨d, j⟩ := x
  rw [show agStep (F := F) c 2 d j = waitR c d j 5 from rfl]
  unfold canRecv recvd dstAt
  iintro ⟨⟨#HR, HO⟩, Hc, Hat⟩
  iapply (wp_waitR P K c d j 5 0 (Above.zero _)) $$ [HO Hc Hat]
  · isplitr; · iexact HR
    isplitl [HO]; · iexact HO
    isplitl [Hc]; · iexact Hc
    iexact Hat
  iintro ⟨HO, Hat, Hr⟩
  isplitl [HO]
  · isplitr; · iexact HR
    iexact HO
  isplitl [Hat]; · iexact Hat
  iexact Hr

/-- A departure of a lane. -/
theorem turn_left (k : Fin 6) (x : Fin 2 × Fin 4) :
    iprop((recs P K ∗ owesE c 0) ∗ flying c k x ∗ unsent c k x)
      ⊢ WP c (waitS c x.1 x.2 k) (fun _ => iprop((recs P K ∗ owesE c 0) ∗ left c k x ∗ srcAt P c k fullShare.right x)) := by
  unfold flying unsent left srcAt
  iintro ⟨⟨#HR, HO⟩, Hc, Hat⟩
  iapply (wp_waitS P K c x.1 x.2 k) $$ [HO Hc Hat]
  · isplitr; · iexact HR
    isplitl [HO]; · iexact HO
    isplitl [Hc]; · iexact Hc
    iexact Hat
  iintro ⟨HO, Hat, Hr⟩
  isplitl [HO]
  · isplitr; · iexact HR
    iexact HO
  isplitl [Hat]; · iexact Hat
  iexact Hr

/-- The result's buffer, the blocks `rem` still to be written. -/
def outI (rem : List (Fin 2 → ℕ)) : sProp 𝕄 := iprop(∃ f : Vec F S1024x1024 .f32, ⌜Done P rem f⌝ ∗ (((c : Thread nD τ).loc cc0_stg3_0) ↦{fullShare} f))

/-- A block of the result written from slot `s` of buffer `b`. -/
theorem turn_out (b : Memref sig .tc .vmem S2x4x3x32x1024 .bf16) (s : Fin 3) (off : Fin 2 × Fin 4 → Fin 2 → ℕ) (hoff : ∀ l, ∀ a, off l a + S32x1024.size a ≤ S1024x1024.size a)
    (q : PosShare TreeShare) (X : Fin 2 × Fin 4 → Rows F) (ch : Fin 2 → Dev nD) (hX : ∀ l, X l = partSum P l.1 l.2 3 (src (ch l.1) l.1))
    (h0 : ∀ l, off l 0 = 512 * l.1.val + 128 * (ch l.1).val + 32 * l.2.val ∧ off l 1 = 0) (rem : List (Fin 2 → ℕ)) (x : Fin 2 × Fin 4) (xs : List (Fin 2 × Fin 4)) :
    iprop(outI P c ((x :: xs).map off ++ rem) ∗ owns (c : Thread nD τ) (pc b x.1 x.2 s) q (X x))
      ⊢ WP c (outStep oM b x.1 x.2 s (off x) (hoff x)) (fun _ => iprop(outI P c (xs.map off ++ rem) ∗ owns (c : Thread nD τ) (pc b x.1 x.2 s) q (X x))) := by
  unfold outI
  iintro ⟨⟨%f, %hf, Ho⟩, Hr⟩
  iapply (wp_outStep b c x.1 x.2 s q (X x) (off x) (hoff x) f) $$ [Ho Hr]
  · isplitl [Hr]; · iexact Hr
    iexact Ho
  iintro ⟨Hr, Ho⟩
  isplitl [Ho]
  · iexists _
    isplitr
    · ipureintro
      exact Done.put P (off x) (hoff x) hf x.1 (ch x.1) x.2 (h0 x).1 (h0 x).2 (X x) (hX x)
    iexact Ho
  iexact Hr

end Cert.KernelIdeal.Ring

end
-- ==== Proof.RingSpec.lean ====
module

public import proofs.«01_k».proof.Proof.RingRun

@[expose] public section

set_option maxRecDepth 16384

noncomputable section

/-! The ring's loops one after the other: `ring_spec` takes a device's share of the protocol's state before the ring to
its share after it, the result being the sum of all the devices' partial sums. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c : Dev nD)

/-! ### Sequencing -/

theorem wp_then (p k : Prog (TpuEff nD τ sig (Elt F) Λ₀ .tc) PUnit) (Q : PUnit → sProp 𝕄) :
    WP c p (fun _ => WP c k Q) ⊢ WP c (p >>= fun _ => k) Q := by unfold WP; rw [wp_bind]
theorem wp_loop {X : Type} (f : X → Prog (TpuEff nD τ sig (Elt F) Λ₀ .tc) PUnit) (x : X) (xs : List X) (Q : PUnit → sProp 𝕄) :
    WP c (f x) (fun _ => WP c (forList f xs) Q) ⊢ WP c (forList f (x :: xs)) Q := wp_then c (f x) (forList f xs) Q
theorem wp_loopEnd {X : Type} (f : X → Prog (TpuEff nD τ sig (Elt F) Λ₀ .tc) PUnit) (Q : PUnit → sProp 𝕄) :
    Q ⟨⟩ ⊢ WP c (forList f []) Q := by unfold WP forList; rw [wp_pure]; iintro H; imodintro; iexact H

/-- Something held in every lane. -/
abbrev all (A : Fin 2 × Fin 4 → sProp 𝕄) : sProp 𝕄 := bigSepL lanes A

omit [FloatOps F] [Named F] in
theorem all2 (A B : Fin 2 × Fin 4 → sProp 𝕄) : iprop(all A ∗ all B) ⊢ all (fun l => iprop(A l ∗ B l)) := (overL_sep A B lanes).2
omit [FloatOps F] [Named F] in
theorem all3 (A B C : Fin 2 × Fin 4 → sProp 𝕄) : iprop(all A ∗ all B ∗ all C) ⊢ all (fun l => iprop(A l ∗ B l ∗ C l)) := by
  iintro ⟨HA, HB, HC⟩
  iapply (all2 A _)
  isplitl [HA]; · iexact HA
  iapply (all2 B C)
  isplitl [HB]; · iexact HB
  iexact HC
omit [FloatOps F] [Named F] in
theorem un2 (A B : Fin 2 × Fin 4 → sProp 𝕄) : all (fun l => iprop(A l ∗ B l)) ⊢ iprop(all A ∗ all B) := (overL_sep A B lanes).1
omit [FloatOps F] [Named F] in
theorem un3 (A B C : Fin 2 × Fin 4 → sProp 𝕄) : all (fun l => iprop(A l ∗ B l ∗ C l)) ⊢ iprop(all A ∗ all B ∗ all C) := by
  iintro H
  ihave H' := (un2 A _) $$ H
  icases H' with ⟨HA, H⟩
  isplitl [HA]; · iexact HA
  iapply (un2 B C)
  iexact H
omit [FloatOps F] [Named F] in
theorem un4 (A B C D : Fin 2 × Fin 4 → sProp 𝕄) : all (fun l => iprop(A l ∗ B l ∗ C l ∗ D l)) ⊢ iprop(all A ∗ all B ∗ all C ∗ all D) := by
  iintro H
  ihave H' := (un2 A _) $$ H
  icases H' with ⟨HA, H⟩
  isplitl [HA]; · iexact HA
  iapply (un3 B C D)
  iexact H

variable (P : Dev nD → Vec F S1024x1024 .bf16) (K : Dev nD × KI → ℕ)

/-- The state between two loops: the lasting facts, what is still owed, and the half of the partial sums kept for reading. -/
def St (ks : List (Fin 6)) : sProp 𝕄 := iprop(recs P K ∗ owesE c (owedK c ks) ∗ pLeft P c)
theorem St_send (k : Fin 6) (ks : List (Fin 6)) : St c P K (k :: ks) = sendI P K c k ks lanes := by unfold St sendI; rw [owedK_cons]
theorem St_sent (k : Fin 6) (ks : List (Fin 6)) : sendI P K c k ks [] = St c P K ks := by unfold St sendI; rw [owedL_nil, zero_add]

/-! ### The loops -/

/-- The first copy of a chain, in every lane. -/
theorem loop_send (k : Fin 6) (ks : List (Fin 6)) (Q : PUnit → sProp 𝕄) :
    iprop(St c P K (k :: ks) ∗ all (canSend c k) ∗ all (srcAt P c k fullShare.right))
      ⊢ iprop(((St c P K ks ∗ all (flying c k)) -∗ Q ⟨⟩) -∗ WP c (forLanes fun d j => send c d j k) Q) := by
  rw [St_send]
  iintro ⟨HI, Hs, Ho⟩ Hk
  ihave H := (all2 (canSend c k) (srcAt P c k fullShare.right)) $$ [Hs Ho]
  · isplitl [Hs]; · iexact Hs
    iexact Ho
  iapply (wp_forList c (fun l : Fin 2 × Fin 4 => send c l.1 l.2 k) (sendI P K c k ks) _ _ (turn_send P K c k ks) lanes Q) $$ [HI H]
  · isplitl [HI]; · iexact HI
    iexact H
  rw [St_sent]
  iexact Hk

/-- A reduce step that sends on, in every lane. -/
theorem loop_rs (s : Fin 3) (k k' : Fin 6) (hk : k = s.castLE (by decide)) (hlt : k.val < k'.val) (ks : List (Fin 6)) (hks : ∀ i ∈ ks, k.val < i.val)
    (hd : ∀ d j, dstM d j k = pc RM d j s) (hs : ∀ d j, srcM c d j k' = pc SM d j s)
    (hv : ∀ d j, addf (sent P (src c d) d j k) (ownRows P c d j s.succ) = sent P c d j k')
    (hp : ∀ d j, rsStep (F := F) c s d j = (waitR c d j (s.castLE (by decide)) >>= fun _ => addStep c d j s) >>= fun _ => send c d j k') (Q : PUnit → sProp 𝕄) :
    iprop(St c P K (k' :: ks) ∗ all (canRecv c k) ∗ all (sumAny c s) ∗ all (canSend c k'))
      ⊢ iprop(((St c P K ks ∗ all (recvd c k) ∗ all (dstAt P c k fullShare) ∗ all (srcAt P c k' fullShare.left) ∗ all (flying c k')) -∗ Q ⟨⟩)
        -∗ WP c (forLanes (rsStep c s)) Q) := by
  rw [St_send]
  iintro ⟨HI, Hr, Hs, Ho⟩ Hk
  ihave H := (all3 (canRecv c k) (sumAny c s) (canSend c k')) $$ [Hr Hs Ho]
  · isplitl [Hr]; · iexact Hr
    isplitl [Hs]; · iexact Hs
    iexact Ho
  iapply (wp_forList c (fun l : Fin 2 × Fin 4 => rsStep c s l.1 l.2) (sendI P K c k' ks) _ _ (turn_rs P K c s k k' hk hlt ks hks hd hs hv hp) lanes Q) $$ [HI H]
  · isplitl [HI]; · iexact HI
    iexact H
  rw [St_sent]
  iintro ⟨HI, H⟩
  iapply Hk
  isplitl [HI]; · iexact HI
  iapply (un4 _ _ _ _); iexact H

/-- The last reduce step, in every lane. -/
theorem loop_rs2 (ks : List (Fin 6)) (hks : ∀ i ∈ ks, 2 < i.val) (Q : PUnit → sProp 𝕄) :
    iprop(St c P K ks ∗ all (canRecv c 2) ∗ all (sumAny c 2))
      ⊢ iprop(((St c P K ks ∗ all (recvd c 2) ∗ all (dstAt P c 2 fullShare) ∗ all (srcAt P c 3 fullShare)) -∗ Q ⟨⟩) -∗ WP c (forLanes (rsStep c 2)) Q) := by
  iintro ⟨HI, Hr, Hs⟩ Hk
  ihave H := (all2 (canRecv c 2) (sumAny c 2)) $$ [Hr Hs]
  · isplitl [Hr]; · iexact Hr
    iexact Hs
  iapply (wp_forList c (fun l : Fin 2 × Fin 4 => rsStep c 2 l.1 l.2) (fun _ => St c P K ks) _ _ (fun x _ => turn_rs2 P K c ks hks x) lanes Q) $$ [HI H]
  · isplitl [HI]; · iexact HI
    iexact H
  iintro ⟨HI, H⟩
  iapply Hk
  isplitl [HI]; · iexact HI
  iapply (un3 _ _ _); iexact H

/-- A gather step that sends on, in every lane. -/
theorem loop_ag (s : Fin 3) (k k' : Fin 6) (hk : k = s.natAdd 3) (hlt : k.val < k'.val) (ks : List (Fin 6)) (hks : ∀ i ∈ ks, k.val < i.val)
    (hd : ∀ d j, dstM d j k = srcM c d j k') (hv : ∀ d j, sent P (src c d) d j k = sent P c d j k')
    (hp : ∀ d j, agStep (F := F) c s d j = (waitR c d j k >>= fun _ => send c d j k')) (Q : PUnit → sProp 𝕄) :
    iprop(St c P K (k' :: ks) ∗ all (canRecv c k) ∗ all (canSend c k'))
      ⊢ iprop(((St c P K ks ∗ all (recvd c k) ∗ all (dstAt P c k fullShare.left) ∗ all (flying c k')) -∗ Q ⟨⟩) -∗ WP c (forLanes (agStep c s)) Q) := by
  rw [St_send]
  iintro ⟨HI, Hr, Ho⟩ Hk
  ihave H := (all2 (canRecv c k) (canSend c k')) $$ [Hr Ho]
  · isplitl [Hr]; · iexact Hr
    iexact Ho
  iapply (wp_forList c (fun l : Fin 2 × Fin 4 => agStep c s l.1 l.2) (sendI P K c k' ks) _ _ (turn_ag P K c s k k' hk hlt ks hks hd hv hp) lanes Q) $$ [HI H]
  · isplitl [HI]; · iexact HI
    iexact H
  rw [St_sent]
  iintro ⟨HI, H⟩
  iapply Hk
  isplitl [HI]; · iexact HI
  iapply (un3 _ _ _); iexact H

/-- The last gather step, in every lane. -/
theorem loop_ag2 (Q : PUnit → sProp 𝕄) :
    iprop((recs P K ∗ owesE c 0) ∗ all (canRecv c 5))
      ⊢ iprop((((recs P K ∗ owesE c 0) ∗ all (recvd c 5) ∗ all (dstAt P c 5 fullShare)) -∗ Q ⟨⟩) -∗ WP c (forLanes (agStep c 2)) Q) := by
  iintro ⟨HI, Hr⟩ Hk
  iapply (wp_forList c (fun l : Fin 2 × Fin 4 => agStep c 2 l.1 l.2) (fun _ => iprop(recs P K ∗ owesE c 0)) _ _ (fun x _ => turn_ag2 P K c x) lanes Q) $$ [HI Hr]
  · isplitl [HI]; · iexact HI
    iexact Hr
  iintro ⟨HI, H⟩
  iapply Hk
  isplitl [HI]; · iexact HI
  iapply (un2 _ _); iexact H

/-- The departures of copy `k`, in every lane. -/
theorem loop_left (k : Fin 6) (Q : PUnit → sProp 𝕄) :
    iprop((recs P K ∗ owesE c 0) ∗ all (flying c k) ∗ all (unsent c k))
      ⊢ iprop((((recs P K ∗ owesE c 0) ∗ all (left c k) ∗ all (srcAt P c k fullShare.right)) -∗ Q ⟨⟩) -∗ WP c (forLanes fun d j => waitS c d j k) Q) := by
  iintro ⟨HI, Hr, Hs⟩ Hk
  ihave H := (all2 (flying c k) (unsent c k)) $$ [Hr Hs]
  · isplitl [Hr]; · iexact Hr
    iexact Hs
  iapply (wp_forList c (fun l : Fin 2 × Fin 4 => waitS c l.1 l.2 k) (fun _ => iprop(recs P K ∗ owesE c 0)) _ _ (fun x _ => turn_left P K c k x) lanes Q) $$ [HI H]
  · isplitl [HI]; · iexact HI
    iexact H
  iintro ⟨HI, H⟩
  iapply Hk
  isplitl [HI]; · iexact HI
  iapply (un2 _ _); iexact H

/-- The blocks of the result a device finishes itself. -/
theorem loop_outC (rem : List (Fin 2 → ℕ)) (Q : PUnit → sProp 𝕄) :
    iprop(outI P c (rem0 c ++ rem) ∗ all (srcAt P c 3 fullShare.left))
      ⊢ iprop(((outI P c rem ∗ all (srcAt P c 3 fullShare.left)) -∗ Q ⟨⟩) -∗ WP c (forLanes fun d j => outStep oM SM d j 2 (offC c d j) (offC_inb c d j)) Q) :=
  wp_forList c (fun l : Fin 2 × Fin 4 => outStep oM SM l.1 l.2 2 (offC c l.1 l.2) (offC_inb c l.1 l.2))
    (fun xs => outI P c (xs.map (fun l => offC c l.1 l.2) ++ rem)) _ _
    (fun x xs => turn_out P c SM 2 (fun l => offC c l.1 l.2) (fun l => offC_inb c l.1 l.2) fullShare.left (fun l => sent P c l.1 l.2 3) (fun d => qC c d)
      (fun l => by show partSum P l.1 l.2 3 c = _; rw [src_tgt]) (fun l => offC_chunk c l.1 l.2) rem x xs) lanes Q

/-- The blocks of the result that arrive at gather step `s`. -/
theorem loop_outB (s : Fin 3) (k : Fin 6) (hk : ∀ d j, dstM d j k = pc AM d j s) (hv : ∀ d j, sent P (src c d) d j k = fin3 P d j s.val (src c d))
    (q : PosShare TreeShare) (rem : List (Fin 2 → ℕ)) (Q : PUnit → sProp 𝕄) :
    iprop(outI P c (rem1 c s ++ rem) ∗ all (dstAt P c k q))
      ⊢ iprop(((outI P c rem ∗ all (dstAt P c k q)) -∗ Q ⟨⟩)
        -∗ WP c (forLanes fun d j => outStep oM AM d j s (offB c d j (s.castSucc).val) (offB_inb c d j s.castSucc)) Q) := by
  rw [show dstAt P c k q = fun l : Fin 2 × Fin 4 => owns (c : Thread nD τ) (pc AM l.1 l.2 s) q (fin3 P l.1 l.2 s.val (src c l.1)) from
    funext fun l => by unfold dstAt; rw [hk, hv]]
  exact wp_forList c (fun l : Fin 2 × Fin 4 => outStep oM AM l.1 l.2 s (offB c l.1 l.2 s.castSucc.val) (offB_inb c l.1 l.2 s.castSucc))
    (fun xs => outI P c (xs.map (fun l => offB c l.1 l.2 s.castSucc.val) ++ rem)) _ _
    (fun x xs => turn_out P c AM s (fun l => offB c l.1 l.2 s.castSucc.val) (fun l => offB_inb c l.1 l.2 s.castSucc) q (fun l => fin3 P l.1 l.2 s.val (src c l.1)) (fun d => qB c d s.val)
      (fun l => fin3_eq P l.1 l.2 s.val c) (fun l => offB_chunk c l.1 l.2 s) rem x xs) lanes Q

/-! ### The whole ring -/

/-- Something held for each of the six copies of every lane. -/
def six (A : Fin 6 → Fin 2 × Fin 4 → sProp 𝕄) : sProp 𝕄 := bigSepL [0, 1, 2, 3, 4, 5] fun k => all (A k)
omit [FloatOps F] [Named F] in
theorem six_out (A : Fin 6 → Fin 2 × Fin 4 → sProp 𝕄) : six A ⊢ iprop(all (A 0) ∗ all (A 1) ∗ all (A 2) ∗ all (A 3) ∗ all (A 4) ∗ all (A 5)) := by
  unfold six
  simp only [bigSepL_cons']
  iintro ⟨H0, H1, H2, H3, H4, H5, -⟩
  isplitl [H0]; · iexact H0
  isplitl [H1]; · iexact H1
  isplitl [H2]; · iexact H2
  isplitl [H3]; · iexact H3
  isplitl [H4]; · iexact H4
  iexact H5
omit [FloatOps F] [Named F] in
theorem six_in (A : Fin 6 → Fin 2 × Fin 4 → sProp 𝕄) : iprop(all (A 0) ∗ all (A 1) ∗ all (A 2) ∗ all (A 3) ∗ all (A 4) ∗ all (A 5)) ⊢ six A := by
  unfold six
  simp only [bigSepL_cons']
  iintro ⟨H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iempintro

/-- The result's buffer at any contents. -/
def outAny : sProp 𝕄 := iprop(∃ f : Vec F S1024x1024 .f32, ((c : Thread nD τ).loc cc0_stg3_0) ↦{fullShare} f)
/-- A device's share of the ring's state before the ring, the partial sums and the result's buffer apart, -/
def ringIn : sProp 𝕄 :=
  iprop(six (canSend c) ∗ six (canRecv c) ∗ six (unsent c) ∗ all (sumAny c 0) ∗ all (sumAny c 1) ∗ all (sumAny c 2))
/-- and after it. -/
def ringOut : sProp 𝕄 :=
  iprop(six (recvd c) ∗ six (left c) ∗ all (dstAt P c 0 fullShare) ∗ all (dstAt P c 1 fullShare) ∗ all (dstAt P c 2 fullShare)
    ∗ all (srcAt P c 1 fullShare) ∗ all (srcAt P c 2 fullShare) ∗ all (srcAt P c 3 fullShare)
    ∗ all (dstAt P c 3 fullShare) ∗ all (dstAt P c 4 fullShare) ∗ all (dstAt P c 5 fullShare))

/-- The two halves of a lane's source come together. -/
theorem src_join (k : Fin 6) : iprop(all (srcAt P c k fullShare.left) ∗ all (srcAt P c k fullShare.right)) ⊢ all (srcAt P c k fullShare) :=
  (all2 _ _).trans (bigSepL_mono fun l _ => by unfold srcAt; exact (owns_halves _ _ _ _).2)
theorem dst_join (k : Fin 6) (k' : Fin 6) (hd : ∀ d j, dstM d j k = srcM c d j k') (hv : ∀ d j, sent P (src c d) d j k = sent P c d j k') :
    iprop(all (dstAt P c k fullShare.left) ∗ all (srcAt P c k' fullShare.right)) ⊢ all (dstAt P c k fullShare) :=
  (all2 _ _).trans (bigSepL_mono fun l _ => by unfold srcAt dstAt; rw [hd, hv]; exact (owns_halves _ _ _ _).2)

/-- **The ring.** From the partial sums `P` of every device, each device's result is `outFin P`: the sum over the
    devices. -/
theorem ring_spec (Q : PUnit → sProp 𝕄) :
    iprop(St c P K [0, 1, 2, 3, 4, 5] ∗ all (srcAt P c 0 fullShare.right) ∗ ringIn c ∗ outAny c)
      ⊢ iprop(((owesE c 0 ∗ pLeft P c ∗ all (srcAt P c 0 fullShare.right) ∗ ringOut c P ∗ (((c : Thread nD τ).loc cc0_stg3_0) ↦{fullShare} outFin P)) -∗ Q ⟨⟩)
        -∗ WP c (ringProg c oM) Q) := by
  unfold ringIn ringProg outAny
  iintro ⟨HI, Hsrc, ⟨HS, HR, HU, Ha0, Ha1, Ha2⟩, ⟨%f, Ho⟩⟩ Hk
  ihave HS := (six_out (canSend c)) $$ HS
  icases HS with ⟨HS0, HS1, HS2, HS3, HS4, HS5⟩
  ihave HR := (six_out (canRecv c)) $$ HR
  icases HR with ⟨HR0, HR1, HR2, HR3, HR4, HR5⟩
  ihave HU := (six_out (unsent c)) $$ HU
  icases HU with ⟨HU0, HU1, HU2, HU3, HU4, HU5⟩
  -- the first copies
  iapply (wp_then c _ _ Q)
  iapply (loop_send c P K 0 [1, 2, 3, 4, 5]) $$ [HI HS0 Hsrc]
  · isplitl [HI]; · iexact HI
    isplitl [HS0]; · iexact HS0
    iexact Hsrc
  iintro ⟨HI, HF0⟩
  -- the reduce steps
  iapply (wp_then c _ _ Q)
  iapply (wp_loop c _ _ _ _)
  iapply (loop_rs c P K 0 0 1 rfl (by decide) [2, 3, 4, 5] (by decide) (fun _ _ => rfl) (fun _ _ => rfl) (fun _ _ => rfl) (fun _ _ => rfl)) $$ [HI HR0 Ha0 HS1]
  · isplitl [HI]; · iexact HI
    isplitl [HR0]; · iexact HR0
    isplitl [Ha0]; · iexact Ha0
    iexact HS1
  iintro ⟨HI, HD0, Hr0, Hs1, HF1⟩
  iapply (wp_loop c _ _ _ _)
  iapply (loop_rs c P K 1 1 2 rfl (by decide) [3, 4, 5] (by decide) (fun _ _ => rfl) (fun _ _ => rfl) (fun _ _ => rfl) (fun _ _ => rfl)) $$ [HI HR1 Ha1 HS2]
  · isplitl [HI]; · iexact HI
    isplitl [HR1]; · iexact HR1
    isplitl [Ha1]; · iexact Ha1
    iexact HS2
  iintro ⟨HI, HD1, Hr1, Hs2, HF2⟩
  iapply (wp_loop c _ _ _ _)
  iapply (loop_rs2 c P K [3, 4, 5] (by decide)) $$ [HI HR2 Ha2]
  · isplitl [HI]; · iexact HI
    isplitl [HR2]; · iexact HR2
    iexact Ha2
  iintro ⟨HI, HD2, Hr2, Hs3⟩
  iapply (wp_loopEnd c _ _)
  -- the finished chunk goes out, and into the result
  ihave Hs3 := (un2 _ _) $$ [Hs3]
  · iapply (show all (srcAt P c 3 fullShare) ⊢ all (fun l => iprop(srcAt P c 3 fullShare.left l ∗ srcAt P c 3 fullShare.right l)) from
      bigSepL_mono fun l _ => by unfold srcAt; exact owns_split)
    iexact Hs3
  icases Hs3 with ⟨Hs3, Hs3r⟩
  iapply (wp_then c _ _ Q)
  iapply (loop_send c P K 3 [4, 5]) $$ [HI HS3 Hs3r]
  · isplitl [HI]; · iexact HI
    isplitl [HS3]; · iexact HS3
    iexact Hs3r
  iintro ⟨HI, HF3⟩
  iapply (wp_then c _ _ Q)
  iapply (loop_outC c P (rem1 c 0 ++ (rem1 c 1 ++ rem1 c 2))) $$ [Ho Hs3]
  · isplitl [Ho]
    · unfold outI
      iexists f
      isplitr; · ipureintro; exact Done.start P c f
      iexact Ho
    iexact Hs3
  iintro ⟨Ho, Hs3⟩
  -- the gather steps
  iapply (wp_then c _ _ Q)
  iapply (wp_loop c _ _ _ _)
  iapply (wp_then c _ _ _)
  iapply (loop_ag c P K 0 3 4 rfl (by decide) [5] (by decide) (fun _ _ => rfl) (fun _ _ => rfl) (fun _ _ => rfl)) $$ [HI HR3 HS4]
  · isplitl [HI]; · iexact HI
    isplitl [HR3]; · iexact HR3
    iexact HS4
  iintro ⟨HI, HD3, Hg0, HF4⟩
  iapply (loop_outB c P 0 3 (fun _ _ => rfl) (fun _ _ => rfl) fullShare.left (rem1 c 1 ++ rem1 c 2)) $$ [Ho Hg0]
  · isplitl [Ho]; · iexact Ho
    iexact Hg0
  iintro ⟨Ho, Hg0⟩
  iapply (wp_loop c _ _ _ _)
  iapply (wp_then c _ _ _)
  iapply (loop_ag c P K 1 4 5 rfl (by decide) [] (by decide) (fun _ _ => rfl) (fun _ _ => rfl) (fun _ _ => rfl)) $$ [HI HR4 HS5]
  · isplitl [HI]; · iexact HI
    isplitl [HR4]; · iexact HR4
    iexact HS5
  iintro ⟨HI, HD4, Hg1, HF5⟩
  iapply (loop_outB c P 1 4 (fun _ _ => rfl) (fun _ _ => rfl) fullShare.left (rem1 c 2)) $$ [Ho Hg1]
  · isplitl [Ho]; · iexact Ho
    iexact Hg1
  iintro ⟨Ho, Hg1⟩
  unfold St
  icases HI with ⟨#Hrec, HO, Hp⟩
  iapply (wp_loop c _ _ _ _)
  iapply (wp_then c _ _ _)
  iapply (loop_ag2 c P K) $$ [HO HR5]
  · isplitl [HO]
    · isplitr; · iexact Hrec
      iexact HO
    iexact HR5
  iintro ⟨HI, HD5, Hg2⟩
  ihave Ho := (show outI P c (rem1 c 2) ⊢ outI P c (rem1 c 2 ++ []) from by rw [List.append_nil]) $$ Ho
  iapply (loop_outB c P 2 5 (fun _ _ => rfl) (fun _ _ => rfl) fullShare []) $$ [Ho Hg2]
  · isplitl [Ho]; · iexact Ho
    iexact Hg2
  iintro ⟨Ho, Hg2⟩
  iapply (wp_loopEnd c _ _)
  -- the departures
  iapply (wp_loop c _ _ _ _)
  iapply (loop_left c P K 0) $$ [HI HF0 HU0]
  · isplitl [HI]; · iexact HI
    isplitl [HF0]; · iexact HF0
    iexact HU0
  iintro ⟨HI, HL0, Hsrc⟩
  iapply (wp_loop c _ _ _ _)
  iapply (loop_left c P K 1) $$ [HI HF1 HU1]
  · isplitl [HI]; · iexact HI
    isplitl [HF1]; · iexact HF1
    iexact HU1
  iintro ⟨HI, HL1, Hs1r⟩
  iapply (wp_loop c _ _ _ _)
  iapply (loop_left c P K 2) $$ [HI HF2 HU2]
  · isplitl [HI]; · iexact HI
    isplitl [HF2]; · iexact HF2
    iexact HU2
  iintro ⟨HI, HL2, Hs2r⟩
  iapply (wp_loop c _ _ _ _)
  iapply (loop_left c P K 3) $$ [HI HF3 HU3]
  · isplitl [HI]; · iexact HI
    isplitl [HF3]; · iexact HF3
    iexact HU3
  iintro ⟨HI, HL3, Hs3r⟩
  iapply (wp_loop c _ _ _ _)
  iapply (loop_left c P K 4) $$ [HI HF4 HU4]
  · isplitl [HI]; · iexact HI
    isplitl [HF4]; · iexact HF4
    iexact HU4
  iintro ⟨HI, HL4, Hg0r⟩
  iapply (wp_loop c _ _ _ _)
  iapply (loop_left c P K 5) $$ [HI HF5 HU5]
  · isplitl [HI]; · iexact HI
    isplitl [HF5]; · iexact HF5
    iexact HU5
  iintro ⟨⟨-, HO⟩, HL5, Hg1r⟩
  iapply (wp_loopEnd c _ _)
  iapply Hk
  unfold outI
  icases Ho with ⟨%g, %hg, Ho⟩
  rw [hg.finish]
  isplitl [HO]; · iexact HO
  isplitl [Hp]; · iexact Hp
  isplitl [Hsrc]; · iexact Hsrc
  isplitr [Ho]
  · unfold ringOut
    isplitl [HD0 HD1 HD2 HD3 HD4 HD5]
    · iapply (six_in (recvd c))
      isplitl [HD0]; · iexact HD0
      isplitl [HD1]; · iexact HD1
      isplitl [HD2]; · iexact HD2
      isplitl [HD3]; · iexact HD3
      isplitl [HD4]; · iexact HD4
      iexact HD5
    isplitl [HL0 HL1 HL2 HL3 HL4 HL5]
    · iapply (six_in (left c))
      isplitl [HL0]; · iexact HL0
      isplitl [HL1]; · iexact HL1
      isplitl [HL2]; · iexact HL2
      isplitl [HL3]; · iexact HL3
      isplitl [HL4]; · iexact HL4
      iexact HL5
    isplitl [Hr0]; · iexact Hr0
    isplitl [Hr1]; · iexact Hr1
    isplitl [Hr2]; · iexact Hr2
    isplitl [Hs1 Hs1r]
    · iapply (src_join c P 1); isplitl [Hs1]; · iexact Hs1
      iexact Hs1r
    isplitl [Hs2 Hs2r]
    · iapply (src_join c P 2); isplitl [Hs2]; · iexact Hs2
      iexact Hs2r
    isplitl [Hs3 Hs3r]
    · iapply (src_join c P 3); isplitl [Hs3]; · iexact Hs3
      iexact Hs3r
    isplitl [Hg0 Hg0r]
    · iapply (dst_join c P 3 4 (fun _ _ => rfl) (fun _ _ => rfl)); isplitl [Hg0]; · iexact Hg0
      iexact Hg0r
    isplitl [Hg1 Hg1r]
    · iapply (dst_join c P 4 5 (fun _ _ => rfl) (fun _ _ => rfl)); isplitl [Hg1]; · iexact Hg1
      iexact Hg1r
    iexact Hg2
  iexact Ho

end Cert.KernelIdeal.Ring

end
-- ==== Proof.RingBuf.lean ====
module

public import proofs.«01_k».proof.Proof.RingSpec
public import Idealize.ShloMosaic.Lib.MemrefSat
public import Idealize.ShloMosaic.Lib.Ring.WriteBehind

@[expose] public section

set_option maxRecDepth 16384

noncomputable section

/-! The ring's buffers as the pieces its copies read and write: cut before the ring, whole again after it. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ### Families over the lanes as finite conjunctions -/

omit [FloatOps F] [Named F] in
theorem all_eq (A : Fin 2 × Fin 4 → sProp 𝕄) : all A = bigSep Finset.univ A := (bigSep_univ_eq_bigSepL lanes (by decide) (by decide) A).symm
omit [FloatOps F] [Named F] in
theorem six_eq (A : Fin 6 → Fin 2 × Fin 4 → sProp 𝕄) : six A = bigSep Finset.univ fun k => bigSep Finset.univ (A k) := by
  unfold six
  rw [bigSep_univ_eq_bigSepL [0, 1, 2, 3, 4, 5] (by decide) (by decide)]
  exact congrArg _ (funext fun k => all_eq (A k))
omit [FloatOps F] [Named F] in
/-- Both directions' families make the family over all lanes. -/
theorem six_dirs (A : Fin 6 → Fin 2 × Fin 4 → sProp 𝕄) :
    six A = iprop((bigSep (Finset.univ : Finset (Fin 4 × Fin 6)) fun x => A x.2 (0, x.1)) ∗ (bigSep (Finset.univ : Finset (Fin 4 × Fin 6)) fun x => A x.2 (1, x.1))) := by
  rw [six_eq, BI.bigSep_congr fun k _ => BI.bigSep_univ_prod (A k), BI.bigSep_univ_comm, BI.bigSep_fin_two,
    BI.bigSep_univ_prod (fun x : Fin 4 × Fin 6 => A x.2 (0, x.1)), BI.bigSep_univ_prod (fun x : Fin 4 × Fin 6 => A x.2 (1, x.1)),
    BI.bigSep_univ_comm (fun (j : Fin 4) (k : Fin 6) => A k (0, j)), BI.bigSep_univ_comm (fun (j : Fin 4) (k : Fin 6) => A k (1, j))]
  rfl
omit [FloatOps F] [Named F] in
theorem six_mono {A B : Fin 6 → Fin 2 × Fin 4 → sProp 𝕄} (h : ∀ k l, A k l ⊢ B k l) : six A ⊢ six B := by
  rw [six_eq, six_eq]
  exact BI.bigSep_mono fun k _ => BI.bigSep_mono fun l _ => h k l
omit [FloatOps F] [Named F] in
theorem six_sep (A B : Fin 6 → Fin 2 × Fin 4 → sProp 𝕄) : six (fun k l => iprop(A k l ∗ B k l)) = iprop(six A ∗ six B) := by
  rw [six_eq, six_eq, six_eq, BI.bigSep_congr fun k _ => BI.bigSep_sep' Finset.univ (A k) (B k), BI.bigSep_sep']

/-! ### A piece buffer -/

/-- Slot, direction and sub-chunk of a piece. -/
abbrev PI3 : Type := Fin 3 × Fin 2 × Fin 4

theorem mem_piece (d : Fin 2) (j : Fin 4) (s : Fin 3) (i : S2x4x3x32x1024.Idx) : i ∈ (rP d j s).set ↔ (i 0).val = d.val ∧ (i 1).val = j.val ∧ (i 2).val = s.val := by
  rw [← Rect.map_emb_univ]
  constructor
  · intro h
    obtain ⟨x, -, rfl⟩ := Finset.mem_map.mp h
    have h0 : (x 0).val < 1 := (x 0).isLt
    have h1 : (x 1).val < 1 := (x 1).isLt
    have h2 : (x 2).val < 1 := (x 2).isLt
    refine ⟨?_, ?_, ?_⟩
    · show d.val + 1 * (x 0).val = _; omega
    · show j.val + 1 * (x 1).val = _; omega
    · show s.val + 1 * (x 2).val = _; omega
  · rintro ⟨h0, h1, h2⟩
    refine Finset.mem_map.mpr ⟨fun a => match a with
      | ⟨0, _⟩ => (0 : Fin 1) | ⟨1, _⟩ => (0 : Fin 1) | ⟨2, _⟩ => (0 : Fin 1) | ⟨3, _⟩ => i 3 | ⟨4, _⟩ => i 4, Finset.mem_univ _, ?_⟩
    funext a
    match a with
    | ⟨0, _⟩ => exact Fin.ext (by show d.val + 1 * 0 = (i 0).val; omega)
    | ⟨1, _⟩ => exact Fin.ext (by show j.val + 1 * 0 = (i 1).val; omega)
    | ⟨2, _⟩ => exact Fin.ext (by show s.val + 1 * 0 = (i 2).val; omega)
    | ⟨3, _⟩ => exact Fin.ext (by show 0 + 1 * (i 3).val = (i 3).val; omega)
    | ⟨4, _⟩ => exact Fin.ext (by show 0 + 1 * (i 4).val = (i 4).val; omega)

theorem any_intro (c : Dev nD) (m : Memref sig .tc .vmem S32x1024 .bf16) :
    iprop(∃ f, (m.view.loc (c : Thread nD τ)) ↦[m.view.set]{fullShare} f) ⊢ anyAt (F := F) c m := by
  unfold anyAt owns
  iintro ⟨%f, H⟩
  iexists _; iexists f; isplitr; · ipureintro; rfl
  iexact H
theorem any_elim (c : Dev nD) (m : Memref sig .tc .vmem S32x1024 .bf16) :
    anyAt (F := F) c m ⊢ iprop(∃ f, (m.view.loc (c : Thread nD τ)) ↦[m.view.set]{fullShare} f) := by
  unfold anyAt owns
  iintro ⟨%X, %f, -, H⟩
  iexists f; iexact H

section
variable (b : Memref sig .tc .vmem S2x4x3x32x1024 .bf16) (hb : b.view.set = Finset.univ) (c : Dev nD)

/-- The elements of a piece in its buffer. -/
abbrev pieceSet (x : PI3) : Finset (Idx (b.view.loc (c : Thread nD τ))) := (pc b x.2.1 x.2.2 x.1).view.set
theorem pieceSet_eq (x : PI3) : pieceSet b c x = (rP x.2.1 x.2.2 x.1).set.map b.view.emb := by unfold pieceSet; rw [pc_set, View.set_slice]

theorem piece_disj (x y : PI3) (h : x ≠ y) : Disjoint (pieceSet b c x) (pieceSet b c y) := by
  rw [pieceSet_eq, pieceSet_eq, Finset.disjoint_map, Finset.disjoint_left]
  intro i hx hy
  rw [mem_piece] at hx hy
  apply h
  refine Prod.ext (Fin.ext ?_) (Prod.ext (Fin.ext ?_) (Fin.ext ?_)) <;> omega
include hb in
theorem piece_cover : Finset.univ.biUnion (pieceSet b c) = Finset.univ := by
  refine Finset.eq_univ_of_forall fun y => ?_
  have hy : y ∈ b.view.set := by rw [hb]; exact Finset.mem_univ _
  obtain ⟨i, -, rfl⟩ := Finset.mem_map.mp hy
  rw [Finset.mem_biUnion]
  refine ⟨(i 2, i 0, i 1), Finset.mem_univ _, ?_⟩
  rw [pieceSet_eq]
  exact Finset.mem_map_of_mem _ ((mem_piece _ _ _ _).mpr ⟨rfl, rfl, rfl⟩)

/-- A buffer of pieces, whole, at any contents. -/
def bufAny : sProp 𝕄 := iprop(∃ f, (b.view.loc (c : Thread nD τ)) ↦{fullShare} f)

theorem all_pieces : bigSep Finset.univ (fun x : PI3 => anyAt (F := F) c (pc b x.2.1 x.2.2 x.1))
    = iprop(all (fun l => anyAt (F := F) c (pc b l.1 l.2 0)) ∗ all (fun l => anyAt (F := F) c (pc b l.1 l.2 1)) ∗ all (fun l => anyAt (F := F) c (pc b l.1 l.2 2))) := by
  rw [BI.bigSep_univ_prod, bigSep_univ_eq_bigSepL [0, 1, 2] (by decide) (by decide), bigSepL_cons_cons, bigSepL_cons_cons, bigSepL_singleton, all_eq, all_eq, all_eq]
  rfl

include hb in
theorem buf_split : bufAny (F := F) b c ⊢ iprop(all (fun l => anyAt (F := F) c (pc b l.1 l.2 0)) ∗ all (fun l => anyAt (F := F) c (pc b l.1 l.2 1)) ∗ all (fun l => anyAt (F := F) c (pc b l.1 l.2 2))) := by
  rw [← all_pieces]
  unfold bufAny
  refine (Idealize.ShloMosaic.Ring.pieces_split (pieceSet b c) (piece_disj b c) (piece_cover b hb c) (fun x f => ((pc b x.2.1 x.2.2 x.1).view.loc (c : Thread nD τ)) ↦[(pc b x.2.1 x.2.2 x.1).view.set]{fullShare} f) (fun _ _ => rfl)).trans ?_
  exact BI.bigSep_mono fun x _ => any_intro c (pc b x.2.1 x.2.2 x.1)

include hb in
theorem buf_join (f₀ : Buf (Elt F) (b.view.loc (c : Thread nD τ))) :
    iprop(all (fun l => anyAt (F := F) c (pc b l.1 l.2 0)) ∗ all (fun l => anyAt (F := F) c (pc b l.1 l.2 1)) ∗ all (fun l => anyAt (F := F) c (pc b l.1 l.2 2))) ⊢ bufAny (F := F) b c := by
  rw [← all_pieces]
  unfold bufAny
  refine BIBase.Entails.trans ?_ (Idealize.ShloMosaic.Ring.pieces_join (pieceSet b c) (piece_disj b c) (piece_cover b hb c) (fun x f => ((pc b x.2.1 x.2.2 x.1).view.loc (c : Thread nD τ)) ↦[(pc b x.2.1 x.2.2 x.1).view.set]{fullShare} f) (fun _ _ => rfl) f₀)
  exact BI.bigSep_mono fun x _ => any_elim c (pc b x.2.1 x.2.2 x.1)
end

/-! ### The partial sums -/

variable (P : Dev nD → Vec F S1024x1024 .bf16)

theorem offA_rows : ∀ (c : Dev nD) (d : Fin 2) (j : Fin 4), offA c d j 0 = 512 * d.val + 128 * c.val + 32 * j.val := by decide +kernel

/-- The elements of the rows a lane sends first. -/
abbrev ownSet (c : Dev nD) (l : Fin 2 × Fin 4) : Finset (Idx (pM.view.loc (c : Thread nD τ))) := (pcP c l.1 l.2).view.set
theorem own_disj (c : Dev nD) (x y : Fin 2 × Fin 4) (h : x ≠ y) : Disjoint (ownSet c x) (ownSet c y) := by
  rw [Finset.disjoint_left]
  intro i hx hy
  obtain ⟨u, -, rfl⟩ := Finset.mem_map.mp hx
  obtain ⟨v, -, hv⟩ := Finset.mem_map.mp hy
  have e : offA c y.1 y.2 0 + 1 * (v 0).val = offA c x.1 x.2 0 + 1 * (u 0).val := congrArg (fun i : S1024x1024.Idx => (i 0).val) hv
  rw [offA_rows, offA_rows] at e
  have hu : (u 0).val < 32 := (u 0).isLt
  have hv : (v 0).val < 32 := (v 0).isLt
  have := x.1.isLt; have := x.2.isLt; have := y.1.isLt; have := y.2.isLt; have := c.isLt
  apply h
  refine Prod.ext (Fin.ext ?_) (Fin.ext ?_) <;> omega

/-- What a lane sends first is its own rows. -/
theorem sent0_eq (c : Dev nD) (l : Fin 2 × Fin 4) : (pcP c l.1 l.2).view.read (Elt F) (P c) = sent P c l.1 l.2 0 := rfl

theorem own_intro (c : Dev nD) (l : Fin 2 × Fin 4) : ((pM.view.loc (c : Thread nD τ)) ↦[ownSet c l]{fullShare.right} P c) ⊢ srcAt P c 0 fullShare.right l := by
  unfold srcAt owns
  iintro H; iexists (P c); isplitr; · ipureintro; exact sent0_eq P c l
  iexact H
theorem own_elim (c : Dev nD) (l : Fin 2 × Fin 4) : srcAt P c 0 fullShare.right l ⊢ iprop(∃ f, (pM.view.loc (c : Thread nD τ)) ↦[ownSet c l]{fullShare.right} f) := by
  unfold srcAt owns
  iintro ⟨%f, -, H⟩; iexists f; iexact H

/-- The rest of the partial sums' right half. -/
def spare (c : Dev nD) : sProp 𝕄 := iprop(∃ f, (pM.view.loc (c : Thread nD τ)) ↦[Finset.univ \ Finset.univ.biUnion (ownSet c)]{fullShare.right} f)

theorem own_split (c : Dev nD) : ((c : Thread nD τ).loc cc0_scratch1 ↦{fullShare.right} P c) ⊢ iprop(all (srcAt P c 0 fullShare.right) ∗ spare (F := F) c) := by
  iintro H
  ihave H' := (pointsTo_split_subset (q := fullShare.right) (f := P c) (Finset.subset_univ (Finset.univ.biUnion (ownSet c)))).1 $$ H
  icases H' with ⟨Hs, HSp⟩
  ihave HB := (Entails.of_eq (pointsTo_biUnion (Ix := Unit) (Name := ℕ) (U := UU) (Lvl := ℕ) (q := fullShare.right) (f := P c) Finset.univ (ownSet c)
    (fun i _ i' _ h => own_disj c i i' h))) $$ Hs
  isplitl [HB]
  · rw [all_eq]
    iapply (show (bigSep Finset.univ (fun l => (pM.view.loc (c : Thread nD τ)) ↦[ownSet c l]{fullShare.right} P c) : sProp 𝕄) ⊢ bigSep Finset.univ (srcAt P c 0 fullShare.right) from
      BI.bigSep_mono fun l _ => own_intro P c l)
    iexact HB
  · unfold spare; iexists (P c); iexact HSp

theorem pbuf_split (c : Dev nD) : ((c : Thread nD τ).loc cc0_scratch1 ↦{fullShare} P c) ⊢ iprop(pLeft P c ∗ all (srcAt P c 0 fullShare.right) ∗ spare (F := F) c) := by
  unfold pLeft
  iintro H
  ihave H' := (pointsTo_share (PosShare.mem_left_op_right fullShare)).1 $$ H
  icases H' with ⟨Hl, Hr⟩
  isplitl [Hl]; · iexact Hl
  iapply (own_split P c); iexact Hr

theorem halves_join (c : Dev nD) (f g : Vec F S1024x1024 .bf16) :
    iprop(((c : Thread nD τ).loc cc0_scratch1 ↦{fullShare.left} f) ∗ ((c : Thread nD τ).loc cc0_scratch1 ↦{fullShare.right} g))
      ⊢ (iprop(∃ f, (c : Thread nD τ).loc cc0_scratch1 ↦{fullShare} f) : sProp 𝕄) :=
  pure_elim _ pointsTo_agree fun hv => by
    rw [pointsTo_congr (f := g) (g := f) (fun i hi => ((hv i (Finset.mem_inter.mpr ⟨hi, hi⟩)).1).symm)]
    iintro H
    iexists f
    iapply (pointsTo_share (PosShare.mem_left_op_right fullShare)).2; iexact H

theorem pbuf_join (c : Dev nD) : iprop(pLeft P c ∗ all (srcAt P c 0 fullShare.right) ∗ spare (F := F) c) ⊢ (iprop(∃ f, (c : Thread nD τ).loc cc0_scratch1 ↦{fullShare} f) : sProp 𝕄) := by
  rw [all_eq]
  iintro ⟨Hl, Hs, Hr⟩
  ihave HS := (show (bigSep Finset.univ (srcAt P c 0 fullShare.right) : sProp 𝕄)
      ⊢ bigSep Finset.univ (fun l => iprop(∃ f, (pM.view.loc (c : Thread nD τ)) ↦[ownSet c l]{fullShare.right} f)) from
    BI.bigSep_mono fun l _ => own_elim P c l) $$ Hs
  ihave HR := (Idealize.ShloMosaic.Ring.pieces_join_spare (ownSet c) (own_disj c) (q := fullShare.right) (fun l f => (pM.view.loc (c : Thread nD τ)) ↦[ownSet c l]{fullShare.right} f) (fun _ _ => rfl)) $$ [HS Hr]
  · isplitl [HS]; · iexact HS
    unfold spare; iexact Hr
  icases HR with ⟨%g, HR⟩
  unfold pLeft
  iapply (halves_join c (P c) g)
  isplitl [Hl]; · iexact Hl
  iexact HR

end Cert.KernelIdeal.Ring

end
-- ==== Proof.RingEq.lean ====
module

public import proofs.«01_k».proof.Proof.RingProg

@[expose] public section

set_option maxRecDepth 65536

noncomputable section

namespace Cert.KernelIdeal.Ring

open Idealize.ShloMosaic Idealize.ShloMosaic.TcCoe
open Cert.KernelIdeal Cert.KernelIdeal.Gen
open Idealize.SL Idealize.SL.Sem

variable {F : FTy → Type} [FloatOps F]

/-- The printed ring statements. -/
abbrev printedRing (i : grid0.Coords) (arg2 : Memref sig .tc .vmem S1x256x1024 .bf16) (harg2 : arg2.IsWhole) (arg3 : Memref sig .tc .vmem S1024x512 .bf16) (harg3 : arg3.IsWhole)
    (arg6 : Memref sig .tc .vmem S512x1024 .bf16) (harg6 : arg6.IsWhole) (o : Memref sig .tc .vmem S1024x1024 .f32) (ho : o.IsWhole) (c : Dev nD) (h : k0_cond6 i = 1#1) :
    Prog (TpuEff nD τ sig (Elt F) Λ₀ .tc) PUnit := do
  k0_part90 i arg2 harg2 arg3 harg3 (Memref.whole main_arg2) (Memref.isWhole_whole _) (Memref.whole main_arg3) (Memref.isWhole_whole _) arg6 harg6 o ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) cc0_scratch8 cc0_scratch9 c 0#32 0#32 0#32 h
  k0_part91 i arg2 harg2 arg3 harg3 (Memref.whole main_arg2) (Memref.isWhole_whole _) (Memref.whole main_arg3) (Memref.isWhole_whole _) arg6 harg6 o ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) cc0_scratch8 cc0_scratch9 c 0#32 0#32 0#32 h
  waitS c 1 3 5

theorem ring_eq (i : grid0.Coords) (arg2 : Memref sig .tc .vmem S1x256x1024 .bf16) (harg2 : arg2.IsWhole) (arg3 : Memref sig .tc .vmem S1024x512 .bf16) (harg3 : arg3.IsWhole)
    (arg6 : Memref sig .tc .vmem S512x1024 .bf16) (harg6 : arg6.IsWhole) (o : Memref sig .tc .vmem S1024x1024 .f32) (ho : o.IsWhole) (c : Dev nD) (h : k0_cond6 i = 1#1) :
    printedRing (F := F) i arg2 harg2 arg3 harg3 arg6 harg6 o ho c h = ringProg c o := by
  chain_rfl

end Cert.KernelIdeal.Ring

end
-- ==== Proof.BodyProg.lean ====
module

public import proofs.«01_k».proof.Proof.RingEq

@[expose] public section

set_option maxRecDepth 65536

noncomputable section

/-! The whole kernel body, written as its phases: fetch and barrier (first point), prefetch, the two waits, the
attention of one group of heads, its accumulation, the store of a finished batch, and the ring (last point). Proved
equal to the printed body. -/

namespace Cert.KernelIdeal.Ring

open Idealize.ShloMosaic Idealize.ShloMosaic.TcCoe
open Cert.KernelIdeal Cert.KernelIdeal.Gen
open Idealize.SL Idealize.SL.Sem

variable {F : FTy → Type} [FloatOps F] [Named F]

/-! ### Fetching keys and values -/

abbrev kB : Memref sig .tc .vmem S2x1024x128 .f32 := Memref.whole cc0_scratch2
abbrev vB : Memref sig .tc .vmem S2x1024x128 .f32 := Memref.whole cc0_scratch3
abbrev kA : Memref sig .tc .hbm S4x1024x8x128 .f32 := Memref.whole main_arg2
abbrev vA : Memref sig .tc .hbm S4x1024x8x128 .f32 := Memref.whole main_arg3

abbrev InB (o : Fin 3 → ℕ) : Prop := ∀ a, o a + S1x1024x128.size a ≤ S2x1024x128.size a
abbrev InA (o : Fin 4 → ℕ) : Prop := ∀ a, o a + S1x1024x1x128.size a ≤ S4x1024x8x128.size a
abbrev InS (o : Fin 2 → ℕ) : Prop := ∀ a, o a + S1x1.size a ≤ S2x2.size a

/-- A slot of a buffer, one head of the keys or values, and a semaphore. -/
abbrev kvDst (b : Memref sig .tc .vmem S2x1024x128 .f32) (o : Fin 3 → ℕ) (h : InB o) : Memref sig .tc .vmem S1024x128 .f32 :=
  (b.slice (Rect.unit (s := S2x1024x128) o S1x1024x128.size h) (fun _ => rfl)).squeeze S1024x128 squeezes_S1x1024x128_S1024x128
abbrev kvSrc (a : Memref sig .tc .hbm S4x1024x8x128 .f32) (o : Fin 4 → ℕ) (h : InA o) : Memref sig .tc .hbm S1024x128 .f32 :=
  (a.slice (Rect.unit (s := S4x1024x8x128) o S1x1024x1x128.size h) (fun _ => rfl)).squeeze S1024x128 squeezes_S1x1024x1x128_S1024x128
abbrev kvSem (o : Fin 2 → ℕ) (h : InS o) : DmaSem sig :=
  ((cc0_scratch4.slice (Rect.unit (s := S2x2) o S1x1.size h)).squeeze S_ squeezes_S1x1_S_).sem

def kvStart (a : Memref sig .tc .hbm S4x1024x8x128 .f32) (b : Memref sig .tc .vmem S2x1024x128 .f32) (oa : Fin 4 → ℕ) (ha : InA oa) (ob : Fin 3 → ℕ) (hb : InB ob)
    (os : Fin 2 → ℕ) (hs : InS os) : Prog (TpuEff nD τ sig (Elt F) Λ₀ .tc) PUnit :=
  Prog.lift (.enqueueDma (kvSrc a oa ha) (.here (kvDst b ob hb)) (.dma (kvSem os hs)) ((View.wordExact_bits rfl).reshape _ _) ((View.wordExact_bits rfl).reshape _ _) ⟨Or.inl rfl, trivial⟩)
def kvWait (a : Memref sig .tc .hbm S4x1024x8x128 .f32) (b : Memref sig .tc .vmem S2x1024x128 .f32) (oa : Fin 4 → ℕ) (ha : InA oa) (ob : Fin 3 → ℕ) (hb : InB ob)
    (os : Fin 2 → ℕ) (hs : InS os) : Prog (TpuEff nD τ sig (Elt F) Λ₀ .tc) PUnit :=
  Prog.lift (.waitDma2 (kvSem os hs) (kvSrc a oa ha) (kvDst b ob hb) ((View.wordExact_bits rfl).reshape _ _) ((View.wordExact_bits rfl).reshape _ _))
def kvLoad (b : Memref sig .tc .vmem S2x1024x128 .f32) (o : Fin 3 → ℕ) (h : InB o) : Prog (TpuEff nD τ sig (Elt F) Λ₀ .tc) (Vec F S1x1024x128 .f32) :=
  Prog.lift (.load b (Rect.unit (s := S2x1024x128) o S1x1024x128.size h).toLoadRect (View.loadsAt_vmem h_S1x1024x128))

/-! ### The attention of one group of four heads -/

/-- The scaled queries. -/
def queries (x : Vec F S1x256x1024 .bf16) (wq : Vec F S1024x512 .bf16) : FVec F S256x512 .bf16 :=
  truncf .bf16 (mulf (matmul dot_S256x1024_S1024x512_S256x512_1_0_0_1_n_n none (shapeCast S256x1024 x shapeCasts_S1x256x1024_S256x1024)
    (shapeCast S1024x512 wq shapeCasts_S1024x512_S1024x512) (constant S256x512 .f32 0x00000000#32)) (broadcast S256x512 (Named.named κ "scale" 0x3DB504F3#32))) bitsLt_bf16_f32
/-- A buffer's slot as bf16 rows. -/
def kvRows (r : Vec F S1x1024x128 .f32) : FVec F S1024x128 .bf16 := truncf .bf16 (shapeCast S1024x128 r shapeCasts_S1x1024x128_S1024x128) bitsLt_bf16_f32
/-- One head: exponentials of the scores, their products with the values, over their sum. -/
def headOut (q : FVec F S256x128 .bf16) (k v : FVec F S1024x128 .bf16) : FVec F S256x128 .bf16 :=
  let p : FVec F S256x1024 .f32 := exp (matmul dot_S256x128_S1024x128_S256x1024_1_1_0_0_n_n none q k (constant S256x1024 .f32 0x00000000#32))
  truncf .bf16 (divf (matmul dot_S256x1024_S1024x128_S256x128_1_0_0_1_n_n none (truncf .bf16 p bitsLt_bf16_f32) v (constant S256x128 .f32 0x00000000#32))
    (broadcastTo S256x128 (shapeCast S256x1 (multiReduction .add [1] S256 p 0x00000000#32 reduces_S256x1024_S256 (.inl rfl) rfl) shapeCasts_S256_S256x1) broadcasts_S256x1_S256x128)) bitsLt_bf16_f32
/-- The four heads side by side, times the group's rows of the output weights. -/
def groupOut (q : FVec F S256x512 .bf16) (k v : FVec F S1024x128 .bf16) (wo : Vec F S512x1024 .bf16) : FVec F S256x1024 .f32 :=
  matmul dot_S256x512_S512x1024_S256x1024_1_0_0_1_n_n none
    (concatenate S256x512 1 [⟨S256x128, headOut (extractStridedSlice S256x128 ![0, 0] q slices_S256x512_o0_0_S256x128) k v⟩,
      ⟨S256x128, headOut (extractStridedSlice S256x128 ![0, 128] q slices_S256x512_o0_128_S256x128) k v⟩,
      ⟨S256x128, headOut (extractStridedSlice S256x128 ![0, 256] q slices_S256x512_o0_256_S256x128) k v⟩,
      ⟨S256x128, headOut (extractStridedSlice S256x128 ![0, 384] q slices_S256x512_o0_384_S256x128) k v⟩] concatenates_S256x128_S256x128_S256x128_S256x128_S256x512_d1)
    (shapeCast S512x1024 wo shapeCasts_S512x1024_S512x1024) (constant S256x1024 .f32 0x00000000#32)

/-- The loads of a point's blocks and the group's product. -/
def groupProg (x : Memref sig .tc .vmem S1x256x1024 .bf16) (wq : Memref sig .tc .vmem S1024x512 .bf16) (wo : Memref sig .tc .vmem S512x1024 .bf16) (o : Fin 3 → ℕ) (h : InB o) :
    Prog (TpuEff nD τ sig (Elt F) Λ₀ .tc) (FVec F S256x1024 .f32) := do
  let x : Vec F S1x256x1024 .bf16 ← Prog.lift (.load x (Rect.unit (s := S1x256x1024) ![0, 0, 0] S1x256x1024.size inb_S1x256x1024_S1x256x1024_0_0_0).toLoadRect (View.loadsAt_vmem h_S1x256x1024))
  let wq : Vec F S1024x512 .bf16 ← Prog.lift (.load wq (Rect.unit (s := S1024x512) ![0, 0] S1024x512.size inb_S1024x512_S1024x512_0_0).toLoadRect (View.loadsAt_vmem h_S1024x512))
  let k : Vec F S1x1024x128 .f32 ← kvLoad kB o h
  let v : Vec F S1x1024x128 .f32 ← kvLoad vB o h
  let wo : Vec F S512x1024 .bf16 ← Prog.lift (.load wo (Rect.unit (s := S512x1024) ![0, 0] S512x1024.size inb_S512x1024_S512x1024_0_0).toLoadRect (View.loadsAt_vmem h_S512x1024))
  pure (groupOut (queries x wq) (kvRows k) (kvRows v) wo)

/-! ### Accumulation -/

abbrev accM : Memref sig .tc .vmem S256x1024 .f32 := Memref.whole cc0_scratch0
abbrev accR : Rect S256x1024 := Rect.unit (s := S256x1024) ![0, 0] S256x1024.size inb_S256x1024_S256x1024_0_0

/-- The accumulator read. -/
def accLoad : Prog (TpuEff nD τ sig (Elt F) Λ₀ .tc) (Vec F S256x1024 .f32) := Prog.lift (.load accM accR.toLoadRect (View.loadsAt_vmem h_S256x1024))
def accStore (y : FVec F S256x1024 .f32) : Prog (TpuEff nD τ sig (Elt F) Λ₀ .tc) PUnit :=
  Prog.lift (.store accM accR (shapeCast S256x1024 y shapeCasts_S256x1024_S256x1024) Finset.univ (View.stores_vmem_bits_univ h_S256x1024 rfl) (.inl rfl))
/-- The first group of a batch is stored, a later one added. -/
def accFirst (y : FVec F S256x1024 .f32) : Prog (TpuEff nD τ sig (Elt F) Λ₀ .tc) PUnit := do
  let _ ← accLoad
  accStore y
def accMore (y : FVec F S256x1024 .f32) : Prog (TpuEff nD τ sig (Elt F) Λ₀ .tc) PUnit := do
  let a ← accLoad
  let _ ← accLoad
  accStore (addf a y)
/-- The finished batch, as bf16, into its rows of the partial sums. -/
def batchStore (o : Fin 2 → ℕ) (h : ∀ a, o a + S256x1024.size a ≤ S1024x1024.size a) (hp : (Rect.unit (s := S1024x1024) o S256x1024.size h).PackedRows (EltTy.packing .bf16)) :
    Prog (TpuEff nD τ sig (Elt F) Λ₀ .tc) PUnit := do
  let a ← accLoad
  let _ : Vec F S256x1024 .bf16 ← Prog.lift (.load pM (Rect.unit (s := S1024x1024) o S256x1024.size h).toLoadRect (View.loadsAt_vmem h_S256x1024))
  Prog.lift (.store pM (Rect.unit (s := S1024x1024) o S256x1024.size h) (shapeCast S256x1024 (truncf .bf16 a bitsLt_bf16_f32) shapeCasts_S256x1024_S256x1024) Finset.univ
    (View.stores_vmem h_S256x1024 ((Memref.isWhole_whole cc0_scratch1).storeExact_slice rfl _ hp) (fun _ => rfl)) (.inl rfl))

/-! ### The body -/

abbrev barM : Sems sig S_ := SemArray.scalar (sig.barrier 0 rfl)

/-- Both neighbours signalled, both signals waited for. -/
def handshake (l r : Dev nD) : Prog (TpuEff nD τ sig (Elt F) Λ₀ .tc) PUnit := do
  semSignalWord l barM.sem 1#32
  semSignalWord r barM.sem 1#32
  semWaitWord barM.sem 2#32

/-! Each conditional phase is given the program `k` that follows it. -/

abbrev P0 (F : FTy → Type) : Type _ := Prog (TpuEff nD τ sig (Elt F) Λ₀ .tc) PUnit

def fetchFirst (i : grid0.Coords) (c : Dev nD) (h : k0_cond1 i = 1#1) : P0 F := do
  kvStart kA kB (k0_off3 i c) (k0_off3_inb i c h) (k0_off2 i) (k0_off2_inb i h) (k0_off1 i) (k0_off1_inb i h)
  kvStart vA vB (k0_off3 i c) (k0_off3_inb i c h) (k0_off2 i) (k0_off2_inb i h) (k0_off4 i) (k0_off4_inb i h)
  handshake ⟨k0_dev1 c, k0_dev1_lt i c h⟩ ⟨k0_dev2 c, k0_dev2_lt i c h⟩
def fetchNext (i : grid0.Coords) (c : Dev nD) (h : k0_cond2 i = 1#1) : P0 F := do
  kvStart kA kB (k0_off7 i c) (k0_off7_inb i c h) (k0_off6 i) (k0_off6_inb i h) (k0_off5 i) (k0_off5_inb i h)
  kvStart vA vB (k0_off7 i c) (k0_off7_inb i c h) (k0_off6 i) (k0_off6_inb i h) (k0_off8 i) (k0_off8_inb i h)
def awaitBoth (i : grid0.Coords) (c : Dev nD) : P0 F := do
  kvWait kA kB (k0_off11 i c) (k0_off11_inb i c) (k0_off10 i) (k0_off10_inb i) (k0_off9 i) (k0_off9_inb i)
  kvWait vA vB (k0_off11 i c) (k0_off11_inb i c) (k0_off10 i) (k0_off10_inb i) (k0_off12 i) (k0_off12_inb i)

/-- The grid coordinate along the groups is 0, and above 0, as the kernel tests them. -/
abbrev isFirst (i : grid0.Coords) : BitVec 1 := Scalar.cmpi .ne (Scalar.extui (Scalar.cmpi .eq (BitVec.ofNat 32 (i 1).val) 0#32) : BitVec 32) 0#32
abbrev isLater (i : grid0.Coords) : BitVec 1 := Scalar.cmpi .ne (Scalar.extui (Scalar.cmpi .sgt (BitVec.ofNat 32 (i 1).val) 0#32) : BitVec 32) 0#32

def phase1 (i : grid0.Coords) (c : Dev nD) (k : P0 F) : P0 F :=
  if h : k0_cond1 i = 1#1 then fetchFirst i c h >>= fun _ => k else k
def phase2 (i : grid0.Coords) (c : Dev nD) (k : P0 F) : P0 F :=
  if h : k0_cond2 i = 1#1 then fetchNext i c h >>= fun _ => k else k
def phase5 (i : grid0.Coords) (y : FVec F S256x1024 .f32) (k : P0 F) : P0 F :=
  if h : isFirst i = 1#1 then accFirst y >>= fun _ => k else k
def phase5' (i : grid0.Coords) (y : FVec F S256x1024 .f32) (k : P0 F) : P0 F :=
  if h : isLater i = 1#1 then accMore y >>= fun _ => k else k
def phase6 (i : grid0.Coords) (k : P0 F) : P0 F :=
  if h : k0_cond5 i = 1#1 then batchStore (k0_off14 i) (k0_off14_inb i h) (k0_off14_packedbf16 i h) >>= fun _ => k else k
def phase7 (i : grid0.Coords) (o : Memref sig .tc .vmem S1024x1024 .f32) (c : Dev nD) : P0 F :=
  if h : k0_cond6 i = 1#1 then ringProg c o else pure ⟨⟩

/-- The body. -/
def bodyProg (i : grid0.Coords) (x : Memref sig .tc .vmem S1x256x1024 .bf16) (wq : Memref sig .tc .vmem S1024x512 .bf16) (wo : Memref sig .tc .vmem S512x1024 .bf16)
    (o : Memref sig .tc .vmem S1024x1024 .f32) : P0 F :=
  Prog.lift .deviceId >>= fun c : Dev nD => phase1 i c <| phase2 i c <| awaitBoth i c >>= fun _ =>
  groupProg x wq wo (k0_off13 i) (k0_off13_inb i) >>= fun y => phase5 i y <| phase5' i y <| phase6 i <| phase7 i o c

end Cert.KernelIdeal.Ring

end
-- ==== Proof.KvWp.lean ====
module

public import proofs.«01_k».proof.Proof.BodyProg
public import proofs.«01_k».proof.Proof.RingWp
public import Idealize.ShloMosaic.Lib.Transfers

@[expose] public section

set_option maxRecDepth 16384

noncomputable section

/-! The copies of one head of the keys or values into a slot of their buffer: started, awaited, read. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ### Places -/

/-- Slot `s` of a buffer. -/
abbrev sO (s : Fin 2) : Fin 3 → ℕ := ![s.val, 0, 0]
/-- The head that device `c` reads at point `t`. -/
abbrev hO (c : Dev nD) (t : Fin 8) : Fin 4 → ℕ := ![t.val / 2, 0, 2 * c.val + t.val % 2, 0]
/-- The semaphore of slot `s`, keys or values. -/
abbrev eO (s e : Fin 2) : Fin 2 → ℕ := ![s.val, e.val]
theorem sO_in : ∀ s : Fin 2, InB (sO s) := by decide +kernel
theorem hO_in : ∀ (c : Dev nD) (t : Fin 8), InA (hO c t) := by decide +kernel
theorem eO_in : ∀ s e : Fin 2, InS (eO s e) := by decide +kernel
abbrev slot (b : Memref sig .tc .vmem S2x1024x128 .f32) (s : Fin 2) := kvDst b (sO s) (sO_in s)
abbrev head (a : Memref sig .tc .hbm S4x1024x8x128 .f32) (c : Dev nD) (t : Fin 8) := kvSrc a (hO c t) (hO_in c t)
abbrev kvS (s e : Fin 2) : DmaSem sig := kvSem (eO s e) (eO_in s e)

/-- The copy's bytes. -/
abbrev NK : ℕ := (slot kB 0).view.dmaCredit
theorem NK_pos : 0 < NK := View.dmaCredit_pos _ (by decide)

theorem slot_set (b : Memref sig .tc .vmem S2x1024x128 .f32) (s : Fin 2) :
    (slot b s).view.set = (b.view.slice (Rect.unit (s := S2x1024x128) (sO s) S1x1024x128.size (sO_in s))).set := View.set_reshape _ _

/-- The share of the arrays that a slot's copies read: the left half for slot 0, the right for slot 1. -/
def qh (s : Fin 2) : PosShare TreeShare := match s with | 0 => fullShare.left | 1 => fullShare.right

/-! ### The state of one slot of one buffer -/

abbrev SlotV (F : FTy → Type) : Type := Vec F S1024x128 .f32
abbrev ArrV (F : FTy → Type) : Type := Vec F S4x1024x8x128 .f32

/-- The head as the array `f` holds it. -/
def headV (c : Dev nD) (t : Fin 8) (f : ArrV F) : SlotV F := (head kA c t).view.read (Elt F) f

section
variable (a : Memref sig .tc .hbm S4x1024x8x128 .f32) (b : Memref sig .tc .vmem S2x1024x128 .f32)
variable (c : Dev nD) (s e : Fin 2) (t : Fin 8) (f : a.view.ty.Contents (Elt F))

/-- Free: the slot at any contents, its semaphore at rest, its share of the array. -/
def free1 : sProp 𝕄 := iprop((∃ X : SlotV F, owns (c : Thread nD τ) (slot b s) fullShare X) ∗ semVal ((c : Thread nD τ), SemLoc.dma (kvS s e)) 0
  ∗ (a.view.loc (c : Thread nD τ) ↦{qh s} f))
/-- In flight: the head's rows on their way, and the rest of the array's share. -/
def fly1 : sProp 𝕄 := iprop(Transfers.Flight (countersEmb (U := UU)) (c : Thread nD τ) (SemLoc.dma (kvS s e)) () NK
    iprop(owns (c : Thread nD τ) (slot b s) fullShare ((head a c t).view.read (Elt F) f) ∗ (a.view.loc (c : Thread nD τ) ↦[(head a c t).view.set]{qh s} f))
  ∗ (a.view.loc (c : Thread nD τ) ↦[Finset.univ \ (head a c t).view.set]{qh s} f))
/-- Landed. -/
def got1 (X : SlotV F) : sProp 𝕄 := iprop(owns (c : Thread nD τ) (slot b s) fullShare X ∗ semVal ((c : Thread nD τ), SemLoc.dma (kvS s e)) 0
  ∗ (a.view.loc (c : Thread nD τ) ↦{qh s} f))

theorem got1_free (X : SlotV F) : got1 a b c s e f X ⊢ free1 a b c s e f := by
  unfold got1 free1
  iintro ⟨H, Hs, Ha⟩
  isplitl [H]; · iexists X; iexact H
  isplitl [Hs]; · iexact Hs
  iexact Ha

theorem landed (fd : b.view.ty.Contents (Elt F)) :
    iprop(((slot b s).view.loc (c : Thread nD τ) ↦[(slot b s).view.set]{fullShare} (slot b s).view.write (Elt F) fd ((head a c t).view.read (Elt F) f) Finset.univ)
        ∗ (a.view.loc (c : Thread nD τ) ↦[(head a c t).view.set]{qh s} f))
      ⊢ (iprop(owns (c : Thread nD τ) (slot b s) fullShare ((head a c t).view.read (Elt F) f) ∗ (a.view.loc (c : Thread nD τ) ↦[(head a c t).view.set]{qh s} f)) : sProp 𝕄) := by
  unfold owns
  iintro ⟨Hd, Ha⟩
  isplitl [Hd]
  · iexists _; isplitr; swap; · iexact Hd
    ipureintro; exact View.read_write_univ (v := (slot b s).view) (fd : (slot b s).view.ty.Contents (Elt F)) _
  iexact Ha

theorem wp_kvStart (Q : PUnit → sProp 𝕄) :
    free1 a b c s e f ⊢ iprop((fly1 a b c s e t f -∗ Q ⟨⟩) -∗ WP c (kvStart a b (hO c t) (hO_in c t) (sO s) (sO_in s) (eO s e) (eO_in s e)) Q) := by
  unfold free1 fly1 owns
  iintro ⟨⟨%X, %fd, %hfd, Hd⟩, Hs, Ha⟩ Hk
  ihave Ha' := (pointsTo_split_subset (q := qh s) (f := f) (Finset.subset_univ (head a c t).view.set)).1 $$ Ha
  icases Ha' with ⟨Ha, Har⟩
  unfold kvStart Prog.lift
  iapply (Transfers.wp_dmaLocal (countersEmb (U := UU)) 𝒱₀ (c : Thread nD τ) none (src := head a c t) (dst := slot b s) (sm := SemLoc.dma (kvS s e)) (q := qh s) (fs := f)
    (Sd := (slot b s).view.set) (fd := fd) () NK rfl NK_pos (Finset.Subset.refl _)) $$ [Ha Hd Hs]
  · isplitl [Ha]; · iexact Ha
    isplitl [Hd]; · iexact Hd
    iexact Hs
  iintro HF
  rw [wp_ret]; imodintro
  iapply Hk
  isplitl [HF]
  · iapply (Transfers.Flight_mono (countersEmb (U := UU)) (c : Thread nD τ) (landed a b c s t f fd)); iexact HF
  iexact Har

theorem wp_kvWait (O : CellTallies nD τ sig Unit) (Q : PUnit → sProp 𝕄) :
    iprop(fly1 a b c s e t f ∗ owesE c O ∗ MayWait (c : Thread nD τ) (SemLoc.dma (kvS s e)) () O)
      ⊢ iprop(((got1 a b c s e f ((head a c t).view.read (Elt F) f) ∗ owesE c O) -∗ Q ⟨⟩)
        -∗ WP c (kvWait a b (hO c t) (hO_in c t) (sO s) (sO_in s) (eO s e) (eO_in s e)) Q) := by
  unfold fly1 got1 owesE
  iintro ⟨⟨HF, Har⟩, ⟨%W, HO⟩, Hm⟩ Hk
  unfold kvWait Prog.lift
  iapply (Transfers.wp_waitLocalO (countersEmb (U := UU)) 𝒱₀ (c : Thread nD τ) none (srcw := head a c t) (dstw := slot b s) () (N := NK) rfl (O := O) (W := W)) $$ [HF HO Hm]
  · isplitl [HF]; · iexact HF
    isplitl [HO]; · iexact HO
    iexact Hm
  iintro ⟨⟨Hd, Ha⟩, Hs, HO⟩
  rw [wp_ret]; imodintro
  iapply Hk
  isplitr [HO]
  · isplitl [Hd]; · iexact Hd
    isplitl [Hs]; · iexact Hs
    iapply (pointsTo_split_subset (q := qh s) (f := f) (Finset.subset_univ (head a c t).view.set)).2
    isplitl [Ha]; · iexact Ha
    iexact Har
  iexists _; iexact HO

theorem wp_kvLoad (q : PosShare TreeShare) (X : SlotV F) (Q : Vec F S1x1024x128 .f32 → sProp 𝕄) :
    owns (c : Thread nD τ) (slot b s) q X
      ⊢ iprop((∀ r : Vec F S1x1024x128 .f32, (⌜shapeCast S1024x128 r shapeCasts_S1x1024x128_S1024x128 = X⌝ ∗ owns (c : Thread nD τ) (slot b s) q X) -∗ Q r)
        -∗ WP c (kvLoad b (sO s) (sO_in s)) Q) := by
  unfold owns
  iintro ⟨%f, %hf, H⟩ Hk
  unfold kvLoad Prog.lift
  iapply (wp_load 𝒱₀ (c : Thread nD τ) none Set.univ (m := b) (S := (slot b s).view.set) (q := q) (f := f) (by rw [slot_set, View.set_slice]; exact Finset.Subset.refl _)) $$ H
  iintro H
  rw [wp_ret]; imodintro
  iapply Hk
  isplitr
  · ipureintro; exact hf
  iexists f; isplitr; · ipureintro; exact hf
  iexact H

end

end Cert.KernelIdeal.Ring

end
-- ==== Proof.BodyWp.lean ====
module

public import proofs.«01_k».proof.Proof.KvWp
public import proofs.«01_k».proof.Proof.OutRows
public import Idealize.ShloMosaic.Lib.VecWindow

@[expose] public section

set_option maxRecDepth 16384

noncomputable section

/-! Rules for the rest of a point's work: the group's attention, the accumulator, a finished batch's rows, and the
barrier with both neighbours. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ### The group's attention -/

/-- A load of a whole block gives what the block holds. -/
theorem wp_loadFull (c : Dev nD) {s : Shape} {e : EltTy} (m : Memref sig .tc .vmem s e) (off : Fin s.rank → ℕ) (h : ∀ a, off a + s.size a ≤ s.size a)
    (hl : m.view.LoadsAt (Rect.unit (s := s) off s.size h).toLoadRect) (X : s.Idx → Elt F e) (Q : (s.Idx → Elt F e) → sProp 𝕄) :
    owns (c : Thread nD τ) m fullShare X ⊢ iprop((owns (c : Thread nD τ) m fullShare X -∗ Q X) -∗ WP c (Prog.lift (.load m (Rect.unit (s := s) off s.size h).toLoadRect hl)) Q) := by
  unfold owns
  iintro ⟨%f, %hf, H⟩ Hk
  unfold Prog.lift
  iapply (wp_load 𝒱₀ (c : Thread nD τ) none Set.univ (m := m) (S := m.view.set) (q := fullShare) (f := f)
    (by unfold View.set View.setOn; exact Finset.map_subset_map.mpr (Finset.subset_univ _))) $$ H
  iintro H
  rw [wp_ret]; imodintro
  rw [View.readAt_full, hf]
  iapply Hk
  iexists f; isplitr; · ipureintro; exact hf
  iexact H

/-- What a group computes from its blocks. -/
def groupV (vx : Vec F S1x256x1024 .bf16) (vq : Vec F S1024x512 .bf16) (X Y : SlotV F) (vo : Vec F S512x1024 .bf16) : FVec F S256x1024 .f32 :=
  groupOut (queries vx vq) (truncf .bf16 X bitsLt_bf16_f32) (truncf .bf16 Y bitsLt_bf16_f32) vo

theorem wp_group (c : Dev nD) (s : Fin 2) (x : Memref sig .tc .vmem S1x256x1024 .bf16) (wq : Memref sig .tc .vmem S1024x512 .bf16) (wo : Memref sig .tc .vmem S512x1024 .bf16)
    (vx : Vec F S1x256x1024 .bf16) (vq : Vec F S1024x512 .bf16) (vo : Vec F S512x1024 .bf16) (X Y : SlotV F) (Q : FVec F S256x1024 .f32 → sProp 𝕄) :
    iprop(owns (c : Thread nD τ) x fullShare vx ∗ owns (c : Thread nD τ) wq fullShare vq ∗ owns (c : Thread nD τ) wo fullShare vo
        ∗ owns (c : Thread nD τ) (slot kB s) fullShare X ∗ owns (c : Thread nD τ) (slot vB s) fullShare Y)
      ⊢ iprop(((owns (c : Thread nD τ) x fullShare vx ∗ owns (c : Thread nD τ) wq fullShare vq ∗ owns (c : Thread nD τ) wo fullShare vo
          ∗ owns (c : Thread nD τ) (slot kB s) fullShare X ∗ owns (c : Thread nD τ) (slot vB s) fullShare Y) -∗ Q (groupV vx vq X Y vo))
        -∗ WP c (groupProg x wq wo (sO s) (sO_in s)) Q) := by
  iintro ⟨Hx, Hq, Ho, HX, HY⟩ Hk
  unfold groupProg WP
  rw [wp_bind]
  iapply (wp_loadFull c x _ inb_S1x256x1024_S1x256x1024_0_0_0 (View.loadsAt_vmem h_S1x256x1024) vx) $$ Hx
  iintro Hx
  rw [wp_bind]
  iapply (wp_loadFull c wq _ inb_S1024x512_S1024x512_0_0 (View.loadsAt_vmem h_S1024x512) vq) $$ Hq
  iintro Hq
  rw [wp_bind]
  iapply (wp_kvLoad kB c s fullShare X) $$ HX
  iintro %r ⟨%hr, HX⟩
  rw [wp_bind]
  iapply (wp_kvLoad vB c s fullShare Y) $$ HY
  iintro %r' ⟨%hr', HY⟩
  rw [wp_bind]
  iapply (wp_loadFull c wo _ inb_S512x1024_S512x1024_0_0 (View.loadsAt_vmem h_S512x1024) vo) $$ Ho
  iintro Ho
  rw [wp_pure]; imodintro
  rw [show groupOut (queries vx vq) (kvRows r) (kvRows r') vo = groupV vx vq X Y vo from by unfold groupV kvRows; rw [hr, hr']]
  iapply Hk
  isplitl [Hx]; · iexact Hx
  isplitl [Hq]; · iexact Hq
  isplitl [Ho]; · iexact Ho
  isplitl [HX]; · iexact HX
  iexact HY

/-! ### The accumulator -/

/-- The accumulator's contents. -/
def accP (c : Dev nD) (f : Vec F S256x1024 .f32) : sProp 𝕄 := ((c : Thread nD τ).loc cc0_scratch0) ↦{fullShare} f

theorem hz2 : (![0, 0] : Fin 2 → ℕ) = fun _ => 0 := funext fun a => by fin_cases a <;> rfl

theorem wp_accLoad (c : Dev nD) (f : Vec F S256x1024 .f32) (Q : Vec F S256x1024 .f32 → sProp 𝕄) :
    accP c f ⊢ iprop((accP c f -∗ Q f) -∗ WP c accLoad Q) := by
  unfold accP
  iintro H Hk
  unfold accLoad Prog.lift
  iapply (wp_load 𝒱₀ (c : Thread nD τ) none Set.univ (m := accM) (r := accR.toLoadRect) (Finset.subset_univ _)) $$ H
  iintro H
  rw [wp_ret]; imodintro
  rw [show (accM : Memref sig .tc .vmem S256x1024 .f32).view.readAt (Elt F) accR.toLoadRect f = f from Memref.readAt_unit_zero (Elt F) cc0_scratch0 hz2 _ f]
  iapply Hk; iexact H

theorem wp_accStore (c : Dev nD) (f y : Vec F S256x1024 .f32) (Q : PUnit → sProp 𝕄) :
    accP c f ⊢ iprop((accP c y -∗ Q ⟨⟩) -∗ WP c (accStore y) Q) := by
  unfold accP
  iintro H Hk
  unfold accStore Prog.lift
  iapply (wp_store 𝒱₀ (c : Thread nD τ) none Set.univ (m := accM) (r := accR) (Mk := Finset.univ) (Finset.subset_univ _)) $$ H
  iintro H
  rw [wp_ret]; imodintro
  rw [shapeCast_self]
  rw [show ((accM : Memref sig .tc .vmem S256x1024 .f32).access accR : View sig .tc _ _ _).write (Elt F) f y Finset.univ = y from
    Memref.write_access_unit_zero_univ (Elt F) cc0_scratch0 hz2 _ f y]
  iapply Hk; iexact H

theorem wp_accFirst (c : Dev nD) (f y : Vec F S256x1024 .f32) (Q : PUnit → sProp 𝕄) :
    accP c f ⊢ iprop((accP c y -∗ Q ⟨⟩) -∗ WP c (accFirst y) Q) := by
  iintro H Hk
  unfold accFirst WP
  rw [wp_bind]
  iapply (wp_accLoad c f) $$ H
  iintro H
  iapply (wp_accStore c f y) $$ H
  iexact Hk

theorem wp_accMore (c : Dev nD) (f y : Vec F S256x1024 .f32) (Q : PUnit → sProp 𝕄) :
    accP c f ⊢ iprop((accP c (addf f y) -∗ Q ⟨⟩) -∗ WP c (accMore y) Q) := by
  iintro H Hk
  unfold accMore WP
  rw [wp_bind]
  iapply (wp_accLoad c f) $$ H
  iintro H
  rw [wp_bind]
  iapply (wp_accLoad c f) $$ H
  iintro H
  iapply (wp_accStore c f (addf f y)) $$ H
  iexact Hk

/-! ### A finished batch -/

/-- Rows `256 b …` of the partial sums. -/
abbrev bO (b : Fin 4) : Fin 2 → ℕ := ![256 * b.val, 0]
theorem bO_in : ∀ (b : Fin 4) (a : Fin 2), bO b a + S256x1024.size a ≤ S1024x1024.size a := by decide +kernel

/-- The partial sums' contents. -/
def pbufP (c : Dev nD) (f : Vec F S1024x1024 .bf16) : sProp 𝕄 := ((c : Thread nD τ).loc cc0_scratch1) ↦{fullShare} f

def putBatch (f : Vec F S1024x1024 .bf16) (b : Fin 4) (X : FVec F S256x1024 .bf16) : Vec F S1024x1024 .bf16 :=
  (pM.access (Rect.unit (s := S1024x1024) (bO b) S256x1024.size (bO_in b))).write (Elt F) f X Finset.univ

theorem wp_batchStore (c : Dev nD) (b : Fin 4) (hp : (Rect.unit (s := S1024x1024) (bO b) S256x1024.size (bO_in b)).PackedRows (EltTy.packing .bf16))
    (a : Vec F S256x1024 .f32) (f : Vec F S1024x1024 .bf16) (Q : PUnit → sProp 𝕄) :
    iprop(accP c a ∗ pbufP c f)
      ⊢ iprop(((accP c a ∗ pbufP c (putBatch f b (truncf .bf16 a bitsLt_bf16_f32))) -∗ Q ⟨⟩) -∗ WP c (batchStore (bO b) (bO_in b) hp) Q) := by
  iintro ⟨Ha, H⟩ Hk
  unfold batchStore WP
  rw [wp_bind]
  iapply (wp_accLoad c a) $$ Ha
  iintro Ha
  rw [wp_bind]
  unfold pbufP Prog.lift
  iapply (wp_load 𝒱₀ (c : Thread nD τ) none Set.univ (m := pM) (r := (Rect.unit (s := S1024x1024) (bO b) S256x1024.size (bO_in b)).toLoadRect) (Finset.subset_univ _)) $$ H
  iintro H
  rw [wp_ret]; imodintro
  iapply (wp_store 𝒱₀ (c : Thread nD τ) none Set.univ (m := pM) (r := Rect.unit (s := S1024x1024) (bO b) S256x1024.size (bO_in b)) (Mk := Finset.univ) (Finset.subset_univ _)) $$ H
  iintro H
  rw [wp_ret]; imodintro
  rw [shapeCast_self]
  iapply Hk
  isplitl [Ha]; · iexact Ha
  unfold putBatch; iexact H

/-- The partial sums assembled from their four batches. -/
def ofBatches (B : Fin 4 → FVec F S256x1024 .bf16) : Vec F S1024x1024 .bf16 := fun i =>
  B ⟨(i 0).val / 256, by have h : (i 0).val < 1024 := (i 0).isLt; omega⟩ (fun a => match a with | ⟨0, _⟩ => ⟨(i 0).val % 256, by show _ < 256; omega⟩ | ⟨1, _⟩ => i 1)

/-- The rows of the first `n` batches are in place. -/
def Upto (B : Fin 4 → FVec F S256x1024 .bf16) (n : ℕ) (f : Vec F S1024x1024 .bf16) : Prop := ∀ i : S1024x1024.Idx, (i 0).val < 256 * n → f i = ofBatches B i

theorem Upto.zero (B : Fin 4 → FVec F S256x1024 .bf16) (f : Vec F S1024x1024 .bf16) : Upto B 0 f := fun i h => absurd h (by omega)
theorem Upto.all {B : Fin 4 → FVec F S256x1024 .bf16} {f : Vec F S1024x1024 .bf16} (h : Upto B 4 f) : f = ofBatches B :=
  funext fun i => h i (by have h : (i 0).val < 1024 := (i 0).isLt; omega)

theorem Upto.put {B : Fin 4 → FVec F S256x1024 .bf16} (b : Fin 4) {f : Vec F S1024x1024 .bf16} (h : Upto B b.val f) : Upto B (b.val + 1) (putBatch f b (B b)) := by
  intro i hi
  unfold putBatch
  by_cases hl : 256 * b.val ≤ (i 0).val
  · let x : S256x1024.Idx := fun a => match a with
      | ⟨0, _⟩ => ⟨(i 0).val - 256 * b.val, by show _ < 256; omega⟩
      | ⟨1, _⟩ => i 1
    have hx : (pM.access (Rect.unit (s := S1024x1024) (bO b) S256x1024.size (bO_in b))).emb x = i := by
      funext a
      match a with
      | ⟨0, _⟩ => exact Fin.ext (by show 256 * b.val + 1 * ((i 0).val - 256 * b.val) = (i 0).val; omega)
      | ⟨1, _⟩ => exact Fin.ext (by show 0 + 1 * (i 1).val = (i 1).val; omega)
    have hw := View.write_emb_of_mem (Val := Elt F) (v := pM.access (Rect.unit (s := S1024x1024) (bO b) S256x1024.size (bO_in b))) f (B b) (Finset.mem_univ x)
    rw [hx] at hw
    refine hw.trans ?_
    unfold ofBatches
    have e1 : (⟨(i 0).val / 256, by have h : (i 0).val < 1024 := (i 0).isLt; omega⟩ : Fin 4) = b := Fin.ext (by show (i 0).val / 256 = b.val; omega)
    rw [e1]
    show B b x = B b _
    congr 1
    funext a
    match a with
    | ⟨0, _⟩ => exact Fin.ext (by show (i 0).val - 256 * b.val = (i 0).val % 256; omega)
    | ⟨1, _⟩ => rfl
  · rw [View.write_of_not_mem]
    · exact h i (by omega)
    · intro hm
      obtain ⟨x, -, rfl⟩ := Finset.mem_map.mp hm
      apply hl
      show 256 * b.val ≤ 256 * b.val + 1 * (x 0).val; omega

/-! ### The barrier -/

variable (P : Dev nD → Vec F S1024x1024 .bf16) (K : Dev nD × KI → ℕ)

theorem wp_handshake (c : Dev nD) (Q : PUnit → sProp 𝕄) :
    iprop(recs P K ∗ owesE c (O₀ c) ∗ dutyTok ER (barCell (tgt c 1)) 0 0 ∗ dutyTok ER (barCell (tgt c 0)) 0 1
        ∗ barPay (tgt c 1) 0 ∗ barPay (tgt c 0) 1 ∗ cred (tallyAt (barCell c) () 2) ∗ atPos ER (barCell c) 0 ∅ 0)
      ⊢ iprop(((owesE c (owedK c [0, 1, 2, 3, 4, 5]) ∗ atPos ER (barCell c) 1 ∅ 0 ∗ barPay c 0 ∗ barPay c 1) -∗ Q ⟨⟩)
        -∗ WP c (handshake (tgt c 1) (tgt c 0)) Q) := by
  unfold owesE
  iintro ⟨#HR, ⟨%W, HO⟩, Ht1, Ht0, Hp1, Hp0, Hc, Hat⟩ Hk
  unfold handshake
  simp only [semSignalWord, semWaitWord, Prog.lift, Prog.bind_op, Prog.bind_ret, Prog.pure_eq_ret]
  unfold O₀
  iapply (Rounds.wp_signal 𝒱₀ ER (ringRd P) (c : Thread nD τ) none (dst := (tgt c 1 : Thread nD τ)) (κ := K (tgt c 1, none))
      (d := (0 : Fin 2)) (by rw [duties_k P (tgt c 1) none]; exact Finset.mem_univ _) ((amount_k P (tgt c 1) none 0 0).trans (by decide)) ()
      (owedK c [0, 1, 2, 3, 4, 5] + tallyAt (barCell (tgt c 0)) () 1) rfl (W := W)) $$ [HO Ht1 Hp1]
  · isplitr; · iapply (recs_inv P K (tgt c 1) none); iexact HR
    isplitl [HO]; · iexact HO
    isplitl [Ht1]; · iexact Ht1
    isplitl [Hp1]; · rw [payload_k P (tgt c 1) none, show kPay P (tgt c 1) 0 (some none) = barPay (tgt c 1) 0 from rfl]; iexact Hp1
    iapply (recs_reached P K (tgt c 1) none); iexact HR
  iintro HO
  iapply (Rounds.wp_signal 𝒱₀ ER (ringRd P) (c : Thread nD τ) none (dst := (tgt c 0 : Thread nD τ)) (κ := K (tgt c 0, none))
      (d := (1 : Fin 2)) (by rw [duties_k P (tgt c 0) none]; exact Finset.mem_univ _) ((amount_k P (tgt c 0) none 0 1).trans (by decide)) ()
      (owedK c [0, 1, 2, 3, 4, 5]) rfl (W := W)) $$ [HO Ht0 Hp0]
  · isplitr; · iapply (recs_inv P K (tgt c 0) none); iexact HR
    isplitl [HO]; · iexact HO
    isplitl [Ht0]; · iexact Ht0
    isplitl [Hp0]; · rw [payload_k P (tgt c 0) none, show kPay P (tgt c 0) 1 (some none) = barPay (tgt c 0) 1 from rfl]; iexact Hp0
    iapply (recs_reached P K (tgt c 0) none); iexact HR
  iintro HO
  iapply (Rounds.wp_wait_rest_token 𝒱₀ ER (ringRd P) (c : Thread nD τ) none (κ := K (c, none))
      (wpE_semWait_eq 𝒱₀ (c : Thread nD τ) none Set.univ) (Set.mem_univ _) () (O := owedK c [0, 1, 2, 3, 4, 5]) (W := W) (R := 0) (m := 0) (T := ∅)
      (by rw [expect_bar]; decide)) $$ [Hc HO Hat]
  · isplitr; · iapply (recs_inv P K c none); iexact HR
    isplitl [Hc]; · iexact Hc
    isplitl [HO]; · iexact HO
    isplitr
    · iapply (mayWait 1 c (csem none) (by rw [kOf_csem]; exact le_refl _) _ (Above.owedK 1 c _ (fun k _ => by omega)))
      iapply (recs_lev P K); iexact HR
    iexact Hat
  iintro ⟨HO, Hat, -, Hp⟩
  rw [wp_ret]; imodintro
  iapply Hk
  isplitl [HO]; · iexists _; iexact HO
  isplitl [Hat]; · iexact Hat
  iapply (Entails.of_eq (rest_bar P c)); iexact Hp

end Cert.KernelIdeal.Ring

end
-- ==== Proof.RingState.lean ====
module

public import proofs.«01_k».proof.Proof.RingBuf
public import proofs.«01_k».proof.Proof.BodyWp

@[expose] public section

set_option maxRecDepth 16384

noncomputable section

/-! What a device holds of the ring at launch, after the barrier and after the ring; and the two steps between. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Vec F S1024x1024 .bf16) (c : Dev nD)

/-- The tokens a copy's start spends. -/
def sendTok (k : Fin 6) (l : Fin 2 × Fin 4) : sProp 𝕄 :=
  iprop(dutyTok ER (sendCell c l.1 l.2 k) 0 0 ∗ dutyTok ER (recvCell (tgt c l.1) l.1 l.2 k) 0 0)

/-- The tokens, credits and positions of the ring at launch. -/
def toks0 : sProp 𝕄 :=
  iprop(dutyTok ER (barCell (tgt c 1)) 0 0 ∗ dutyTok ER (barCell (tgt c 0)) 0 1 ∗ cred (tallyAt (barCell c) () 2) ∗ atPos ER (barCell c) 0 ∅ 0
    ∗ six (sendTok c) ∗ six (canRecv c) ∗ six (unsent c))
/-- Before the barrier, -/
def ring0 : sProp 𝕄 := iprop((∃ K, recs P K) ∗ toks0 (F := F) c ∗ bufAny (F := F) RM c ∗ bufAny (F := F) SM c ∗ bufAny (F := F) AM c)
/-- between the barrier and the ring, -/
def ring1 : sProp 𝕄 := iprop(∃ K, recs P K ∗ atPos ER (barCell c) 1 ∅ 0 ∗ ringIn (F := F) c)
/-- and at the end. -/
def ring2 : sProp 𝕄 := iprop((bigSep Finset.univ fun k : KI => semVal (kcell (c, k)) 0) ∗ bufAny (F := F) RM c ∗ bufAny (F := F) SM c ∗ bufAny (F := F) AM c)

theorem land_pays : six (fun k l => anyAt (F := F) c (dstM l.1 l.2 k)) ⊢ iprop(barPay (F := F) (tgt c 1) 0 ∗ barPay (F := F) (tgt c 0) 1) := by
  rw [six_dirs]
  unfold barPay
  rw [show tgt (tgt c 1) 0 = c from tgt_src c 0, show tgt (tgt c 0) 1 = c from tgt_src c 1]
theorem pays_land : iprop(barPay (F := F) c 0 ∗ barPay (F := F) c 1) ⊢ six (fun k l => anyAt (F := F) (tgt c l.1) (dstM l.1 l.2 k)) := by
  rw [six_dirs]
  unfold barPay
  exact BIBase.Entails.refl
theorem land_of : iprop(bufAny (F := F) RM c ∗ bufAny (F := F) AM c) ⊢ six (fun k l => anyAt (F := F) c (dstM l.1 l.2 k)) := by
  iintro ⟨HR, HA⟩
  ihave HR := (buf_split RM (View.set_whole _) c) $$ HR
  ihave HA := (buf_split AM (View.set_whole _) c) $$ HA
  icases HR with ⟨R0, R1, R2⟩
  icases HA with ⟨A0, A1, A2⟩
  iapply six_in
  isplitl [R0]; · iexact R0
  isplitl [R1]; · iexact R1
  isplitl [R2]; · iexact R2
  isplitl [A0]; · iexact A0
  isplitl [A1]; · iexact A1
  iexact A2
theorem canSend_of : iprop(six (sendTok (F := F) c) ∗ six (fun k l => anyAt (F := F) (tgt c l.1) (dstM l.1 l.2 k))) ⊢ six (canSend (F := F) c) := by
  rw [← six_sep]
  refine six_mono fun k l => ?_
  unfold sendTok canSend
  iintro ⟨⟨H1, H2⟩, H3⟩
  isplitl [H1]; · iexact H1
  isplitl [H2]; · iexact H2
  iexact H3

/-- The barrier. -/
theorem wp_meet (Q : PUnit → sProp 𝕄) :
    iprop(ring0 P c ∗ owesE c (O₀ c)) ⊢ iprop(((ring1 P c ∗ owesE c (owedK c [0, 1, 2, 3, 4, 5])) -∗ Q ⟨⟩) -∗ WP c (handshake (tgt c 1) (tgt c 0)) Q) := by
  unfold ring0 toks0 ring1
  iintro ⟨⟨⟨%K, #HR⟩, ⟨Ht1, Ht0, Hc, Hat, Hst, Hcr, Hun⟩, HRM, HSM, HAM⟩, HO⟩ Hk
  ihave HL := (land_of c) $$ [HRM HAM]
  · isplitl [HRM]; · iexact HRM
    iexact HAM
  ihave HP := (land_pays c) $$ HL
  icases HP with ⟨Hp1, Hp0⟩
  iapply (wp_handshake P K c) $$ [HO Ht1 Ht0 Hp1 Hp0 Hc Hat]
  · isplitr; · iexact HR
    isplitl [HO]; · iexact HO
    isplitl [Ht1]; · iexact Ht1
    isplitl [Ht0]; · iexact Ht0
    isplitl [Hp1]; · iexact Hp1
    isplitl [Hp0]; · iexact Hp0
    isplitl [Hc]; · iexact Hc
    iexact Hat
  iintro ⟨HO, Hat, Hb0, Hb1⟩
  iapply Hk
  isplitr [HO]; swap; · iexact HO
  iexists K
  isplitr; · iexact HR
  isplitl [Hat]; · iexact Hat
  unfold ringIn
  isplitl [Hst Hb0 Hb1]
  · iapply (canSend_of c)
    isplitl [Hst]; · iexact Hst
    iapply (pays_land c)
    isplitl [Hb0]; · iexact Hb0
    iexact Hb1
  isplitl [Hcr]; · iexact Hcr
  isplitl [Hun]; · iexact Hun
  ihave HS := (buf_split SM (View.set_whole _) c) $$ HSM
  iexact HS

/-! ### The end of the ring -/

variable (K : Dev nD × KI → ℕ)

theorem insert_eq (S : Finset KI) (k : KI) (h : k ∉ S) (Φ : KI → sProp 𝕄) : bigSep (insert k S) Φ = iprop(Φ k ∗ bigSep S Φ) := BI.bigSep_insert h

/-- The ring's cells close to their counters at zero. -/
theorem close_all (S : Finset KI) :
    iprop(recs P K ∗ bigSep S (fun k => atPos ER (kcell (c, k)) 1 ∅ 0)) ⊢ iprop(|={Set.univ}=> (bigSep S fun k => semVal (kcell (c, k)) 0 : sProp 𝕄)) := by
  classical
  induction S using Finset.induction_on with
  | empty => rw [BI.bigSep_empty, BI.bigSep_empty]; iintro ⟨-, H⟩; imodintro; iexact H
  | insert k S hk ih =>
    rw [insert_eq S k hk, insert_eq S k hk]
    iintro ⟨#HR, Hat, HS⟩
    imod (Rounds.cell_close ER (ringRd P) (Set.mem_univ (K (c, k))) (fun h => h) (R := 1) (duties_later P (kcell (c, k)))) $$ [Hat] with Hz
    · isplitr; · iapply (recs_inv P K c k); iexact HR
      iexact Hat
    imod ih $$ [HS] with HS
    · isplitr; · iexact HR
      iexact HS
    imodintro
    isplitl [Hz]; · iexact Hz
    iexact HS

theorem sems_eq (Φ : KI → sProp 𝕄) :
    bigSep Finset.univ Φ = iprop((six (fun k l => Φ (some (false, l.1, l.2, k))) ∗ six (fun k l => Φ (some (true, l.1, l.2, k)))) ∗ Φ none) := by
  rw [six_eq, six_eq, BI.bigSep_univ_equiv (Equiv.optionEquivSumPUnit.{0} (Bool × Fin 2 × Fin 4 × Fin 6)).symm, BI.bigSep_univ_sum,
    bigSep_univ_eq_bigSepL [PUnit.unit] (by decide) (by decide), bigSepL_singleton, BI.bigSep_univ_prod, bigSep_univ_eq_bigSepL [false, true] (by decide) (by decide),
    bigSepL_cons_cons, bigSepL_singleton, BI.bigSep_univ_comm (fun (k : Fin 6) (l : Fin 2 × Fin 4) => Φ (some (false, l.1, l.2, k))), BI.bigSep_univ_comm (fun (k : Fin 6) (l : Fin 2 × Fin 4) => Φ (some (true, l.1, l.2, k)))]
  have e : ∀ b : Bool, (bigSep Finset.univ fun x : Fin 2 × Fin 4 × Fin 6 => Φ (some (b, x))) = (bigSep Finset.univ fun l : Fin 2 × Fin 4 => bigSep Finset.univ fun k => Φ (some (b, l.1, l.2, k)) : sProp 𝕄) := fun b => by
    rw [BI.bigSep_univ_prod, BI.bigSep_univ_prod]
    exact congrArg _ (funext fun d => BI.bigSep_univ_prod _)
  rw [← e, ← e]
  rfl

/-- The positions of all the ring's cells, from the barrier's and the copies'. -/
theorem pos_all : iprop(atPos ER (barCell c) 1 ∅ 0 ∗ six (recvd (F := F) c) ∗ six (left (F := F) c)) ⊢ (bigSep Finset.univ (fun k : KI => atPos ER (kcell (c, k)) 1 ∅ 0) : sProp 𝕄) := by
  have e := sems_eq (F := F) (fun k : KI => atPos ER (kcell (c, k)) 1 ∅ 0)
  rw [e]
  iintro ⟨H, Hr, Hl⟩
  isplitr [H]; swap; · iexact H
  isplitl [Hl]; · iexact Hl
  iexact Hr

theorem any_of (c' : Dev nD) (m : Memref sig .tc .vmem S32x1024 .bf16) (X : Rows F) : owns (c' : Thread nD τ) m fullShare X ⊢ anyAt (F := F) c' m := by
  unfold anyAt; iintro H; iexists X; iexact H
theorem all_any (c' : Dev nD) (m : Fin 2 × Fin 4 → Memref sig .tc .vmem S32x1024 .bf16) (X : Fin 2 × Fin 4 → Rows F) :
    all (fun l => owns (c' : Thread nD τ) (m l) fullShare (X l)) ⊢ all (fun l => anyAt (F := F) c' (m l)) :=
  bigSepL_mono fun l _ => any_of c' (m l) (X l)

/-- The ring. -/
theorem wp_ring (Q : PUnit → sProp 𝕄) :
    iprop(ring1 P c ∗ owesE c (owedK c [0, 1, 2, 3, 4, 5]) ∗ pbufP c (P c) ∗ outAny c)
      ⊢ iprop(((ring2 (F := F) c ∗ owesE c 0 ∗ (∃ f, pbufP (F := F) c f) ∗ (((c : Thread nD τ).loc cc0_stg3_0) ↦{fullShare} outFin P)) -∗ Q ⟨⟩)
        -∗ WP c (ringProg c oM) Q) := by
  unfold ring1
  iintro ⟨⟨%K, #HR, Hat, Hin⟩, HO, Hp, Ho⟩ Hk
  unfold pbufP
  ihave Hp' := (pbuf_split P c) $$ Hp
  icases Hp' with ⟨Hl, Hs, Hsp⟩
  iapply (wp_then c (ringProg c oM) (pure ⟨⟩) Q)
  iapply (ring_spec c P K) $$ [HO Hl Hs Hin Ho]
  · isplitl [HO Hl]
    · unfold St
      isplitr; · iexact HR
      isplitl [HO]; · iexact HO
      iexact Hl
    isplitl [Hs]; · iexact Hs
    isplitl [Hin]; · iexact Hin
    iexact Ho
  iintro ⟨HO, Hl, Hs, Hout, Ho⟩
  unfold ringOut
  icases Hout with ⟨Hrv, Hlf, D0, D1, D2, S1, S2, S3, D3, D4, D5⟩
  ihave Hpos := (pos_all c) $$ [Hat Hrv Hlf]
  · isplitl [Hat]; · iexact Hat
    isplitl [Hrv]; · iexact Hrv
    iexact Hlf
  imod (close_all P c K Finset.univ) $$ [Hpos] with Hz
  · isplitr; · iexact HR
    iexact Hpos
  rw [wp_pure]; imodintro
  iapply Hk
  isplitr [HO Hl Hs Hsp Ho]
  · unfold ring2
    isplitl [Hz]; · iexact Hz
    isplitl [D0 D1 D2]
    · iapply (buf_join RM (View.set_whole _) c (fun _ => (Scalar.ofBits .bf16 0x0000#16 : F .bf16)))
      isplitl [D0]; · iapply (all_any c (fun l => pc RM l.1 l.2 0) _); iexact D0
      isplitl [D1]; · iapply (all_any c (fun l => pc RM l.1 l.2 1) _); iexact D1
      iapply (all_any c (fun l => pc RM l.1 l.2 2) _); iexact D2
    isplitl [S1 S2 S3]
    · iapply (buf_join SM (View.set_whole _) c (fun _ => (Scalar.ofBits .bf16 0x0000#16 : F .bf16)))
      isplitl [S1]; · iapply (all_any c (fun l => pc SM l.1 l.2 0) _); iexact S1
      isplitl [S2]; · iapply (all_any c (fun l => pc SM l.1 l.2 1) _); iexact S2
      iapply (all_any c (fun l => pc SM l.1 l.2 2) _); iexact S3
    · iapply (buf_join AM (View.set_whole _) c (fun _ => (Scalar.ofBits .bf16 0x0000#16 : F .bf16)))
      isplitl [D3]; · iapply (all_any c (fun l => pc AM l.1 l.2 0) _); iexact D3
      isplitl [D4]; · iapply (all_any c (fun l => pc AM l.1 l.2 1) _); iexact D4
      iapply (all_any c (fun l => pc AM l.1 l.2 2) _); iexact D5
  isplitl [HO]; · iexact HO
  isplitl [Hl Hs Hsp]
  · iapply (pbuf_join P c)
    isplitl [Hl]; · iexact Hl
    isplitl [Hs]; · iexact Hs
    iexact Hsp
  iexact Ho

end Cert.KernelIdeal.Ring

end
-- ==== Proof.Steps.lean ====
module

public import proofs.«01_k».proof.Proof.RingState

@[expose] public section

set_option maxRecDepth 16384

noncomputable section

/-! The work of a grid point by its number: which phases run, and what each does to the buffers. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ### Points by number -/

/-- Point `t`'s grid coordinates, its slot, and the next point. -/
abbrev ix (t : Fin 8) : grid0.Coords := grid0.coords (t.cast N_0.symm)
abbrev sl (t : Fin 8) : Fin 2 := ⟨t.val % 2, Nat.mod_lt _ (by decide)⟩
abbrev nx (t : Fin 8) : Fin 8 := ⟨(t.val + 1) % 8, Nat.mod_lt _ (by decide)⟩
/-- The two points of batch `b`. -/
abbrev ev (b : Fin 4) : Fin 8 := ⟨2 * b.val, by omega⟩
abbrev od (b : Fin 4) : Fin 8 := ⟨2 * b.val + 1, by omega⟩

theorem c1_iff : ∀ t : Fin 8, k0_cond1 (ix t) = 1#1 ↔ t = 0 := by decide +kernel
theorem c2_iff : ∀ t : Fin 8, k0_cond2 (ix t) = 1#1 ↔ t ≠ 7 := by decide +kernel
theorem c6_iff : ∀ t : Fin 8, k0_cond6 (ix t) = 1#1 ↔ t = 7 := by decide +kernel
theorem c5_iff : ∀ t : Fin 8, k0_cond5 (ix t) = 1#1 ↔ t.val % 2 = 1 := by decide +kernel
theorem first_iff : ∀ t : Fin 8, isFirst (ix t) = 1#1 ↔ t.val % 2 = 0 := by decide +kernel
theorem later_iff : ∀ t : Fin 8, isLater (ix t) = 1#1 ↔ t.val % 2 = 1 := by decide +kernel

theorem o1 : k0_off1 (ix 0) = eO (sl 0) 0 := by decide +kernel
theorem o2 : k0_off2 (ix 0) = sO (sl 0) := by decide +kernel
theorem o3 : ∀ c : Dev nD, k0_off3 (ix 0) c = hO c 0 := by decide +kernel
theorem o4 : k0_off4 (ix 0) = eO (sl 0) 1 := by decide +kernel
theorem o5 : ∀ t : Fin 8, t ≠ 7 → k0_off5 (ix t) = eO (sl (nx t)) 0 := by decide +kernel
theorem o6 : ∀ t : Fin 8, t ≠ 7 → k0_off6 (ix t) = sO (sl (nx t)) := by decide +kernel
theorem o7 : ∀ (t : Fin 8) (c : Dev nD), t ≠ 7 → k0_off7 (ix t) c = hO c (nx t) := by decide +kernel
theorem o8 : ∀ t : Fin 8, t ≠ 7 → k0_off8 (ix t) = eO (sl (nx t)) 1 := by decide +kernel
theorem o9 : ∀ t : Fin 8, k0_off9 (ix t) = eO (sl t) 0 := by decide +kernel
theorem o10 : ∀ t : Fin 8, k0_off10 (ix t) = sO (sl t) := by decide +kernel
theorem o11 : ∀ (t : Fin 8) (c : Dev nD), k0_off11 (ix t) c = hO c t := by decide +kernel
theorem o12 : ∀ t : Fin 8, k0_off12 (ix t) = eO (sl t) 1 := by decide +kernel
theorem o13 : ∀ t : Fin 8, k0_off13 (ix t) = sO (sl t) := by decide +kernel
theorem o14 : ∀ b : Fin 4, k0_off14 (ix (od b)) = bO b := by decide +kernel
theorem dv1 : ∀ c : Dev nD, k0_dev1 c = (tgt c 1).val := by decide +kernel
theorem dv2 : ∀ c : Dev nD, k0_dev2 c = (tgt c 0).val := by decide +kernel

/-! ### Fetching and awaiting both heads -/

variable (fk fv : ArrV F)

def free2 (c : Dev nD) (s : Fin 2) : sProp 𝕄 := iprop(free1 kA kB c s 0 fk ∗ free1 vA vB c s 1 fv)
def fly2 (c : Dev nD) (t : Fin 8) : sProp 𝕄 := iprop(fly1 kA kB c (sl t) 0 t fk ∗ fly1 vA vB c (sl t) 1 t fv)
/-- Both heads landed. -/
def got2 (c : Dev nD) (t : Fin 8) : sProp 𝕄 := iprop(got1 kA kB c (sl t) 0 fk (headV c t fk) ∗ got1 vA vB c (sl t) 1 fv (headV c t fv))

theorem kvStart_congr {a : Memref sig .tc .hbm S4x1024x8x128 .f32} {b : Memref sig .tc .vmem S2x1024x128 .f32} {oa oa' : Fin 4 → ℕ} (ha : InA oa) (ha' : InA oa')
    {ob ob' : Fin 3 → ℕ} (hb : InB ob) (hb' : InB ob') {os os' : Fin 2 → ℕ} (hs : InS os) (hs' : InS os') (e1 : oa = oa') (e2 : ob = ob') (e3 : os = os') :
    kvStart (F := F) a b oa ha ob hb os hs = kvStart a b oa' ha' ob' hb' os' hs' := by subst e1; subst e2; subst e3; rfl
theorem kvWait_congr {a : Memref sig .tc .hbm S4x1024x8x128 .f32} {b : Memref sig .tc .vmem S2x1024x128 .f32} {oa oa' : Fin 4 → ℕ} (ha : InA oa) (ha' : InA oa')
    {ob ob' : Fin 3 → ℕ} (hb : InB ob) (hb' : InB ob') {os os' : Fin 2 → ℕ} (hs : InS os) (hs' : InS os') (e1 : oa = oa') (e2 : ob = ob') (e3 : os = os') :
    kvWait (F := F) a b oa ha ob hb os hs = kvWait a b oa' ha' ob' hb' os' hs' := by subst e1; subst e2; subst e3; rfl

/-- The fetch of point `t`'s heads. -/
def fetch (c : Dev nD) (t : Fin 8) (k : P0 F) : P0 F :=
  kvStart kA kB (hO c t) (hO_in c t) (sO (sl t)) (sO_in (sl t)) (eO (sl t) 0) (eO_in (sl t) 0) >>= fun _ =>
  kvStart vA vB (hO c t) (hO_in c t) (sO (sl t)) (sO_in (sl t)) (eO (sl t) 1) (eO_in (sl t) 1) >>= fun _ => k

theorem wp_fetch (c : Dev nD) (t : Fin 8) (k : P0 F) (Q : PUnit → sProp 𝕄) :
    free2 fk fv c (sl t) ⊢ iprop((fly2 fk fv c t -∗ WP c k Q) -∗ WP c (fetch c t k) Q) := by
  unfold free2 fly2 fetch
  iintro ⟨H1, H2⟩ Hk
  iapply wp_then
  iapply (wp_kvStart kA kB c (sl t) 0 t fk) $$ H1
  iintro H1
  iapply wp_then
  iapply (wp_kvStart vA vB c (sl t) 1 t fv) $$ H2
  iintro H2
  iapply Hk
  isplitl [H1]; · iexact H1
  iexact H2

def await (c : Dev nD) (t : Fin 8) : P0 F :=
  kvWait kA kB (hO c t) (hO_in c t) (sO (sl t)) (sO_in (sl t)) (eO (sl t) 0) (eO_in (sl t) 0) >>= fun _ =>
  kvWait vA vB (hO c t) (hO_in c t) (sO (sl t)) (sO_in (sl t)) (eO (sl t) 1) (eO_in (sl t) 1)
theorem await_eq (c : Dev nD) (t : Fin 8) : awaitBoth (F := F) (ix t) c = await c t := by
  unfold awaitBoth await
  rw [kvWait_congr _ (hO_in c t) _ (sO_in (sl t)) _ (eO_in (sl t) 0) (o11 t c) (o10 t) (o9 t), kvWait_congr _ (hO_in c t) _ (sO_in (sl t)) _ (eO_in (sl t) 1) (o11 t c) (o10 t) (o12 t)]

theorem kv_not_ring (s e : Fin 2) : ∀ k, csem k ≠ SemLoc.dma (kvS s e) := by
  rintro (_ | x) h
  · cases h
  · revert s e x; decide +kernel
theorem kv_lv (s e : Fin 2) : kLv (kOf (SemLoc.dma (kvS s e))) ≤ 0 := by rw [kOf_of_ne _ (kv_not_ring s e)]; exact le_refl _

/-- What a device owes from the barrier to the ring. -/
abbrev OK (c : Dev nD) : CellTallies nD τ sig Unit := owedK c [0, 1, 2, 3, 4, 5]

theorem wp_await (c : Dev nD) (t : Fin 8) (Q : PUnit → sProp 𝕄) :
    iprop(levAts L lv ∗ fly2 fk fv c t ∗ owesE c (OK c)) ⊢ iprop(((got2 fk fv c t ∗ owesE c (OK c)) -∗ Q ⟨⟩) -∗ WP c (await c t) Q) := by
  unfold fly2 got2 await
  iintro ⟨#HL, ⟨H1, H2⟩, HO⟩ Hk
  iapply wp_then
  iapply (wp_kvWait kA kB c (sl t) 0 t fk (OK c)) $$ [H1 HO]
  · isplitl [H1]; · iexact H1
    isplitl [HO]; · iexact HO
    iapply (mayWait 0 c _ (kv_lv _ _) _ (Above.owedK 0 c _ (fun k _ => by omega))); iexact HL
  iintro ⟨H1, HO⟩
  iapply (wp_kvWait vA vB c (sl t) 1 t fv (OK c)) $$ [H2 HO]
  · isplitl [H2]; · iexact H2
    isplitl [HO]; · iexact HO
    iapply (mayWait 0 c _ (kv_lv _ _) _ (Above.owedK 0 c _ (fun k _ => by omega))); iexact HL
  iintro ⟨H2, HO⟩
  iapply Hk
  isplitr [HO]; swap; · iexact HO
  isplitl [H1]; · iexact H1
  iexact H2

/-! ### The attention of a point -/

/-- A point's three blocks, in their buffers. -/
def blk3 (c : Dev nD) (x : Memref sig .tc .vmem S1x256x1024 .bf16) (wq : Memref sig .tc .vmem S1024x512 .bf16) (wo : Memref sig .tc .vmem S512x1024 .bf16)
    (vx : Vec F S1x256x1024 .bf16) (vq : Vec F S1024x512 .bf16) (vo : Vec F S512x1024 .bf16) : sProp 𝕄 :=
  iprop(owns (c : Thread nD τ) x fullShare vx ∗ owns (c : Thread nD τ) wq fullShare vq ∗ owns (c : Thread nD τ) wo fullShare vo)

variable (x : Memref sig .tc .vmem S1x256x1024 .bf16) (wq : Memref sig .tc .vmem S1024x512 .bf16) (wo : Memref sig .tc .vmem S512x1024 .bf16)
variable (vx : Vec F S1x256x1024 .bf16) (vq : Vec F S1024x512 .bf16) (vo : Vec F S512x1024 .bf16)

theorem group_congr {o o' : Fin 3 → ℕ} (h : InB o) (h' : InB o') (e : o = o') : groupProg (F := F) x wq wo o h = groupProg x wq wo o' h' := by subst e; rfl

/-- Awaiting the heads, then the group's attention: the slots are free again. -/
theorem wp_attend (c : Dev nD) (t : Fin 8) (k : FVec F S256x1024 .f32 → P0 F) (Q : PUnit → sProp 𝕄) :
    iprop(levAts L lv ∗ fly2 fk fv c t ∗ owesE c (OK c) ∗ blk3 c x wq wo vx vq vo)
      ⊢ iprop(((free2 fk fv c (sl t) ∗ owesE c (OK c) ∗ blk3 c x wq wo vx vq vo) -∗ WP c (k (groupV vx vq (headV c t fk) (headV c t fv) vo)) Q)
        -∗ WP c (awaitBoth (ix t) c >>= fun _ => groupProg x wq wo (k0_off13 (ix t)) (k0_off13_inb (ix t)) >>= k) Q) := by
  rw [await_eq, group_congr x wq wo _ (sO_in (sl t)) (o13 t)]
  iintro ⟨#HL, Hf, HO, Hb⟩ Hk
  iapply wp_then
  iapply (wp_await fk fv c t) $$ [Hf HO]
  · isplitr; · iexact HL
    isplitl [Hf]; · iexact Hf
    iexact HO
  unfold got2 got1 blk3
  iintro ⟨⟨⟨K1, K2, K3⟩, V1, V2, V3⟩, HO⟩
  icases Hb with ⟨Hx, Hq, Ho⟩
  unfold WP; rw [wp_bind]
  iapply (wp_group c (sl t) x wq wo vx vq vo (headV c t fk) (headV c t fv)) $$ [Hx Hq Ho K1 V1]
  · isplitl [Hx]; · iexact Hx
    isplitl [Hq]; · iexact Hq
    isplitl [Ho]; · iexact Ho
    isplitl [K1]; · iexact K1
    iexact V1
  iintro ⟨Hx, Hq, Ho, K1, V1⟩
  iapply Hk
  isplitl [K1 K2 K3 V1 V2 V3]
  · unfold free2 free1
    isplitl [K1 K2 K3]
    · isplitl [K1]; · iexists _; iexact K1
      isplitl [K2]; · iexact K2
      iexact K3
    · isplitl [V1]; · iexists _; iexact V1
      isplitl [V2]; · iexact V2
      iexact V3
  isplitl [HO]; · iexact HO
  isplitl [Hx]; · iexact Hx
  isplitl [Hq]; · iexact Hq
  iexact Ho

/-! ### Accumulation by parity -/

theorem wp_even (c : Dev nD) (b : Fin 4) (y : FVec F S256x1024 .f32) (k : P0 F) (Q : PUnit → sProp 𝕄) :
    iprop(∃ f, accP (F := F) c f) ⊢ iprop((accP c y -∗ WP c k Q) -∗ WP c (phase5 (ix (ev b)) y <| phase5' (ix (ev b)) y <| phase6 (ix (ev b)) k) Q) := by
  have h1 : isFirst (ix (ev b)) = 1#1 := (first_iff _).2 (by show 2 * b.val % 2 = 0; omega)
  have h2 : ¬isLater (ix (ev b)) = 1#1 := fun h => absurd ((later_iff _).1 h) (by show ¬(2 * b.val % 2 = 1); omega)
  have h3 : ¬k0_cond5 (ix (ev b)) = 1#1 := fun h => absurd ((c5_iff _).1 h) (by show ¬(2 * b.val % 2 = 1); omega)
  unfold phase5 phase5' phase6
  rw [dif_pos h1, dif_neg h2, dif_neg h3]
  iintro ⟨%f, H⟩ Hk
  iapply wp_then
  iapply (wp_accFirst c f y) $$ H
  iexact Hk

theorem store_congr {o o' : Fin 2 → ℕ} (h : ∀ a, o a + S256x1024.size a ≤ S1024x1024.size a) (h' : ∀ a, o' a + S256x1024.size a ≤ S1024x1024.size a)
    (hp : (Rect.unit (s := S1024x1024) o S256x1024.size h).PackedRows (EltTy.packing .bf16)) (e : o = o') :
    ∃ hp' : (Rect.unit (s := S1024x1024) o' S256x1024.size h').PackedRows (EltTy.packing .bf16), batchStore (F := F) o h hp = batchStore o' h' hp' := by subst e; exact ⟨hp, rfl⟩

theorem wp_odd (c : Dev nD) (b : Fin 4) (y₀ y : FVec F S256x1024 .f32) (f : Vec F S1024x1024 .bf16) (k : P0 F) (Q : PUnit → sProp 𝕄) :
    iprop(accP c y₀ ∗ pbufP c f)
      ⊢ iprop((((∃ f, accP (F := F) c f) ∗ pbufP c (putBatch f b (truncf .bf16 (addf y₀ y) bitsLt_bf16_f32))) -∗ WP c k Q)
        -∗ WP c (phase5 (ix (od b)) y <| phase5' (ix (od b)) y <| phase6 (ix (od b)) k) Q) := by
  have h1 : ¬isFirst (ix (od b)) = 1#1 := fun h => absurd ((first_iff _).1 h) (by show ¬((2 * b.val + 1) % 2 = 0); omega)
  have h2 : isLater (ix (od b)) = 1#1 := (later_iff _).2 (by show (2 * b.val + 1) % 2 = 1; omega)
  have h3 : k0_cond5 (ix (od b)) = 1#1 := (c5_iff _).2 (by show (2 * b.val + 1) % 2 = 1; omega)
  unfold phase5 phase5' phase6
  rw [dif_neg h1, dif_pos h2, dif_pos h3]
  obtain ⟨hp, e⟩ := store_congr (F := F) (k0_off14_inb (ix (od b)) h3) (bO_in b) (k0_off14_packedbf16 (ix (od b)) h3) (o14 b)
  rw [e]
  iintro ⟨Ha, Hp⟩ Hk
  iapply wp_then
  iapply (wp_accMore c y₀ y) $$ Ha
  iintro Ha
  iapply wp_then
  iapply (wp_batchStore c b hp (addf y₀ y) f) $$ [Ha Hp]
  · isplitl [Ha]; · iexact Ha
    iexact Hp
  iintro ⟨Ha, Hp⟩
  iapply Hk
  isplitl [Ha]; · iexists _; iexact Ha
  iexact Hp

end Cert.KernelIdeal.Ring

end
-- ==== Proof.Points.lean ====
module

public import proofs.«01_k».proof.Proof.Steps

@[expose] public section

set_option maxRecDepth 16384

noncomputable section

/-! What a device holds between two grid points, and the body from one point to the next. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section
variable (Y : ℕ → FVec F S256x1024 .f32)

/-- A batch's rows: its two groups' products added, as bf16. -/
def batchOf (b : Fin 4) : FVec F S256x1024 .bf16 := truncf .bf16 (addf (Y (2 * b.val)) (Y (2 * b.val + 1))) bitsLt_bf16_f32

/-- The accumulator before point `n`: at an odd point the batch's first product. -/
def accAt (c : Dev nD) (n : ℕ) : sProp 𝕄 := if n % 2 = 0 then iprop(∃ f, accP (F := F) c f) else accP c (Y (n - 1))
theorem accAt_even (c : Dev nD) {n : ℕ} (h : n % 2 = 0) : accAt Y c n = iprop(∃ f, accP (F := F) c f) := if_pos h
theorem accAt_odd (c : Dev nD) {n : ℕ} (h : ¬n % 2 = 0) : accAt Y c n = accP c (Y (n - 1)) := if_neg h
/-- The partial sums before point `n`: the finished batches' rows in place. -/
def sumsAt (c : Dev nD) (n : ℕ) : sProp 𝕄 := iprop(∃ f, ⌜Upto (batchOf Y) (n / 2) f⌝ ∗ pbufP (F := F) c f)
end

variable (P : Dev nD → Vec F S1024x1024 .bf16) (fk fv : ArrV F) (Y : ℕ → FVec F S256x1024 .f32) (c : Dev nD)
variable (x : Memref sig .tc .vmem S1x256x1024 .bf16) (wq : Memref sig .tc .vmem S1024x512 .bf16) (wo : Memref sig .tc .vmem S512x1024 .bf16)
variable (vx : Vec F S1x256x1024 .bf16) (vq : Vec F S1024x512 .bf16) (vo : Vec F S512x1024 .bf16)

/-- Before the first point, -/
def stFirst : sProp 𝕄 := iprop((free2 fk fv c (sl 0) ∗ free2 fk fv c (sl (nx 0))) ∗ (∃ f, accP (F := F) c f) ∗ (∃ f, pbufP (F := F) c f) ∗ ring0 P c)
/-- before a later point `t`, -/
def stMid (t : Fin 8) : sProp 𝕄 := iprop((fly2 fk fv c t ∗ free2 fk fv c (sl (nx t))) ∗ accAt Y c t.val ∗ sumsAt Y c t.val ∗ ring1 P c)
/-- and after the last. -/
def stLast : sProp 𝕄 := iprop((free2 fk fv c (sl (nx 7)) ∗ free2 fk fv c (sl 7)) ∗ (∃ f, accP (F := F) c f) ∗ (∃ f, pbufP (F := F) c f) ∗ ring2 (F := F) c)

/-- The attention of a point and its accumulation. -/
abbrev work (t : Fin 8) (k : P0 F) : P0 F :=
  awaitBoth (ix t) c >>= fun _ => groupProg x wq wo (k0_off13 (ix t)) (k0_off13_inb (ix t)) >>= fun y => phase5 (ix t) y <| phase5' (ix t) y <| phase6 (ix t) k

theorem wp_work (t : Fin 8) (hY : Y t.val = groupV vx vq (headV c t fk) (headV c t fv) vo) (k : P0 F) (Q : PUnit → sProp 𝕄) :
    iprop(levAts L lv ∗ fly2 fk fv c t ∗ owesE c (OK c) ∗ blk3 c x wq wo vx vq vo ∗ accAt Y c t.val ∗ sumsAt Y c t.val)
      ⊢ iprop(((free2 fk fv c (sl t) ∗ owesE c (OK c) ∗ blk3 c x wq wo vx vq vo ∗ accAt Y c (t.val + 1) ∗ sumsAt Y c (t.val + 1)) -∗ WP c k Q)
        -∗ WP c (work c x wq wo t k) Q) := by
  iintro ⟨#HL, Hf, HO, Hb, Ha, Hs⟩ Hk
  iapply (wp_attend fk fv x wq wo vx vq vo c t) $$ [Hf HO Hb]
  · isplitr; · iexact HL
    isplitl [Hf]; · iexact Hf
    isplitl [HO]; · iexact HO
    iexact Hb
  rw [← hY]
  iintro ⟨Hf, HO, Hb⟩
  rcases Nat.mod_two_eq_zero_or_one t.val with ht | ht
  · obtain ⟨b, rfl⟩ : ∃ b : Fin 4, t = ev b := ⟨⟨t.val / 2, by omega⟩, Fin.ext (by show t.val = 2 * (t.val / 2); omega)⟩
    ihave Ha := (Entails.of_eq (accAt_even Y c ht)) $$ Ha
    iapply (wp_even c b (Y (ev b).val)) $$ Ha
    iintro Ha
    iapply Hk
    isplitl [Hf]; · iexact Hf
    isplitl [HO]; · iexact HO
    isplitl [Hb]; · iexact Hb
    isplitl [Ha]; · iapply (Entails.of_eq (accAt_odd Y c (n := (ev b).val + 1) (by omega)).symm); iexact Ha
    unfold sumsAt
    rw [show ((ev b).val + 1) / 2 = (ev b).val / 2 by show (2 * b.val + 1) / 2 = 2 * b.val / 2; omega]
    iexact Hs
  · obtain ⟨b, rfl⟩ : ∃ b : Fin 4, t = od b := ⟨⟨t.val / 2, by omega⟩, Fin.ext (by show t.val = 2 * (t.val / 2) + 1; omega)⟩
    ihave Ha := (Entails.of_eq (accAt_odd Y c (by omega))) $$ Ha
    unfold sumsAt
    icases Hs with ⟨%f, %hf, Hs⟩
    iapply (wp_odd c b (Y ((od b).val - 1)) (Y (od b).val) f) $$ [Ha Hs]
    · isplitl [Ha]; · iexact Ha
      iexact Hs
    iintro ⟨Ha, Hs⟩
    iapply Hk
    isplitl [Hf]; · iexact Hf
    isplitl [HO]; · iexact HO
    isplitl [Hb]; · iexact Hb
    isplitl [Ha]; · iapply (Entails.of_eq (accAt_even Y c (n := (od b).val + 1) (by omega)).symm); iexact Ha
    iexists _; isplitr; swap; · iexact Hs
    ipureintro
    rw [show ((od b).val + 1) / 2 = b.val + 1 by show (2 * b.val + 1 + 1) / 2 = b.val + 1; omega]
    rw [show (od b).val / 2 = b.val by show (2 * b.val + 1) / 2 = b.val; omega] at hf
    exact Upto.put b hf

theorem device_eq (i : grid0.Coords) (o : Memref sig .tc .vmem S1024x1024 .f32) (Q : PUnit → sProp 𝕄) :
    WP c (phase1 i c <| phase2 i c <| awaitBoth i c >>= fun _ =>
      groupProg x wq wo (k0_off13 i) (k0_off13_inb i) >>= fun y => phase5 i y <| phase5' i y <| phase6 i <| phase7 i o c) Q ⊢ WP c (bodyProg i x wq wo o) Q := by
  unfold bodyProg
  simp only [Prog.lift, Prog.bind_op, Prog.bind_ret]
  unfold WP
  rw [wp_deviceId]

theorem next_eq (t : Fin 8) (ht : t ≠ 7) (k : P0 F) : phase2 (ix t) c k = fetch c (nx t) k := by
  unfold phase2 fetch
  rw [dif_pos ((c2_iff t).2 ht)]
  unfold fetchNext
  rw [kvStart_congr _ (hO_in c (nx t)) _ (sO_in (sl (nx t))) _ (eO_in (sl (nx t)) 0) (o7 t c ht) (o6 t ht) (o5 t ht),
    kvStart_congr _ (hO_in c (nx t)) _ (sO_in (sl (nx t))) _ (eO_in (sl (nx t)) 1) (o7 t c ht) (o6 t ht) (o8 t ht)]
  rfl
theorem first_eq (k : P0 F) : phase1 (ix 0) c k = fetch c 0 (handshake (tgt c 1) (tgt c 0) >>= fun _ => k) := by
  unfold phase1 fetch
  rw [dif_pos ((c1_iff 0).2 rfl)]
  unfold fetchFirst
  rw [kvStart_congr _ (hO_in c 0) _ (sO_in (sl 0)) _ (eO_in (sl 0) 0) (o3 c) o2 o1,
    kvStart_congr _ (hO_in c 0) _ (sO_in (sl 0)) _ (eO_in (sl 0) 1) (o3 c) o2 o4,
    show (⟨k0_dev1 c, k0_dev1_lt (ix 0) c ((c1_iff 0).2 rfl)⟩ : Dev nD) = tgt c 1 from Fin.ext (dv1 c),
    show (⟨k0_dev2 c, k0_dev2_lt (ix 0) c ((c1_iff 0).2 rfl)⟩ : Dev nD) = tgt c 0 from Fin.ext (dv2 c)]
  rfl
theorem later_eq (t : Fin 8) (ht : t ≠ 0) (k : P0 F) : phase1 (ix t) c k = k := by unfold phase1; exact dif_neg fun h => ht ((c1_iff t).1 h)
theorem end_eq (t : Fin 8) (ht : t ≠ 7) (o : Memref sig .tc .vmem S1024x1024 .f32) : phase7 (F := F) (ix t) o c = pure ⟨⟩ := by
  unfold phase7; exact dif_neg fun h => ht ((c6_iff t).1 h)

theorem ring1_lev : ring1 P c ⊢ iprop(levAts L lv ∗ ring1 P c) := by
  unfold ring1
  iintro ⟨%K, #HR, H⟩
  isplitr; · iapply (recs_lev P K); iexact HR
  iexists K; isplitr; · iexact HR
  iexact H

/-- A point's work up to the end of the body, the next heads in flight. -/
theorem wp_rest (t : Fin 8) (ht : t ≠ 7) (hY : Y t.val = groupV vx vq (headV c t fk) (headV c t fv) vo) (o : Memref sig .tc .vmem S1024x1024 .f32) (Q : PUnit → sProp 𝕄) :
    iprop((fly2 fk fv c t ∗ fly2 fk fv c (nx t)) ∗ accAt Y c t.val ∗ sumsAt Y c t.val ∗ ring1 P c ∗ owesE c (OK c) ∗ blk3 c x wq wo vx vq vo)
      ⊢ iprop(((stMid P fk fv Y c (nx t) ∗ owesE c (OK c) ∗ blk3 c x wq wo vx vq vo) -∗ Q ⟨⟩) -∗ WP c (work c x wq wo t (phase7 (ix t) o c)) Q) := by
  iintro ⟨⟨Hf, Hn⟩, Ha, Hs, Hr, HO, Hb⟩ Hk
  ihave Hr := (ring1_lev P c) $$ Hr
  icases Hr with ⟨#HL, Hr⟩
  iapply (wp_work fk fv Y c x wq wo vx vq vo t hY) $$ [Hf HO Hb Ha Hs]
  · isplitr; · iexact HL
    isplitl [Hf]; · iexact Hf
    isplitl [HO]; · iexact HO
    isplitl [Hb]; · iexact Hb
    isplitl [Ha]; · iexact Ha
    iexact Hs
  iintro ⟨Hf, HO, Hb, Ha, Hs⟩
  rw [end_eq c t ht]; unfold WP; rw [wp_pure]; imodintro
  have h7 : t.val < 7 := by have h := t.isLt; rcases Nat.lt_or_ge t.val 7 with h' | h'; · exact h'
                            exact absurd (Fin.ext (by show t.val = 7; omega)) ht
  iapply Hk
  isplitr [HO Hb]
  · unfold stMid
    rw [show sl (nx (nx t)) = sl t from Fin.ext (by show ((t.val + 1) % 8 + 1) % 8 % 2 = t.val % 2; omega), show (nx t).val = t.val + 1 from Nat.mod_eq_of_lt (by omega)]
    isplitl [Hn Hf]
    · isplitl [Hn]; · iexact Hn
      iexact Hf
    isplitl [Ha]; · iexact Ha
    isplitl [Hs]; · iexact Hs
    iexact Hr
  isplitl [HO]; · iexact HO
  iexact Hb

/-- The first point. -/
theorem wp_point0 (hY : Y 0 = groupV vx vq (headV c 0 fk) (headV c 0 fv) vo) (o : Memref sig .tc .vmem S1024x1024 .f32) (Q : PUnit → sProp 𝕄) :
    iprop(stFirst P fk fv c ∗ owesE c (O₀ c) ∗ blk3 c x wq wo vx vq vo)
      ⊢ iprop(((stMid P fk fv Y c (nx 0) ∗ owesE c (OK c) ∗ blk3 c x wq wo vx vq vo) -∗ Q ⟨⟩) -∗ WP c (bodyProg (ix 0) x wq wo o) Q) := by
  unfold stFirst
  iintro ⟨⟨⟨H0, H1⟩, Ha, ⟨%f, Hs⟩, Hr⟩, HO, Hb⟩ Hk
  iapply (device_eq c x wq wo (ix 0) o)
  rw [first_eq, next_eq c 0 (by decide)]
  iapply (wp_fetch fk fv c 0) $$ H0
  iintro H0
  iapply wp_then
  iapply (wp_meet P c) $$ [Hr HO]
  · isplitl [Hr]; · iexact Hr
    iexact HO
  iintro ⟨Hr, HO⟩
  iapply (wp_fetch fk fv c (nx 0)) $$ H1
  iintro H1
  iapply (wp_rest P fk fv Y c x wq wo vx vq vo 0 (by decide) hY o) $$ [H0 H1 Ha Hs Hr HO Hb]
  · isplitl [H0 H1]
    · isplitl [H0]; · iexact H0
      iexact H1
    isplitl [Ha]; · rw [accAt_even Y c (by decide)]; iexact Ha
    isplitl [Hs]
    · unfold sumsAt; iexists f; isplitr
      · ipureintro; exact Upto.zero _ f
      iexact Hs
    isplitl [Hr]; · iexact Hr
    isplitl [HO]; · iexact HO
    iexact Hb
  iexact Hk

/-- A point between. -/
theorem wp_pointMid (t : Fin 8) (h0 : t ≠ 0) (h7 : t ≠ 7) (hY : Y t.val = groupV vx vq (headV c t fk) (headV c t fv) vo) (o : Memref sig .tc .vmem S1024x1024 .f32) (Q : PUnit → sProp 𝕄) :
    iprop(stMid P fk fv Y c t ∗ owesE c (OK c) ∗ blk3 c x wq wo vx vq vo)
      ⊢ iprop(((stMid P fk fv Y c (nx t) ∗ owesE c (OK c) ∗ blk3 c x wq wo vx vq vo) -∗ Q ⟨⟩) -∗ WP c (bodyProg (ix t) x wq wo o) Q) := by
  rw [show stMid P fk fv Y c t = iprop((fly2 fk fv c t ∗ free2 fk fv c (sl (nx t))) ∗ accAt Y c t.val ∗ sumsAt Y c t.val ∗ ring1 P c) from rfl]
  iintro ⟨⟨⟨H0, H1⟩, Ha, Hs, Hr⟩, HO, Hb⟩ Hk
  iapply (device_eq c x wq wo (ix t) o)
  rw [later_eq c t h0, next_eq c t h7]
  iapply (wp_fetch fk fv c (nx t)) $$ H1
  iintro H1
  iapply (wp_rest P fk fv Y c x wq wo vx vq vo t h7 hY o) $$ [H0 H1 Ha Hs Hr HO Hb]
  · isplitl [H0 H1]
    · isplitl [H0]; · iexact H0
      iexact H1
    isplitl [Ha]; · iexact Ha
    isplitl [Hs]; · iexact Hs
    isplitl [Hr]; · iexact Hr
    isplitl [HO]; · iexact HO
    iexact Hb
  iexact Hk

/-- The last point: the ring over the partial sums. -/
theorem wp_point7 (hP : P c = ofBatches (batchOf Y)) (hY : Y 7 = groupV vx vq (headV c 7 fk) (headV c 7 fv) vo) (Q : PUnit → sProp 𝕄) :
    iprop(stMid P fk fv Y c 7 ∗ owesE c (OK c) ∗ blk3 c x wq wo vx vq vo ∗ outAny (F := F) c)
      ⊢ iprop(((stLast fk fv c ∗ owesE c 0 ∗ blk3 c x wq wo vx vq vo ∗ (((c : Thread nD τ).loc cc0_stg3_0) ↦{fullShare} outFin P)) -∗ Q ⟨⟩) -∗ WP c (bodyProg (ix 7) x wq wo oM) Q) := by
  unfold stMid
  iintro ⟨⟨⟨Hf, H0⟩, Ha, Hs, Hr⟩, HO, Hb, Ho⟩ Hk
  iapply (device_eq c x wq wo (ix 7) oM)
  rw [later_eq c 7 (by decide), show ∀ k : P0 F, phase2 (ix 7) c k = k from fun k => by unfold phase2; exact dif_neg fun h => (c2_iff 7).1 h rfl]
  ihave Hr := (ring1_lev P c) $$ Hr
  icases Hr with ⟨#HL, Hr⟩
  iapply (wp_work fk fv Y c x wq wo vx vq vo 7 hY) $$ [Hf HO Hb Ha Hs]
  · isplitr; · iexact HL
    isplitl [Hf]; · iexact Hf
    isplitl [HO]; · iexact HO
    isplitl [Hb]; · iexact Hb
    isplitl [Ha]; · iexact Ha
    iexact Hs
  iintro ⟨Hf, HO, Hb, Ha, Hs⟩
  rw [show phase7 (F := F) (ix 7) oM c = ringProg c oM from by unfold phase7; exact dif_pos ((c6_iff 7).2 rfl)]
  unfold sumsAt
  icases Hs with ⟨%f, %hf, Hs⟩
  have e : f = P c := (Upto.all hf).trans hP.symm
  subst e
  iapply (wp_ring P c) $$ [Hr HO Hs Ho]
  · isplitl [Hr]; · iexact Hr
    isplitl [HO]; · iexact HO
    isplitl [Hs]; · iexact Hs
    iexact Ho
  iintro ⟨Hr, HO, Hs, Ho⟩
  iapply Hk
  isplitl [H0 Hf Ha Hs Hr]
  · unfold stLast
    isplitl [H0 Hf]
    · isplitl [H0]; · iexact H0
      iexact Hf
    isplitl [Ha]; · iapply (Entails.of_eq (accAt_even Y c (n := 8) rfl)); iexact Ha
    isplitl [Hs]; · iexact Hs
    iexact Hr
  isplitl [HO]; · iexact HO
  isplitl [Hb]; · iexact Hb
  iexact Ho

end Cert.KernelIdeal.Ring

end
-- ==== Proof.BodyEq.lean ====
module

public import proofs.«01_k».proof.Proof.BodyProg

@[expose] public section

set_option maxRecDepth 65536

noncomputable section

namespace Cert.KernelIdeal.Ring

open Idealize.ShloMosaic Idealize.ShloMosaic.TcCoe
open Cert.KernelIdeal Cert.KernelIdeal.Gen
open Idealize.SL Idealize.SL.Sem

variable {F : FTy → Type} [FloatOps F] [Named F]

/-- The printed body, on the buffers the launch gives it, is `bodyProg`. -/
theorem body_eq (i : grid0.Coords) (x : Memref sig .tc .vmem S1x256x1024 .bf16) (hx : x.IsWhole) (wq : Memref sig .tc .vmem S1024x512 .bf16) (hwq : wq.IsWhole)
    (wo : Memref sig .tc .vmem S512x1024 .bf16) (hwo : wo.IsWhole) (o : Memref sig .tc .vmem S1024x1024 .f32) (ho : o.IsWhole) :
    cc0_body (F := F) i x hx wq hwq (Memref.whole main_arg2) (Memref.isWhole_whole _) (Memref.whole main_arg3) (Memref.isWhole_whole _) wo hwo o ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) cc0_scratch8 cc0_scratch9
      = bodyProg i x wq wo o := by
  unfold cc0_body k0_part92 bodyProg phase1 phase2
  by_cases h1 : k0_cond1 i = 1#1 <;> by_cases h2 : k0_cond2 i = 1#1 <;> simp only [h1, h2, dif_pos, dif_neg, not_false_eq_true]
  · chain_rfl
  · chain_rfl
  · chain_rfl
  · chain_rfl

end Cert.KernelIdeal.Ring

end
-- ==== Proof.Datum.lean ====
module

public import proofs.«01_k».proof.Proof.Points
public import proofs.«01_k».proof.Proof.BodyEq
public import proofs.«01_k».proof.Proof.Gen.KernelIdeal.Frame

@[expose] public section

set_option maxRecDepth 16384

noncomputable section

/-! What the launch computes, from the memory it starts with, and the proof data of its pipeline. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Point `t` of the launch's grid. -/
abbrev pt (t : Fin 8) : Fin cfg0.N := t.cast N_0.symm
/-- The keys and the values. -/
abbrev keys (c : Dev nD) : ArrV F := V m c main_arg2
abbrev vals (c : Dev nD) : ArrV F := V m c main_arg3

/-- A point's product: its group's attention through the group's rows of the output weights. -/
def prodAt (c : Dev nD) (t : Fin 8) : FVec F S256x1024 .f32 :=
  groupV (iblk m c 0 (pt t)) (iblk m c 1 (pt t)) (headV c t (keys m c)) (headV c t (vals m c)) (iblk m c 2 (pt t))
/-- The products by number. -/
def prods (c : Dev nD) (n : ℕ) : FVec F S256x1024 .f32 := prodAt m c ⟨n % 8, Nat.mod_lt _ (by decide)⟩
theorem prods_val (c : Dev nD) (t : Fin 8) : prods m c t.val = prodAt m c t := by
  unfold prods; exact congrArg _ (Fin.ext (Nat.mod_eq_of_lt t.isLt))
/-- Each device's partial sums. -/
def parts (c : Dev nD) : Vec F S1024x1024 .bf16 := ofBatches (batchOf (prods m c))

/-- The state before point `n`, and what is owed then. -/
def stAt (c : Dev nD) (n : ℕ) : sProp 𝕄 :=
  if n = 0 then stFirst (parts m) (keys m c) (vals m c) c
  else if h : n < 8 then stMid (parts m) (keys m c) (vals m c) (prods m c) c ⟨n, h⟩ else stLast (keys m c) (vals m c) c
def owedAt (c : Dev nD) (n : ℕ) : CellTallies nD τ sig Unit := if n = 0 then O₀ c else if n < 8 then OK c else 0

theorem stAt_mid (c : Dev nD) (t : Fin 8) (h : t ≠ 0) : stAt m c t.val = stMid (parts m) (keys m c) (vals m c) (prods m c) c t := by
  unfold stAt; rw [if_neg (show ¬t.val = 0 from fun e => h (Fin.ext e)), dif_pos t.isLt]
theorem owedAt_mid (c : Dev nD) (t : Fin 8) (h : t ≠ 0) : owedAt c t.val = OK c := by
  unfold owedAt; rw [if_neg (show ¬t.val = 0 from fun e => h (Fin.ext e)), if_pos t.isLt]
theorem stAt_last (c : Dev nD) : stAt m c ((7 : Fin 8).val + 1) = stLast (keys m c) (vals m c) c := by
  unfold stAt; rw [if_neg (by decide), dif_neg (by decide)]
theorem owedAt_above (c : Dev nD) (n : ℕ) : Above 0 (owedAt c n) := by
  unfold owedAt; split
  · exact Above.O₀ c
  · split
    · exact Above.owedK 0 c _ (fun k _ => by omega)
    · exact Above.zero 0

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outFin (parts m)
  Φ t := stAt m c t.val
  q _ := fullShare
  owed t := owedAt c t.val

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

/-- The result's staging buffer at a point. -/
abbrev res (c : Dev nD) (t : Fin cfg0.N) (X : Vec F S1024x1024 .f32) : sProp 𝕄 := owns (c : Thread nD τ) (st0_3 t) fullShare X

/-- What a point is given of the windows, and what it leaves of the operands'. -/
abbrev held (c : Dev nD) (t : Fin cfg0.N) : sProp 𝕄 := blk3 c (st0_0 t) (st0_1 t) (st0_2 t) (iblk m c 0 t) (iblk m c 1 t) (iblk m c 2 t)

theorem stage3_eq : ∀ s : Fin 1, stage0_3 s = oM := fun s => match s with | 0 => rfl
theorem st3_eq (t : Fin cfg0.N) : st0_3 t = oM := stage3_eq (cfg0.slots t 3)

theorem body_at (c : Dev nD) (t : Fin 8) (Q : PUnit → sProp 𝕄) :
    WP c (bodyProg (ix t) (st0_0 (pt t)) (st0_1 (pt t)) (st0_2 (pt t)) (st0_3 (pt t))) Q ⊢ wp frame (wpE (defs₀ (F := F)) 𝒱₀ c none) Set.univ (bodyAt0 (pt t)) Q := by
  unfold bodyAt0; rw [body_eq]

theorem idle_mid (t : Fin 8) (h : t ≠ 7) : cfg0.idle 3 (ix t) = true := by revert t; decide +kernel
theorem idle_last : cfg0.idle 3 (ix 7) = false := by decide +kernel

/-- The body at a point before the last. -/
theorem wp_before (c : Dev nD) (t : Fin 8) (h7 : t ≠ 7) (o : Memref sig .tc .vmem S1024x1024 .f32) (Q : PUnit → sProp 𝕄) :
    iprop(stAt m c t.val ∗ owesE c (owedAt c t.val) ∗ held m c (pt t))
      ⊢ iprop(((stAt m c (t.val + 1) ∗ owesE c (owedAt c (t.val + 1)) ∗ held m c (pt t)) -∗ Q ⟨⟩)
        -∗ WP c (bodyProg (ix t) (st0_0 (pt t)) (st0_1 (pt t)) (st0_2 (pt t)) o) Q) := by
  have hn : (nx t).val = t.val + 1 := Nat.mod_eq_of_lt (by
    have h := t.isLt
    rcases Nat.lt_or_ge t.val 7 with h' | h'
    · omega
    · exact absurd (Fin.ext (by show t.val = 7; omega)) h7)
  have hn0 : nx t ≠ 0 := fun e => by have e' : (nx t).val = 0 := congrArg Fin.val e; omega
  rw [← hn, stAt_mid m c (nx t) hn0, owedAt_mid c (nx t) hn0]
  by_cases h0 : t = 0
  · subst h0
    exact wp_point0 (parts m) (keys m c) (vals m c) (prods m c) c (st0_0 (pt 0)) (st0_1 (pt 0)) (st0_2 (pt 0)) _ _ _ (prods_val m c 0) o Q
  · rw [stAt_mid m c t h0, owedAt_mid c t h0]
    exact wp_pointMid (parts m) (keys m c) (vals m c) (prods m c) c (st0_0 (pt t)) (st0_1 (pt t)) (st0_2 (pt t)) _ _ _ t h0 h7 (prods_val m c t) o Q

theorem before_res (c : Dev nD) (t : Fin cfg0.N) (d) : (owns (c : Thread nD τ) (st0_3 t) fullShare ((dats m 0 c).before 3 t d) : sProp 𝕄) ⊢ outAny c := by
  rw [st3_eq, owns_whole_eq]
  unfold outAny
  iintro ⟨%f, -, H⟩
  iexists f; iexact H

/-- What a point is given, as the pipeline states it, -/
def given (c : Dev nD) (t : Fin cfg0.N) : sProp 𝕄 :=
  iprop(stAt m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it leaves, the result's buffer `R`. -/
def leaves (c : Dev nD) (t : Fin cfg0.N) (R : sProp 𝕄) : sProp 𝕄 :=
  iprop(stAt m c (t.val + 1) ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t) ∗ R)

theorem given_open (c : Dev nD) (t : Fin cfg0.N) :
    given m c t ⊢ iprop(stAt m c t.val ∗ owesE c (owedAt c t.val) ∗ held m c t ∗ ∃ d, owns (c : Thread nD τ) (st0_3 t) fullShare ((dats m 0 c).before 3 t d)) := by
  unfold given held blk3 owesE
  simp only [before_0, before_1, before_2]
  iintro ⟨HS, ⟨%W, -, HO⟩, ⟨%d0, H0⟩, ⟨%d1, H1⟩, ⟨%d2, H2⟩, H3⟩
  isplitl [HS]; · iexact HS
  isplitl [HO]; · iexists W; iexact HO
  isplitl [H0 H1 H2]
  · isplitl [H0]; · iexact H0
    isplitl [H1]; · iexact H1
    iexact H2
  iexact H3

theorem leaves_close (c : Dev nD) (t : Fin cfg0.N) (R : sProp 𝕄) :
    iprop(stAt m c (t.val + 1) ∗ owesE c (owedAt c (t.val + 1)) ∗ held m c t ∗ R) ⊢ leaves m c t R := by
  unfold leaves held blk3 owesE Dat.owesAt Pipeline.owesWithin
  iintro ⟨HS, ⟨%W, HO⟩, ⟨H0, H1, H2⟩, H3⟩
  isplitl [HS]; · iexact HS
  isplitl [HO]
  · iexists W; isplitr
    · ipureintro; exact fun _ _ => Or.inl trivial
    iexact HO
  isplitl [H0]; · iexact H0
  isplitl [H1]; · iexact H1
  isplitl [H2]; · iexact H2
  iexact H3

theorem ob_before (c : Dev nD) (t : Fin 8) (h7 : t ≠ 7) :
    given m c (pt t) ⊢ wp frame (wpE (defs₀ (F := F)) 𝒱₀ c none) Set.univ (bodyAt0 (pt t)) fun _ =>
      leaves m c (pt t) iprop(∃ d, owns (c : Thread nD τ) (st0_3 (pt t)) fullShare ((dats m 0 c).before 3 (pt t) d)) := by
  iintro H
  ihave H := (given_open m c (pt t)) $$ H
  icases H with ⟨HS, HO, Hb, H3⟩
  iapply (body_at c t)
  iapply (wp_before m c t h7 (st0_3 (pt t))) $$ [HS HO Hb]
  · isplitl [HS]; · iexact HS
    isplitl [HO]; · iexact HO
    iexact Hb
  iintro ⟨HS, HO, Hb⟩
  iapply (leaves_close m c (pt t))
  isplitl [HS]; · iexact HS
  isplitl [HO]; · iexact HO
  isplitl [Hb]; · iexact Hb
  iexact H3

theorem ob_last (c : Dev nD) :
    given m c (pt 7) ⊢ wp frame (wpE (defs₀ (F := F)) 𝒱₀ c none) Set.univ (bodyAt0 (pt 7)) fun _ =>
      leaves m c (pt 7) (owns (c : Thread nD τ) (st0_3 (pt 7)) fullShare (outFin (parts m))) := by
  iintro H
  ihave H := (given_open m c (pt 7)) $$ H
  icases H with ⟨HS, HO, Hb, ⟨%d, H3⟩⟩
  ihave Ho := (before_res m c (pt 7) d) $$ H3
  iapply (body_at c 7)
  rw [st3_eq]
  iapply (wp_point7 (parts m) (keys m c) (vals m c) (prods m c) c (st0_0 (pt 7)) (st0_1 (pt 7)) (st0_2 (pt 7)) _ _ _ rfl (prods_val m c 7)) $$ [HS HO Hb Ho]
  · isplitl [HS]; · iapply (Entails.of_eq (stAt_mid m c 7 (by decide))); iexact HS
    isplitl [HO]; · iexact HO
    isplitl [Hb]; · iexact Hb
    iexact Ho
  iintro ⟨HS, HO, Hb, H3⟩
  iapply (leaves_close m c (pt 7))
  isplitl [HS]; · iapply (Entails.of_eq (stAt_last m c).symm); iexact HS
  isplitl [HO]; · iexact HO
  isplitl [Hb]; · iexact Hb
  rw [owns_whole_eq]
  iexists _; isplitr; · (ipureintro; rfl)
  iexact H3

set_option backward.isDefEq.respectTransparency.types false in
theorem row_eq (t : Fin cfg0.N) : defs₀ (F := F) .tc cfg0.body (cfg0.bodyArgs t (cfg0.slots t)) = bodyAt0 t := by chain_rfl

set_option backward.isDefEq.respectTransparency.types false in
/-- The pipeline's body obligation: a point given its state, its blocks and the result's buffer leaves the next point's. -/
theorem obligation (c : Dev nD) : BodyObligation (dats m 0 c) (defs₀ (F := F)) 𝒱₀ () Set.univ := fun t => by
  obtain ⟨t, rfl⟩ : ∃ s : Fin 8, t = pt s := ⟨t.cast N_0, rfl⟩
  rw [bigSep_W0, bigSep_W0, row_eq]
  by_cases h7 : t = 7
  · subst h7
    simp only [show cfg0.idle 3 (cfg0.grid.coords (pt 7)) = false from idle_last]
    exact triple_restated (ob_last m c) rfl .rfl fun _ => .rfl
  · have hf : (cfg0.win 3).flush (pt t) = false := by
      rcases hb : (cfg0.win 3).flush (pt t) with _ | _
      · rfl
      · have := (flush0_3 (pt t)).1 hb
        exact absurd (Fin.ext (by have h := t.isLt; show t.val = 7; have : t.val % 8 = 7 := this; omega)) h7
    simp only [show cfg0.idle 3 (cfg0.grid.coords (pt t)) = true from idle_mid t h7, hf]
    refine triple_restated (ob_before m c t h7) rfl .rfl fun _ => ?_
    rw [show idle0 3 (grid0.coords (pt t)) = true from idle_mid t h7]
    exact .rfl

end Cert.KernelIdeal.Ring

end
-- ==== Proof.Fund.lean ====
module

public import proofs.«01_k».proof.Proof.Datum

@[expose] public section

set_option maxRecDepth 16384

noncomputable section

/-! The launch's ghost state: the ring's cells and tokens as minted, the semaphores that become cells, and the tokens
dealt to the devices that pay them. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Vec F S1024x1024 .bf16)

/-! ### Minting -/

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The duties of a device's own cells: one for every cell, and a second for the barrier. -/
def tokOf (cj : Dev nD × Option KI) : GSem nD τ sig × ℕ × Fin 2 := match cj.2 with
  | none => (barCell cj.1, 0, 1)
  | some k => (kcell (cj.1, k), 0, 0)
theorem tokOf_injective : Function.Injective tokOf := by
  rintro ⟨c, j⟩ ⟨c', j'⟩ h
  have h1 : (tokOf (c, j)).1.1.1 = (tokOf (c', j')).1.1.1 := congrArg (fun x : GSem nD τ sig × ℕ × Fin 2 => x.1.1.1) h
  have h3 : (tokOf (c, j)).2.2 = (tokOf (c', j')).2.2 := congrArg (fun x : GSem nD τ sig × ℕ × Fin 2 => x.2.2) h
  rcases j with _ | k <;> rcases j' with _ | k'
  · have e : c = c' := h1
    rw [e]
  · exact absurd (show (1 : Fin 2) = 0 from h3) (by decide)
  · exact absurd (show (0 : Fin 2) = 1 from h3) (by decide)
  · have e : c = c' := h1
    have e' : k = k' := csem_inj (congrArg (fun x : GSem nD τ sig × ℕ × Fin 2 => x.1.2) h)
    rw [e, e']
def ringToks : Finset (GSem nD τ sig × ℕ × Fin 2) := Finset.univ.map ⟨tokOf, tokOf_injective⟩

/-- The launch element. -/
def u₀ : UU := (initOf (Pipeline.cells cfgs cellOf_inj) (Pipeline.launchToks cfgs cellOf_inj), (initOf ringCells ringToks, 1))

theorem own_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
def ownToks (c : Dev nD) : sProp 𝕄 := iprop((bigSep Finset.univ fun k : KI => dutyTok ER (kcell (c, k)) 0 0) ∗ dutyTok ER (barCell c) 0 1)
/-- What the launch element gives device `c`. -/
def G (c : Dev nD) : sProp 𝕄 :=
  iprop((bigSep Finset.univ fun k : KI => roundState ER (ringRd P) (kcell (c, k)) 0)
    ∗ (bigSep Finset.univ fun k : KI => iprop(atPos ER (kcell (c, k)) 0 ∅ 0 ∗ reached ER (kcell (c, k)) 0)) ∗ ownToks c)

theorem over_cells (Φ : GSem nD τ sig → sProp 𝕄) :
    bigSep ringCells Φ = bigSep Finset.univ fun c : Dev nD => bigSep Finset.univ fun k : KI => Φ (kcell (c, k)) := by
  unfold ringCells; rw [bigSep_map, BI.bigSep_univ_prod]; rfl
theorem over_option {A : Type} [Fintype A] [DecidableEq A] (Φ : Option A → sProp 𝕄) :
    bigSep Finset.univ Φ = iprop((bigSep Finset.univ fun a => Φ (some a)) ∗ Φ none) := by
  rw [BI.bigSep_univ_equiv (Equiv.optionEquivSumPUnit.{0} A).symm, BI.bigSep_univ_sum, bigSep_univ_eq_bigSepL [PUnit.unit] (by decide) (by decide), bigSepL_singleton]
  rfl
theorem over_toks : bigSep ringToks (fun x => (dutyTok ER x.1 x.2.1 x.2.2 : sProp 𝕄)) = bigSep Finset.univ fun c : Dev nD => ownToks c := by
  unfold ringToks; rw [bigSep_map, BI.bigSep_univ_prod]
  refine bigSep_congr fun c _ => ?_
  unfold ownToks; rw [over_option]; rfl

/-- The ring's part of the launch element gives every device its cells' states, positions and tokens. -/
theorem mint : BI.own (ER (initOf ringCells ringToks)) ⊢ (|==> bigSep Finset.univ (G P) : sProp 𝕄) := by
  iintro HX
  imod (Rounds.fund ER (ringRd P) ringCells ringToks) $$ HX with ⟨Hst, Hr, Hat, Htok⟩
  imodintro
  ihave Hst := (Entails.of_eq (over_cells (F := F) fun g => roundState ER (ringRd P) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G; simp only [bigSep_sep']
  isplitl [Hst]; · iexact Hst
  isplitl [Hat Hr]
  · isplitl [Hat]; · iexact Hat
    iexact Hr
  iexact Htok

/-! ### The semaphores -/

/-- The kernel's own semaphores: those of the local copies and those of the ring's copies. -/
abbrev osem : (Fin 2 × Fin 2) ⊕ (Bool × Fin 2 × Fin 4 × Fin 6) → SemLoc sig := Sum.elim (fun x => .dma (kvS x.1 x.2)) (fun x => csem (some x))
theorem ownSemFacts : Pipeline.OwnSemFacts cfg0.spec osem := by decide +kernel

/-- The local copies' semaphores at zero. -/
def kvSems (c : Dev nD) : sProp 𝕄 := bigSep Finset.univ fun x : Fin 2 × Fin 2 => semVal ((c : Thread nD τ), SemLoc.dma (kvS x.1 x.2)) 0

theorem ownSems_eq (c : Dev nD) : (Pipeline.ownSems0 (Ix := Unit) (Name := ℕ) (U := UU) (Lvl := ℕ) (Val := Elt F) (τ := τ) osem c : sProp 𝕄)
    = iprop(kvSems c ∗ bigSep Finset.univ fun x => semVal (kcell (c, some x)) 0) := by
  unfold Pipeline.ownSems0 kvSems; rw [BI.bigSep_univ_sum]; rfl
theorem freeSems_eq (c : Dev nD) : (unscopedSems0 c : sProp 𝕄) = semVal (barCell c) 0 := by
  unfold unscopedSems0; rw [bigSep_eq_bigSepL_of_eq [SemLoc.reg barS] (by decide) (by decide)]; rfl
theorem cellSems_eq (c : Dev nD) : (bigSep Finset.univ fun k : KI => semVal (kcell (c, k)) 0)
    = iprop((bigSep Finset.univ fun x => semVal (kcell (c, some x)) 0) ∗ semVal (barCell c) 0 : sProp 𝕄) := over_option _

theorem invs_alloc (c : Dev nD) :
    iprop((bigSep Finset.univ fun k : KI => semVal (kcell (c, k)) 0) ∗ bigSep Finset.univ fun k : KI => roundState ER (ringRd P) (kcell (c, k)) 0)
      ⊢ (|={Set.univ}=> bigSep Finset.univ fun k : KI => iprop(∃ κ : ℕ, cellInv ER (ringRd P) κ (kcell (c, k))) : sProp 𝕄) := by
  rw [← bigSep_sep']
  exact (bigSep_mono fun k _ => (Rounds.body_intro ER (ringRd P) (kcell (c, k))).trans inv_alloc).trans (bigSep_fupd _ _)

/-- Invariants for all a device's cells. -/
def placed (c : Dev nD) : sProp 𝕄 :=
  iprop((bigSep Finset.univ fun k : KI => iprop(∃ κ : ℕ, cellInv ER (ringRd P) κ (kcell (c, k))))
    ∗ (bigSep Finset.univ fun k : KI => iprop(atPos ER (kcell (c, k)) 0 ∅ 0 ∗ reached ER (kcell (c, k)) 0)) ∗ ownToks c ∗ kvSems c)
theorem place (c : Dev nD) :
    iprop(Pipeline.ownSems0 (Ix := Unit) (Name := ℕ) (U := UU) (Lvl := ℕ) (Val := Elt F) (τ := τ) osem c ∗ unscopedSems0 c ∗ G P c) ⊢ |={Set.univ}=> placed P c := by
  unfold G placed
  rw [ownSems_eq, freeSems_eq]
  iintro ⟨⟨Hkv, Hs⟩, Hb, Hst, Hat, Htok⟩
  imod (invs_alloc P c) $$ [Hs Hb Hst] with Hinv
  · isplitr [Hst]; swap; · iexact Hst
    iapply (Entails.of_eq (cellSems_eq (F := F) c).symm)
    isplitl [Hs]; · iexact Hs
    iexact Hb
  imodintro
  isplitl [Hinv]; · iexact Hinv
  isplitl [Hat]; · iexact Hat
  isplitl [Htok]; · iexact Htok
  iexact Hkv

/-! ### Dealing the tokens -/

/-- One step downstream in a direction, as a permutation of the devices. -/
def step (d : Fin 2) : Dev nD ≃ Dev nD := ⟨fun c => tgt c d, fun c => src c d, fun c => src_tgt c d, fun c => tgt_src c d⟩

/-- The tokens of the duties device `c` pays. -/
def payToks (c : Dev nD) : sProp 𝕄 :=
  iprop(dutyTok ER (barCell (tgt c 1)) 0 0 ∗ dutyTok ER (barCell (tgt c 0)) 0 1 ∗ six (sendTok c))

theorem ownToks_eq (c : Dev nD) : ownToks (F := F) c = iprop(((six (fun k l => dutyTok ER (sendCell c l.1 l.2 k) 0 0) ∗ six (fun k l => dutyTok ER (recvCell c l.1 l.2 k) 0 0))
    ∗ dutyTok ER (barCell c) 0 0) ∗ dutyTok ER (barCell c) 0 1) := by
  unfold ownToks; rw [sems_eq]

theorem recv_deal : (bigSep Finset.univ fun c : Dev nD => six (fun k l => (dutyTok ER (recvCell c l.1 l.2 k) 0 0 : sProp 𝕄)))
    = bigSep Finset.univ fun c : Dev nD => six (fun k l => dutyTok ER (recvCell (tgt c l.1) l.1 l.2 k) 0 0) := by
  simp only [six_eq]
  rw [BI.bigSep_univ_comm, BI.bigSep_univ_comm (fun (c : Dev nD) (k : Fin 6) => bigSep Finset.univ fun l : Fin 2 × Fin 4 => (dutyTok ER (recvCell (tgt c l.1) l.1 l.2 k) 0 0 : sProp 𝕄))]
  refine bigSep_congr fun k _ => ?_
  rw [BI.bigSep_univ_comm, BI.bigSep_univ_comm (fun (c : Dev nD) (l : Fin 2 × Fin 4) => (dutyTok ER (recvCell (tgt c l.1) l.1 l.2 k) 0 0 : sProp 𝕄))]
  exact bigSep_congr fun l _ => BI.bigSep_univ_equiv (step l.1) (fun c : Dev nD => (dutyTok ER (recvCell c l.1 l.2 k) 0 0 : sProp 𝕄))

theorem payToks_eq (c : Dev nD) : payToks (F := F) c = iprop(dutyTok ER (barCell (tgt c 1)) 0 0 ∗ dutyTok ER (barCell (tgt c 0)) 0 1
    ∗ six (fun k l => dutyTok ER (sendCell c l.1 l.2 k) 0 0) ∗ six (fun k l => dutyTok ER (recvCell (tgt c l.1) l.1 l.2 k) 0 0)) := by
  unfold payToks
  rw [← six_sep]; rfl

theorem deal : (bigSep Finset.univ fun c : Dev nD => (ownToks c : sProp 𝕄)) ⊢ bigSep Finset.univ fun c : Dev nD => payToks c := by
  simp only [ownToks_eq, payToks_eq]
  rw [bigSep_sep', bigSep_sep', bigSep_sep', bigSep_sep', bigSep_sep', bigSep_sep', recv_deal,
    BI.bigSep_univ_equiv (step 1) (fun c : Dev nD => (dutyTok ER (barCell c) 0 0 : sProp 𝕄)),
    BI.bigSep_univ_equiv (step 0) (fun c : Dev nD => (dutyTok ER (barCell c) 0 1 : sProp 𝕄))]
  iintro ⟨⟨⟨H1, H2⟩, H3⟩, H4⟩
  isplitl [H3]; · iexact H3
  isplitl [H4]; · iexact H4
  isplitl [H1]; · iexact H1
  iexact H2

/-! ### The global step -/

/-- The invariants and the rounds reached. -/
def made (K : Dev nD × KI → ℕ) : sProp 𝕄 :=
  iprop((bigSep Finset.univ fun ck : Dev nD × KI => cellInv ER (ringRd P) (K ck) (kcell ck)) ∗ bigSep Finset.univ fun ck : Dev nD × KI => reached ER (kcell ck) 0)
instance made_persistent (K : Dev nD × KI → ℕ) : BI.Persistent (made P K) := by unfold made; infer_instance

/-- What is a device's alone: its positions, its tokens, its local copies' semaphores. -/
def alone (c : Dev nD) : sProp 𝕄 := iprop((bigSep Finset.univ fun k : KI => atPos ER (kcell (c, k)) 0 ∅ 0) ∗ payToks c ∗ kvSems c)
/-- What the global step gives a device. -/
def G' (c : Dev nD) : sProp 𝕄 := iprop((∃ K, made P K) ∗ alone c)

theorem G'_intro (K : Dev nD × KI → ℕ) (c : Dev nD) : iprop(made P K ∗ alone c) ⊢ G' P c := by
  unfold G'
  iintro ⟨HK, H⟩
  isplitl [HK]; · iexists K; iexact HK
  iexact H

theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem placed_all : (bigSep Finset.univ (placed P) : sProp 𝕄) = iprop((bigSep Finset.univ fun ck : Dev nD × KI => iprop(∃ κ : ℕ, cellInv ER (ringRd P) κ (kcell ck)))
    ∗ ((bigSep Finset.univ fun c : Dev nD => bigSep Finset.univ fun k : KI => atPos ER (kcell (c, k)) 0 ∅ 0) ∗ bigSep Finset.univ fun ck : Dev nD × KI => reached ER (kcell ck) 0)
    ∗ (bigSep Finset.univ fun c : Dev nD => ownToks c) ∗ bigSep Finset.univ fun c : Dev nD => kvSems c) := by
  show (bigSep Finset.univ fun c => placed P c) = _
  unfold placed
  rw [bigSep_sep', bigSep_sep', bigSep_sep', ← BI.bigSep_univ_prod (fun ck : Dev nD × KI => iprop(∃ κ : ℕ, cellInv ER (ringRd P) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← BI.bigSep_univ_prod (fun ck : Dev nD × KI => (reached ER (kcell ck) 0 : sProp 𝕄))]
theorem alone_all : (bigSep Finset.univ (fun c : Dev nD => alone c) : sProp 𝕄) = iprop((bigSep Finset.univ fun c : Dev nD => bigSep Finset.univ fun k : KI => atPos ER (kcell (c, k)) 0 ∅ 0)
    ∗ (bigSep Finset.univ fun c : Dev nD => payToks c) ∗ bigSep Finset.univ fun c : Dev nD => kvSems c) := by
  unfold alone
  rw [bigSep_sep', bigSep_sep']

theorem regroup : (bigSep Finset.univ (placed P) : sProp 𝕄) ⊢ bigSep Finset.univ (G' P) := by
  rw [placed_all]
  iintro ⟨HI, ⟨Hat, #HR⟩, Htok, Hkv⟩
  ihave HK := (BI.bigSep_exists_pi Finset.univ (fun (ck : Dev nD × KI) (κ : ℕ) => (cellInv ER (ringRd P) κ (kcell ck) : sProp 𝕄))) $$ HI
  icases HK with ⟨%K, #HI⟩
  ihave Htk := (deal (F := F)) $$ Htok
  iapply (beside (R := made P K) fun c _ => G'_intro P K c)
  isplitr
  · unfold made; isplitl; · iexact HI
    iexact HR
  iapply (Entails.of_eq (alone_all (F := F)).symm)
  isplitl [Hat]; · iexact Hat
  isplitl [Htk]; · iexact Htk
  iexact Hkv

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => place P c).trans (bigSep_fupd _ _)).trans (BI.fupd_mono (regroup P))

end Cert.KernelIdeal.Ring

end
-- ==== Proof.Credit.lean ====
module

public import proofs.«01_k».proof.Proof.Fund

@[expose] public section

set_option maxRecDepth 16384

noncomputable section

/-! The credit each device starts with: what the devices owe its cells at launch. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Whether two of the ring's cells are the same, as a number. -/
abbrev same (x y : Dev nD × KI) : ℕ := if x = y then 1 else 0

theorem tally_k (x y : Dev nD × KI) (n : ℕ) : (tallyAt (kcell x) () n : CellTallies nD τ sig Unit) (kcell y) () = n * same y x := by
  rw [tallyAt_apply]
  unfold same
  by_cases h : y = x
  · rw [if_pos ⟨congrArg kcell h, rfl⟩, if_pos h, Nat.mul_one]
  · rw [if_neg fun ⟨e, _⟩ => h (kcell_injective e), if_neg h, Nat.mul_zero]

/-- How many of device `d`'s copies `k` arrive at a cell, and how many of all its copies. -/
def arrive (d : Dev nD) (y : Dev nD × KI) (k : Fin 6) (ls : List (Fin 2 × Fin 4)) : ℕ := (ls.map fun l => same y (tgt d l.1, some (true, l.1, l.2, k))).sum
def arrives (d : Dev nD) (y : Dev nD × KI) (ks : List (Fin 6)) : ℕ := (ks.map fun k => arrive d y k lanes).sum

theorem owedL_at (d : Dev nD) (y : Dev nD × KI) (k : Fin 6) (ls) : owedL d k ls (kcell y) () = N * arrive d y k ls := by
  induction ls with
  | nil => rfl
  | cons l ls ih =>
    rw [owedL_cons, Pi.add_apply, Finsupp.add_apply, ih, tally_k (tgt d l.1, some (true, l.1, l.2, k)) y N]
    unfold arrive; rw [List.map_cons, List.sum_cons, Nat.mul_add, Nat.add_comm]
theorem owedK_at (d : Dev nD) (y : Dev nD × KI) (ks) : owedK d ks (kcell y) () = N * arrives d y ks := by
  induction ks with
  | nil => rfl
  | cons k ks ih =>
    rw [owedK_cons, Pi.add_apply, Finsupp.add_apply, ih, owedL_at]
    unfold arrives; rw [List.map_cons, List.sum_cons, Nat.mul_add]
theorem O₀_at (d : Dev nD) (y : Dev nD × KI) : O₀ d (kcell y) () = N * arrives d y [0, 1, 2, 3, 4, 5] + same y (tgt d 0, none) + same y (tgt d 1, none) := by
  unfold O₀
  rw [Pi.add_apply, Finsupp.add_apply, Pi.add_apply, Finsupp.add_apply, owedK_at, tally_k (tgt d 0, none) y 1, tally_k (tgt d 1, none) y 1, Nat.one_mul, Nat.one_mul]

theorem bar_count : ∀ c : Dev nD, (∑ d : Dev nD, arrives d (c, none) [0, 1, 2, 3, 4, 5]) = 0
    ∧ (∑ d : Dev nD, same (c, none) (tgt d 0, none)) = 1 ∧ (∑ d : Dev nD, same (c, none) (tgt d 1, none)) = 1 := by decide +kernel
theorem recv_count : ∀ (c : Dev nD) (e : Fin 2) (j : Fin 4) (k : Fin 6), (∑ d : Dev nD, arrives d (c, some (true, e, j, k)) [0, 1, 2, 3, 4, 5]) = 1
    ∧ (∑ d : Dev nD, same (c, some (true, e, j, k)) (tgt d 0, none)) = 0 ∧ (∑ d : Dev nD, same (c, some (true, e, j, k)) (tgt d 1, none)) = 0 := by decide +kernel

/-- What all the devices owe one of the ring's cells. -/
theorem owed_all (y : Dev nD × KI) : (∑ d : Dev nD, O₀ d (kcell y) ())
    = N * (∑ d : Dev nD, arrives d y [0, 1, 2, 3, 4, 5]) + (∑ d : Dev nD, same y (tgt d 0, none)) + ∑ d : Dev nD, same y (tgt d 1, none) := by
  rw [Finset.mul_sum, ← Finset.sum_add_distrib, ← Finset.sum_add_distrib]
  exact Finset.sum_congr rfl fun d _ => O₀_at d y

theorem credit_at (y : Dev nD × KI) (n : ℕ) (h : (∑ d : Dev nD, O₀ d (kcell y) ()) = n) :
    tallyOn (kcell y) (launchCredit (Pipeline.owing O₀) 0 (kcell y)) = (tallyAt (kcell y) () n : CellTallies nD τ sig Unit) := by
  unfold tallyAt; refine congrArg _ (Finsupp.ext fun u => ?_); cases u
  rw [Pipeline.launchCredit_owing, Finsupp.single_eq_same, h]
theorem credit_bar (c : Dev nD) : tallyOn (barCell c) (launchCredit (Pipeline.owing O₀) 0 (barCell c)) = (tallyAt (barCell c) () 2 : CellTallies nD τ sig Unit) :=
  credit_at (c, none) 2 (by obtain ⟨h1, h2, h3⟩ := bar_count c; rw [owed_all, h1, h2, h3, Nat.mul_zero])
theorem credit_recv (c : Dev nD) (l : Fin 2 × Fin 4) (k : Fin 6) :
    tallyOn (recvCell c l.1 l.2 k) (launchCredit (Pipeline.owing O₀) 0 (recvCell c l.1 l.2 k)) = (tallyAt (recvCell c l.1 l.2 k) () N : CellTallies nD τ sig Unit) :=
  credit_at (c, some (true, l.1, l.2, k)) N (by obtain ⟨h1, h2, h3⟩ := recv_count c l.1 l.2 k; rw [owed_all, h1, h2, h3, Nat.mul_one]; rfl)

theorem only_cells (Φ : SemLoc sig → sProp 𝕄) : bigSep Finset.univ Φ ⊢ bigSep Finset.univ fun k : KI => Φ (csem k) := by
  have e : bigSep (Finset.univ.map ⟨csem, csem_inj⟩) Φ = bigSep Finset.univ fun k : KI => Φ (csem k) := by rw [bigSep_map]; rfl
  rw [← e]
  exact BI.bigSep_subset (Finset.subset_univ _)

/-- A device's credit: two units for its barrier, a copy's for each of its arrivals. -/
theorem creds (c : Dev nD) : (Pipeline.launchCred O₀ c : sProp 𝕄)
    ⊢ iprop(cred (tallyAt (barCell c) () 2) ∗ six fun k l => cred (tallyAt (recvCell c l.1 l.2 k) () N)) := by
  unfold Pipeline.launchCred
  refine (only_cells _).trans ?_
  rw [sems_eq]
  iintro ⟨⟨-, H⟩, Hb⟩
  isplitl [Hb]
  · iapply (Entails.of_eq (congrArg (fun t => (cred t : sProp 𝕄)) (credit_bar c))); iexact Hb
  iapply (six_mono fun k l => Entails.of_eq (congrArg (fun t => (cred t : sProp 𝕄)) (credit_recv c l k)))
  iexact H

end Cert.KernelIdeal.Ring

end
-- ==== Proof.Ends.lean ====
module

public import proofs.«01_k».proof.Proof.Credit

@[expose] public section

set_option maxRecDepth 16384

noncomputable section

/-! The two ends of the launch: the state before the first point from what the launch gives, and what the
state after the last point gives back. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ### The slots of the two double buffers -/

theorem mem_slot (b : Memref sig .tc .vmem S2x1024x128 .f32) (s : Fin 2) : (slot b s).view.set = (Finset.univ.filter fun i : S2x1024x128.Idx => (i 0).val = s.val).map b.view.emb := by
  rw [slot_set, View.set_slice]
  congr 1
  ext i
  rw [← Rect.map_emb_univ, Finset.mem_filter]
  constructor
  · intro h
    obtain ⟨x, -, rfl⟩ := Finset.mem_map.mp h
    have h0 : (x 0).val < 1 := (x 0).isLt
    exact ⟨Finset.mem_univ _, by show s.val + 1 * (x 0).val = _; omega⟩
  · rintro ⟨-, h⟩
    refine Finset.mem_map.mpr ⟨fun a => match a with | ⟨0, _⟩ => (0 : Fin 1) | ⟨1, _⟩ => i 1 | ⟨2, _⟩ => i 2, Finset.mem_univ _, ?_⟩
    funext a
    match a with
    | ⟨0, _⟩ => exact Fin.ext (by show s.val + 1 * 0 = (i 0).val; omega)
    | ⟨1, _⟩ => exact Fin.ext (by show 0 + 1 * (i 1).val = (i 1).val; omega)
    | ⟨2, _⟩ => exact Fin.ext (by show 0 + 1 * (i 2).val = (i 2).val; omega)

section
variable (b : Memref sig .tc .vmem S2x1024x128 .f32) (hb : b.view.set = Finset.univ) (c : Dev nD)

/-- The elements of a slot in its buffer. -/
abbrev slotSet (s : Fin 2) : Finset (Idx (b.view.loc (c : Thread nD τ))) := (slot b s).view.set
theorem slot_disj (x y : Fin 2) (h : x ≠ y) : Disjoint (slotSet b c x) (slotSet b c y) := by
  unfold slotSet
  rw [mem_slot, mem_slot, Finset.disjoint_map, Finset.disjoint_left]
  intro i hx hy
  exact h (Fin.ext ((Finset.mem_filter.mp hx).2.symm.trans (Finset.mem_filter.mp hy).2))
include hb in
theorem slot_cover : Finset.univ.biUnion (slotSet b c) = Finset.univ := by
  refine Finset.eq_univ_of_forall fun y => ?_
  have hy : y ∈ b.view.set := by rw [hb]; exact Finset.mem_univ _
  obtain ⟨i, -, rfl⟩ := Finset.mem_map.mp hy
  rw [Finset.mem_biUnion]
  obtain ⟨s, hs⟩ : ∃ s : Fin 2, (i 0).val = s.val := ⟨i 0, rfl⟩
  refine ⟨s, Finset.mem_univ _, ?_⟩
  unfold slotSet
  rw [mem_slot]
  exact Finset.mem_map_of_mem _ (Finset.mem_filter.mpr ⟨Finset.mem_univ _, hs⟩)

/-- A slot at any contents, and a double buffer whole. -/
def slotAny (s : Fin 2) : sProp 𝕄 := iprop(∃ X : SlotV F, owns (c : Thread nD τ) (slot b s) fullShare X)
def dblAny : sProp 𝕄 := iprop(∃ f, (b.view.loc (c : Thread nD τ)) ↦{fullShare} f)

theorem slotAny_intro (s : Fin 2) : iprop(∃ f, ((slot b s).view.loc (c : Thread nD τ)) ↦[(slot b s).view.set]{fullShare} f) ⊢ slotAny (F := F) b c s := by
  unfold slotAny owns
  iintro ⟨%f, H⟩
  iexists _; iexists f; isplitr; · ipureintro; rfl
  iexact H
theorem slotAny_elim (s : Fin 2) : slotAny (F := F) b c s ⊢ iprop(∃ f, ((slot b s).view.loc (c : Thread nD τ)) ↦[(slot b s).view.set]{fullShare} f) := by
  unfold slotAny owns
  iintro ⟨%X, %f, -, H⟩
  iexists f; iexact H
theorem two_slots (Φ : Fin 2 → sProp 𝕄) : bigSep Finset.univ Φ = iprop(Φ 0 ∗ Φ 1) := by
  rw [bigSep_univ_eq_bigSepL [0, 1] (by decide) (by decide), bigSepL_cons_cons, bigSepL_singleton]; rfl

include hb in
theorem dbl_split : dblAny (F := F) b c ⊢ iprop(slotAny (F := F) b c 0 ∗ slotAny (F := F) b c 1) := by
  rw [← two_slots]
  unfold dblAny
  refine (Idealize.ShloMosaic.Ring.pieces_split (slotSet b c) (slot_disj b c) (slot_cover b hb c) (fun s f => ((slot b s).view.loc (c : Thread nD τ)) ↦[(slot b s).view.set]{fullShare} f) (fun _ _ => rfl)).trans ?_
  exact BI.bigSep_mono fun s _ => slotAny_intro b c s
include hb in
theorem dbl_join (f₀ : Buf (Elt F) (b.view.loc (c : Thread nD τ))) : iprop(slotAny (F := F) b c 0 ∗ slotAny (F := F) b c 1) ⊢ dblAny (F := F) b c := by
  rw [← two_slots]
  unfold dblAny
  refine BIBase.Entails.trans ?_ (Idealize.ShloMosaic.Ring.pieces_join (slotSet b c) (slot_disj b c) (slot_cover b hb c) (fun s f => ((slot b s).view.loc (c : Thread nD τ)) ↦[(slot b s).view.set]{fullShare} f) (fun _ _ => rfl) f₀)
  exact BI.bigSep_mono fun s _ => slotAny_elim b c s
end

/-! ### Both slots free, from the buffers, the semaphores and the arrays, and back -/

variable (fk fv : ArrV F) (c : Dev nD)

theorem kvSems_eq : kvSems (F := F) c = iprop((semVal ((c : Thread nD τ), SemLoc.dma (kvS 0 0)) 0 ∗ semVal ((c : Thread nD τ), SemLoc.dma (kvS 0 1)) 0)
    ∗ (semVal ((c : Thread nD τ), SemLoc.dma (kvS 1 0)) 0 ∗ semVal ((c : Thread nD τ), SemLoc.dma (kvS 1 1)) 0)) := by
  unfold kvSems
  rw [BI.bigSep_univ_prod, two_slots, two_slots, two_slots]

/-- The two arrays the kernel reads by its own copies. -/
def arrs : sProp 𝕄 := iprop((kA.view.loc (c : Thread nD τ) ↦{fullShare} fk) ∗ (vA.view.loc (c : Thread nD τ) ↦{fullShare} fv))

theorem free_of : iprop((dblAny (F := F) kB c ∗ dblAny (F := F) vB c) ∗ kvSems (F := F) c ∗ arrs fk fv c) ⊢ iprop(free2 fk fv c 0 ∗ free2 fk fv c 1) := by
  rw [kvSems_eq]
  unfold arrs free2 free1
  iintro ⟨⟨Hk, Hv⟩, ⟨⟨S1, S2⟩, S3, S4⟩, Ak, Av⟩
  ihave Hk := (dbl_split kB (View.set_whole _) c) $$ Hk
  ihave Hv := (dbl_split vB (View.set_whole _) c) $$ Hv
  ihave Ak := (pointsTo_share (PosShare.mem_left_op_right fullShare)).1 $$ Ak
  ihave Av := (pointsTo_share (PosShare.mem_left_op_right fullShare)).1 $$ Av
  unfold slotAny
  icases Hk with ⟨K0, K1⟩
  icases Hv with ⟨V0, V1⟩
  icases Ak with ⟨KL, KR⟩
  icases Av with ⟨VL, VR⟩
  isplitl [K0 V0 S1 S2 KL VL]
  · isplitl [K0 S1 KL]
    · isplitl [K0]; · iexact K0
      isplitl [S1]; · iexact S1
      iexact KL
    · isplitl [V0]; · iexact V0
      isplitl [S2]; · iexact S2
      iexact VL
  · isplitl [K1 S3 KR]
    · isplitl [K1]; · iexact K1
      isplitl [S3]; · iexact S3
      iexact KR
    · isplitl [V1]; · iexact V1
      isplitl [S4]; · iexact S4
      iexact VR

/-- Zeros in a double buffer. -/
abbrev zeros : S2x1024x128.Idx → Elt F .f32 := fun _ => Scalar.ofBits .f32 0#32

theorem of_free : iprop(free2 fk fv c 0 ∗ free2 fk fv c 1) ⊢ iprop((dblAny (F := F) kB c ∗ dblAny (F := F) vB c) ∗ kvSems (F := F) c ∗ arrs fk fv c) := by
  rw [kvSems_eq]
  unfold arrs free2 free1
  iintro ⟨⟨⟨K0, S1, KL⟩, V0, S2, VL⟩, ⟨K1, S3, KR⟩, V1, S4, VR⟩
  isplitl [K0 K1 V0 V1]
  · isplitl [K0 K1]
    · iapply (dbl_join kB (View.set_whole _) c zeros)
      unfold slotAny
      isplitl [K0]; · iexact K0
      iexact K1
    · iapply (dbl_join vB (View.set_whole _) c zeros)
      unfold slotAny
      isplitl [V0]; · iexact V0
      iexact V1
  isplitl [S1 S2 S3 S4]
  · isplitl [S1 S2]
    · isplitl [S1]; · iexact S1
      iexact S2
    · isplitl [S3]; · iexact S3
      iexact S4
  isplitl [KL KR]
  · iapply (pointsTo_share (PosShare.mem_left_op_right fullShare)).2
    isplitl [KL]; · iexact KL
    iexact KR
  · iapply (pointsTo_share (PosShare.mem_left_op_right fullShare)).2
    isplitl [VL]; · iexact VL
    iexact VR

/-! ### The launch's ends -/

variable (P : Dev nD → Vec F S1024x1024 .bf16)

/-- What a device starts the kernel with, its scratch buffers aside. -/
def start : sProp 𝕄 := iprop((∃ K, recs P K) ∗ toks0 (F := F) c ∗ kvSems (F := F) c ∗ arrs fk fv c)
/-- What it ends with. -/
def finish : sProp 𝕄 := iprop(semVal (barCell c) 0 ∗ arrs fk fv c)

theorem toks0_of : iprop((bigSep Finset.univ fun k : KI => atPos ER (kcell (c, k)) 0 ∅ 0) ∗ payToks (F := F) c
    ∗ cred (tallyAt (barCell c) () 2) ∗ six fun k l => cred (tallyAt (recvCell c l.1 l.2 k) () N)) ⊢ toks0 (F := F) c := by
  rw [sems_eq]
  unfold payToks toks0
  iintro ⟨⟨⟨As, Ar⟩, Ab⟩, ⟨T1, T0, Ts⟩, Cb, Cr⟩
  isplitl [T1]; · iexact T1
  isplitl [T0]; · iexact T0
  isplitl [Cb]; · iexact Cb
  isplitl [Ab]; · iexact Ab
  isplitl [Ts]; · iexact Ts
  isplitl [Ar Cr]
  · iapply (Entails.of_eq (six_sep (fun k l => (cred (tallyAt (recvCell c l.1 l.2 k) () N) : sProp 𝕄)) (fun k l => atPos ER (recvCell c l.1 l.2 k) 0 ∅ 0)).symm)
    isplitl [Cr]; · iexact Cr
    iexact Ar
  iexact As

theorem start_of : iprop(arrs fk fv c ∗ levAts L lv ∗ Pipeline.launchCred O₀ c ∗ G' P c) ⊢ start fk fv c P := by
  unfold start G' alone
  iintro ⟨Ha, HL, Hc, ⟨%K, HK⟩, Hat, Ht, Hkv⟩
  ihave Hc := (creds (F := F) c) $$ Hc
  icases Hc with ⟨Cb, Cr⟩
  isplitl [HK HL]
  · iexists K
    unfold made recs
    icases HK with ⟨HI, HR⟩
    isplitl [HI]; · iexact HI
    isplitl [HR]; · iexact HR
    iexact HL
  isplitl [Hat Ht Cb Cr]
  · iapply (toks0_of c)
    isplitl [Hat]; · iexact Hat
    isplitl [Ht]; · iexact Ht
    isplitl [Cb]; · iexact Cb
    iexact Cr
  isplitl [Hkv]; · iexact Hkv
  iexact Ha

/-- The scratch buffers. -/
def scratch : sProp 𝕄 := Pipeline.scopedRest spec0 c

theorem enter : iprop(start fk fv c P ∗ scratch (F := F) c) ⊢ stFirst P fk fv c := by
  unfold scratch
  rw [scopedRest0_eq]
  unfold start stFirst ring0 bufAny
  iintro ⟨⟨HK, Ht, Hkv, Ha⟩, B0, B1, B2, B3, B5, B6, B7⟩
  ihave Hf := (free_of fk fv c) $$ [B2 B3 Hkv Ha]
  · isplitl [B2 B3]
    · unfold dblAny
      isplitl [B2]; · iexact B2
      iexact B3
    isplitl [Hkv]; · iexact Hkv
    iexact Ha
  isplitl [Hf]; · iexact Hf
  isplitl [B0]; · iexact B0
  isplitl [B1]; · iexact B1
  isplitl [HK]; · iexact HK
  isplitl [Ht]; · iexact Ht
  isplitl [B5]; · iexact B5
  isplitl [B6]; · iexact B6
  iexact B7

theorem leave : stLast fk fv c ⊢ iprop(finish fk fv c ∗ Pipeline.ownSems0 (Ix := Unit) (Name := ℕ) (U := UU) (Lvl := ℕ) (Val := Elt F) (τ := τ) osem c ∗ scratch (F := F) c) := by
  unfold scratch
  rw [scopedRest0_eq, ownSems_eq]
  unfold finish stLast ring2 bufAny
  rw [cellSems_eq]
  iintro ⟨Hf, B0, B1, ⟨Hs, Hb⟩, B5, B6, B7⟩
  ihave Hf := (show iprop(free2 fk fv c (sl (nx 7)) ∗ free2 fk fv c (sl 7)) ⊢ _ from of_free fk fv c) $$ Hf
  unfold dblAny
  icases Hf with ⟨⟨B2, B3⟩, Hkv, Ha⟩
  isplitl [Hb Ha]
  · isplitl [Hb]; · iexact Hb
    iexact Ha
  isplitl [Hkv Hs]
  · isplitl [Hkv]; · iexact Hkv
    iexact Hs
  isplitl [B0]; · iexact B0
  isplitl [B1]; · iexact B1
  isplitl [B2]; · iexact B2
  isplitl [B3]; · iexact B3
  isplitl [B5]; · iexact B5
  isplitl [B6]; · iexact B6
  iexact B7

end Cert.KernelIdeal.Ring

end
-- ==== Proof.Launch.lean ====
module

public import proofs.«01_k».proof.Proof.Ends
public import Idealize.ShloMosaic.Lib.Pipeline.CollectiveSegs

@[expose] public section

set_option maxRecDepth 16384

noncomputable section

/-! The launch runs: every execution ends, with the arrays as computed, the operands as they were and every counter at zero. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What device `c` starts the kernel with, from the memory `m`. -/
abbrev startOf (c : Dev nD) : sProp 𝕄 := start (keys m c) (vals m c) c (parts m)
abbrev finishOf (c : Dev nD) : sProp 𝕄 := finish (keys m c) (vals m c) c

theorem begin_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (parts m) c)
      ⊢ |={Set.univ}=> iprop(startOf m c ∗ emp) := by
  rw [Pipeline.unscopedRestP_none, unscopedRest0_eq]
  iintro ⟨Ha, HL, Hc, -, HG⟩
  imodintro
  isplitl
  · iapply (start_of (keys m c) (vals m c) c (parts m))
    unfold arrs
    isplitl [Ha]; · iexact Ha
    isplitl [HL]; · iexact HL
    isplitl [Hc]; · iexact Hc
    iexact HG
  · iempintro

theorem stAt_0 (c : Dev nD) : (dats m 0 c).Φ 0 = stFirst (parts m) (keys m c) (vals m c) c := by
  show stAt m c 0 = _
  unfold stAt; exact if_pos rfl
theorem stAt_N (c : Dev nD) : (dats m 0 c).Φ (Fin.last cfg0.N) = stLast (keys m c) (vals m c) c := stAt_last m c

theorem enter_of (c : Dev nD) :
    iprop(startOf m c ∗ Pipeline.prefHeld Pipeline.Prefetch.none c (fun _ => fullShare.right) (fun k => k.elim0) ∗ Pipeline.scopedRest cfg0.spec c)
      ⊢ (dats m 0 c).Φ 0 := by
  rw [stAt_0]
  iintro ⟨Hs, -, Hr⟩
  iapply (enter (keys m c) (vals m c) c (parts m))
  isplitl [Hs]; · iexact Hs
  unfold scratch; iexact Hr
theorem leave_of (c : Dev nD) :
    (dats m 0 c).Φ (Fin.last cfg0.N) ⊢ iprop(finishOf m c ∗ Pipeline.ownSems0 osem c ∗ Pipeline.scopedRest cfg0.spec c) := by
  rw [stAt_N]
  exact leave (keys m c) (vals m c) c

theorem share_eq (c : Dev nD) (w : Fin cfg0.W) : (dats m 0 c).share w = fullShare := by unfold Dat.share; split <;> rfl

/-- No staging semaphore is one of the ring's. -/
theorem stage_not_ring : ∀ (w : Fin cfg0.W) (s : Fin (cfg0.win w).nbuf) (k : KI), csem k ≠ SemLoc.dma ((cfg0.win w).sem s) := by decide +kernel
theorem waits (c : Dev nD) : (levAts L lv : sProp 𝕄) ⊢ Pipeline.cellsWaits cfgs (dats m) () 0 c :=
  Pipeline.cellsWaits_intro cfgs (dats m) () 0 c fun w s t =>
    mayWait 0 c _ (le_of_eq (congrArg kLv (kOf_of_ne _ (stage_not_ring w s)))) _ (owedAt_above c _)

/-- What a device's memory holds of what the kernel reads by its own copies, and its barrier counter. -/
def Kept (c : Dev nD) (s : MemSt nD τ sig (Elt F)) : Prop :=
  (∀ sm : SemLoc sig, sm.isScoped .tc = false → s.sem ((c.tc : Thread nD τ), sm) = 0)
    ∧ s.mem (kA.view.loc (c : Thread nD τ)) = keys m c ∧ s.mem (vA.view.loc (c : Thread nD τ)) = vals m c

theorem read_kept (c : Dev nD) (s' : Phys nD τ sig (Elt F)) :
    iprop(finishOf m c ∗ emp ∗ SI s') ⊢ |={Set.univ}=> iprop(⌜Kept m c s'.mem⌝ ∗ SI s' : sProp 𝕄) := by
  unfold finishOf finish arrs
  iintro ⟨⟨Hb, Hk, Hv⟩, -, HSI⟩
  icombine HSI Hk gives %hk
  icombine HSI Hv gives %hv
  imod (Pipeline.unscopedSems0_read (X := unscopedSems0 c) (c := c) fupd_intro s') $$ [Hb HSI] with ⟨%hs, HSI⟩
  · isplitl [Hb]
    · iapply (Entails.of_eq (freeSems_eq (F := F) c).symm); iexact Hb
    iexact HSI
  imodintro
  isplitr; swap; · iexact HSI
  ipureintro
  exact ⟨hs, Buf.eq_of_forall_mem_univ hk, Buf.eq_of_forall_mem_univ hv⟩

/-- The contents of a window's array after the launch. -/
abbrev finalA (c : Dev nD) (w : Fin cfg0.W) : Buf (Elt F) ((cfg0.win w).arr.view.loc (c : Thread nD τ)) := (dats m 0 c).arrAt w cfg0.N

/-- The run's end. -/
def Ends (r : PUnit × MemSt nD τ sig (Elt F)) : Prop :=
  (∀ c : Dev nD, (∀ w : Fin cfg0.W, r.2.mem ((cfg0.win w).arr.view.loc (c : Thread nD τ)) = finalA m c w) ∧ Kept m c r.2) ∧ r.2.sem = fun _ => 0

theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (parts m)) (G' := G' (parts m)) (u₀ := u₀)
    (hu₀ := by
      unfold u₀
      iintro Hu
      ihave H := (own_parts _ _) $$ Hu
      icases H with ⟨HP, HX⟩
      imod (mint (parts m)) $$ HX with HG
      imodintro
      isplitl [HP]; · iexact HP
      iexact HG)
    (hglob := glob (parts m))
    (hA := fun _ _ => rfl) (hpf := fun _ k => k.elim0)
    (X := startOf m) (Y := finishOf m) (Z := fun _ => iprop(emp))
    (hX := begin_of m ρ) (hin := enter_of m) (hout := leave_of m)
    (QY := Kept m) (hY := read_kept m)
    (hQ := fun _ h hs => ⟨fun c => ⟨(h c).1, (h c).2.2⟩, sem_eq_zero hs fun c => (h c).2.2.1⟩)

end Cert.KernelIdeal.Ring

end
-- ==== Proof.Final.lean ====
module

public import proofs.«01_k».proof.Proof.Launch

@[expose] public section

set_option maxRecDepth 16384

noncomputable section

/-! What the run leaves in the arguments and in the result. -/

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The result's block is the whole result. -/
theorem out_blk (t : Fin cfg0.N) (j : S1024x1024.Idx) : ((cfg0.win 3).blk t).view.emb j = j := by
  funext a
  match a with
  | ⟨0, _⟩ => exact Fin.ext (by show 0 * 1024 + 1 * (j 0).val = (j 0).val; omega)
  | ⟨1, _⟩ => exact Fin.ext (by show 0 * 1024 + 1 * (j 1).val = (j 1).val; omega)

theorem final_out (c : Dev nD) : finalA m c 3 = outFin (parts m) :=
  (dats m 0 c).arrAt_eq_of_cover 3 (outFin (parts m))
    (fun t _ => funext fun j => (congrArg (outFin (parts m)) (out_blk t j)).symm)
    (fun i => ⟨pt 7, (flush0_3 (pt 7)).2 rfl, Finset.mem_map.mpr ⟨i, Finset.mem_univ _, out_blk (pt 7) i⟩⟩)

theorem final_0 (c : Dev nD) : finalA m c 0 = m ((c.tc : Thread nD τ).loc main_arg0) := (dats m 0 c).arrAt_in 0 rfl _
theorem final_1 (c : Dev nD) : finalA m c 1 = m ((c.tc : Thread nD τ).loc main_arg1) := (dats m 0 c).arrAt_in 1 rfl _
theorem final_2 (c : Dev nD) : finalA m c 2 = m ((c.tc : Thread nD τ).loc main_arg4) := (dats m 0 c).arrAt_in 2 rfl _

/-- The arguments' buffers of device `c` are as `m` has them. -/
def Unchanged (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem unchanged_of (c : Dev nD) (r : PUnit × MemSt nD τ sig (Elt F)) (h : Ends m r) : Unchanged m c r.2 :=
  ⟨((h.1 c).1 0).trans (final_0 m c), ((h.1 c).1 1).trans (final_1 m c), (h.1 c).2.2.1, (h.1 c).2.2.2, ((h.1 c).1 2).trans (final_2 m c)⟩
theorem result_of (c : Dev nD) (r : PUnit × MemSt nD τ sig (Elt F)) (h : Ends m r) : r.2.mem ((c.tc : Thread nD τ).loc main_v1) = outFin (parts m) :=
  ((h.1 c).1 3).trans (final_out m c)

/-- Every execution ends, the arguments as they were and every counter at zero. -/
theorem run_frame : θ_run defs (onTc (τ := τ) (main (F := F))) ⟨m, fun _ => 0, ρ⟩ (fun r => (∀ c : Dev nD, Unchanged m c r.2) ∧ r.2.sem = fun _ => 0) :=
  (θ_run defs _ _).mono (fun r h => ⟨fun c => unchanged_of m c r h, h.2⟩) (run_main m ρ)
/-- Every execution ends with each device's result holding the sum of the devices' partial sums, the arguments as they were. -/
theorem run_value : θ_run defs (onTc (τ := τ) (main (F := F))) ⟨m, fun _ => 0, ρ⟩ (fun r => ∀ c : Dev nD, r.2.mem ((c.tc : Thread nD τ).loc main_v1) = outFin (parts m) ∧ Unchanged m c r.2) :=
  (θ_run defs _ _).mono (fun r h c => ⟨result_of m c r h, unchanged_of m c r h⟩) (run_main m ρ)

end Cert.KernelIdeal.Ring

end
-- ==== Proof.Same.lean ====
module

public import proofs.«01_k».proof.Defs
public import proofs.«01_k».proof.Proof.Final
public import proofs.«01_k».proof.Proof.Gen.Kernel
public import Idealize.ShloMosaic.Lib.Tactic

@[expose] public section

set_option maxRecDepth 16384

noncomputable section

/-! The kernel as printed is the idealized kernel read at the bit-exact floats, its named constant standing for the
pattern it is printed with. -/

namespace Cert.Same

open Idealize.ShloMosaic Idealize.SL.Sem

/-- A named constant at the bit-exact floats: the pattern's value. -/
local instance byPattern : Named Bits := ⟨fun _ _ {φ} bits => Scalar.ofBits φ bits⟩

local instance factsP : Cert.Kernel.Facts := Cert.Kernel.Gen.facts
local instance factsI : Cert.KernelIdeal.Facts := Cert.KernelIdeal.Gen.facts

theorem sig_same : Cert.Kernel.sig = Cert.KernelIdeal.sig := by chain_rfl
theorem body_same : Cert.Kernel.defs₀ (F := Bits) = Cert.KernelIdeal.defs₀ (F := Bits) := by chain_rfl
theorem defs_same : Cert.Kernel.defs (F := Bits) = Cert.KernelIdeal.defs (F := Bits) := by chain_rfl
theorem main_same : Cert.Kernel.main (F := Bits) = Cert.KernelIdeal.main (F := Bits) := by chain_rfl

/-- Every device's run of the kernel as printed ends, with its arguments as they were and every semaphore at zero. -/
theorem frame_of : (∀ m g, Cert.Pre_Kernel m → θ_run (Cert.KernelIdeal.defs (F := Bits)) (onTc (τ := Cert.KernelIdeal.τ) (Cert.KernelIdeal.main (F := Bits)))
    ⟨m, fun _ => 0, g⟩ (fun r => (∀ c, Cert.KernelIdeal.Ring.Unchanged m c r.2) ∧ r.2.sem = fun _ => 0)) = Cert.quiescent_Kernel := by
  chain_rfl

theorem frame : Cert.quiescent_Kernel :=
  frame_of.mp fun m g _ => Cert.KernelIdeal.Ring.run_frame m g

end Cert.Same

end
-- ==== Proof.Claims.lean ====
module

public import proofs.«01_k».proof.Defs
public import proofs.«01_k».proof.Proof.Same
public import proofs.«01_k».proof.Proof.Gen.ReferenceIdeal.Run
public import Idealize.ShloMosaic.Lib.Quiescent

@[expose] public section

set_option maxRecDepth 16384

noncomputable section

/-! The claims about runs alone, and the facts the precondition's two printings take. -/

namespace Cert.Claims

open Idealize.ShloMosaic Idealize.SL.Sem

local instance factsI : Cert.KernelIdeal.Facts := Cert.KernelIdeal.Gen.facts
local instance factsR : Cert.ReferenceIdeal.Facts := Cert.ReferenceIdeal.Gen.facts

/-- The shape relations the precondition takes over one device's arrays. -/
theorem preI : Cert.Pre_finite_scores_KernelIdeal.Facts where
  bitsLt_bf16_f32 := by decide
  bcast_S_S4x256x1024 := by decide
  reducesTo_S4x256x1024_S_d0_1_2 := by decide
  h_S_ := by decide
  bcast_S_S1024x1024 := by decide
  reducesTo_S1024x1024_S_d0_1 := by decide
  bcast_S_S4x1024x8x128 := by decide
  reducesTo_S4x1024x8x128_S_d0_1_2_3 := by decide

/-- The same over the whole arrays. -/
theorem preR : Cert.Pre_finite_scores_ReferenceIdeal.Facts where
  bitsLt_bf16_f32 := by decide
  bcast_S_S4x256x1024 := by decide
  reducesTo_S4x256x1024_S_d0_1_2 := by decide
  h_S_ := by decide
  bcast_S_S1024x4096 := by decide
  reducesTo_S1024x4096_S_d0_1 := by decide
  bcast_S_S4x1024x8x128 := by decide
  reducesTo_S4x1024x8x128_S_d0_1_2_3 := by decide

local instance preI' : Cert.Pre_finite_scores_KernelIdeal.Facts := preI
local instance preR' : Cert.Pre_finite_scores_ReferenceIdeal.Facts := preR

/-- The idealized kernel runs on every device, its arguments unchanged and every semaphore back at zero. -/
theorem frame_pi : Cert.quiescent_KernelIdeal := fun m g _ => Cert.KernelIdeal.Ring.run_frame m g

/-- The same from the memories the precondition admits. -/
theorem frame_pi_pre : Cert.quiescent_KernelIdeal_pre_finite_scores_KernelIdeal := fun m g _ => Cert.KernelIdeal.Ring.run_frame m g

/-- The reference runs, its arguments unchanged; it has no semaphore. -/
theorem run_ri (m g) : θ_run (Cert.ReferenceIdeal.defs (F := Ideal)) (onTc (τ := Cert.ReferenceIdeal.τ) (Cert.ReferenceIdeal.main (F := Ideal)))
    ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem frame_ri : Cert.quiescent_ReferenceIdeal := fun m g _ => run_ri m g

theorem frame_ri_pre : Cert.quiescent_ReferenceIdeal_pre_finite_scores_ReferenceIdeal := fun m g _ => run_ri m g

/-- The constant the kernel multiplies its queries by is named for the real it rounds. -/
theorem preserves : Cert.preserves_Kernel_KernelIdeal := IdealRules.named_const.statement _ _ _ _ _ rfl

end Cert.Claims

end
-- ==== Proof.KerValue.lean ====
module

public import proofs.«01_k».proof.Proof.Datum
public import Idealize.ShloMosaic.Lib.Pointwise

@[expose] public section

set_option maxRecDepth 16384

noncomputable section

/-! A group's product, read at an index over the extended reals. -/

namespace Cert.KernelIdeal.Ring

open Cert.KernelIdeal Cert.KernelIdeal.Gen
open Idealize.ShloMosaic Idealize.ShloMosaic.TcCoe

variable (x : FVec Ideal S1x256x1024 .bf16) (wq : FVec Ideal S1024x512 .bf16) (q : FVec Ideal S256x128 .bf16) (k v : FVec Ideal S1024x128 .bf16)

/-- The constant's value. -/
theorem scale_eq : (Named.named (F := Ideal) κ "scale" (φ := .f32) 0x3DB504F3#32) = (((Real.sqrt 128)⁻¹ : ℝ) : EReal) :=
  IdealRules.named_const.ideal_named_scalar _ _ _ _ rfl

theorem queries_apply (i : Fin 256) (d : Fin 512) : queries (F := Ideal) x wq (ix2 i d)
    = (∑ e : Fin 1024, x (ix3 0 i e) * wq (ix2 e d)) * (((Real.sqrt 128)⁻¹ : ℝ) : EReal) := by
  pointwise [queries, scale_eq]

/-- A head's weighted mean of values, over its sum of weights. -/
def mean (s v : Fin 1024 → EReal) : EReal := Ideal.div (∑ j, Ideal.exp (s j) * v j) (∑ j, Ideal.exp (s j))

theorem headOut_apply (i : Fin 256) (d : Fin 128) : headOut (F := Ideal) q k v (ix2 i d)
    = mean (fun j => ∑ e : Fin 128, q (ix2 i e) * k (ix2 j e)) (fun j => v (ix2 j d)) := by
  pointwise [headOut, mean]

variable (Q : FVec Ideal S256x512 .bf16) (wo : FVec Ideal S512x1024 .bf16)

/-- Column `d` of the four heads side by side. -/
def attn (i : Fin 256) (d : Fin 512) : EReal :=
  mean (fun j => ∑ e : Fin 128, Q (ix2 i ⟨d.val / 128 * 128 + e.val, by omega⟩) * k (ix2 j e)) (fun j => v (ix2 j ⟨d.val % 128, by omega⟩))

theorem head_at (o : ℕ) (h : S256x512.Slices ![0, o] S256x128) (i : Fin 256) (d : Fin 512) (d' : Fin 128)
    (ho : o = d.val / 128 * 128) (hd : d'.val = d.val % 128) : headOut (F := Ideal) (extractStridedSlice S256x128 ![0, o] Q h) k v (ix2 i d') = attn k v Q i d := by
  subst ho
  rw [show d' = ⟨d.val % 128, by omega⟩ from Fin.ext hd, headOut_apply]
  unfold attn
  congr 1
  funext j
  refine Finset.sum_congr rfl fun e _ => ?_
  congr 2
  pointwise

theorem groupOut_apply (i : Fin 256) (y : Fin 1024) : groupOut (F := Ideal) Q k v wo (ix2 i y) = ∑ d : Fin 512, attn k v Q i d * wo (ix2 d y) := by
  pointwise [groupOut]
  refine Finset.sum_congr rfl fun d _ => ?_
  congr 1
  split_ifs
  all_goals exact head_at _ _ _ _ _ _ _ _ (by omega) (by dsimp only; omega)

variable (m : (ℓ : Loc nD τ sig) → Buf (Elt Ideal) ℓ) (c : Dev nD)

theorem index_0 : ∀ t : Fin cfg0.N, win0_0.index t 0 = t.val / 2 ∧ win0_0.index t 1 = 0 ∧ win0_0.index t 2 = 0 := by decide +kernel
theorem index_1 : ∀ t : Fin cfg0.N, win0_1.index t 0 = 0 ∧ win0_1.index t 1 = t.val % 2 := by decide +kernel
theorem index_2 : ∀ t : Fin cfg0.N, win0_2.index t 0 = t.val % 2 ∧ win0_2.index t 1 = 0 := by decide +kernel

/-- A point's block of the input: its batch's rows. -/
theorem iblk_x (t : Fin 8) (i : Fin 256) (e : Fin 1024) :
    (iblk m c 0 (pt t) : FVec Ideal S1x256x1024 .bf16) (ix3 0 i e) = (m ((c : Thread nD τ).loc main_arg0) : FVec Ideal S4x256x1024 .bf16) (ix3 ⟨t.val / 2, by omega⟩ i e) := by
  obtain ⟨h0, h1, h2⟩ := index_0 (pt t)
  unfold iblk
  rw [View.read_apply]
  show V m c main_arg0 _ = m (c.tc.loc main_arg0) _
  unfold V
  congr 1
  funext a
  apply Fin.ext
  match a with
  | ⟨0, _⟩ => show win0_0.index (pt t) 0 * 1 + 1 * 0 = t.val / 2; rw [h0]; show t.val / 2 * 1 + 1 * 0 = _; omega
  | ⟨1, _⟩ => show win0_0.index (pt t) 1 * 256 + 1 * i.val = i.val; rw [h1]; omega
  | ⟨2, _⟩ => show win0_0.index (pt t) 2 * 1024 + 1 * e.val = e.val; rw [h2]; omega

/-- Its block of the query weights: its group's columns. -/
theorem iblk_q (t : Fin 8) (e : Fin 1024) (d : Fin 512) :
    (iblk m c 1 (pt t) : FVec Ideal S1024x512 .bf16) (ix2 e d) = (m ((c : Thread nD τ).loc main_arg1) : FVec Ideal S1024x1024 .bf16) (ix2 e ⟨t.val % 2 * 512 + d.val, by omega⟩) := by
  obtain ⟨h0, h1⟩ := index_1 (pt t)
  unfold iblk
  rw [View.read_apply]
  show V m c main_arg1 _ = m (c.tc.loc main_arg1) _
  unfold V
  congr 1
  funext a
  apply Fin.ext
  match a with
  | ⟨0, _⟩ => show win0_1.index (pt t) 0 * 1024 + 1 * e.val = e.val; rw [h0]; omega
  | ⟨1, _⟩ => show win0_1.index (pt t) 1 * 512 + 1 * d.val = t.val % 2 * 512 + d.val; rw [h1]; show t.val % 2 * 512 + 1 * d.val = _; omega

/-- Its block of the output weights: its group's rows. -/
theorem iblk_o (t : Fin 8) (d : Fin 512) (y : Fin 1024) :
    (iblk m c 2 (pt t) : FVec Ideal S512x1024 .bf16) (ix2 d y) = (m ((c : Thread nD τ).loc main_arg4) : FVec Ideal S1024x1024 .bf16) (ix2 ⟨t.val % 2 * 512 + d.val, by omega⟩ y) := by
  obtain ⟨h0, h1⟩ := index_2 (pt t)
  unfold iblk
  rw [View.read_apply]
  show V m c main_arg4 _ = m (c.tc.loc main_arg4) _
  unfold V
  congr 1
  funext a
  apply Fin.ext
  match a with
  | ⟨0, _⟩ => show win0_2.index (pt t) 0 * 512 + 1 * d.val = t.val % 2 * 512 + d.val; rw [h0]; show t.val % 2 * 512 + 1 * d.val = _; omega
  | ⟨1, _⟩ => show win0_2.index (pt t) 1 * 1024 + 1 * y.val = y.val; rw [h1]; omega

/-- Its keys or values: its batch's rows of its head. -/
theorem headV_apply (t : Fin 8) (f : FVec Ideal S4x1024x8x128 .f32) (j : Fin 1024) (e : Fin 128) :
    (headV (F := Ideal) c t f : FVec Ideal S1024x128 .f32) (ix2 j e) = f (ix4 ⟨t.val / 2, by omega⟩ j ⟨2 * c.val + t.val % 2, by have : c.val < 4 := c.isLt; omega⟩ e) := by
  have hc : (⟨4, ![1, 1024, 1, 128]⟩ : Shape).ShapeCasts S1024x128 := by decide
  let g : FVec Ideal ⟨4, ![1, 1024, 1, 128]⟩ .f32 := fun y => f (fun a => match a with
    | ⟨0, _⟩ => ⟨t.val / 2 + 1 * (y 0).val, by have h : (y 0).val < 1 := (y 0).isLt; show _ < 4; omega⟩
    | ⟨1, _⟩ => ⟨0 + 1 * (y 1).val, by have h : (y 1).val < 1024 := (y 1).isLt; show _ < 1024; omega⟩
    | ⟨2, _⟩ => ⟨2 * c.val + t.val % 2 + 1 * (y 2).val, by have : c.val < 4 := c.isLt; have h : (y 2).val < 1 := (y 2).isLt; show _ < 8; omega⟩
    | ⟨3, _⟩ => ⟨0 + 1 * (y 3).val, by have h : (y 3).val < 128 := (y 3).isLt; show _ < 128; omega⟩)
  have hg : headV (F := Ideal) c t f = shapeCast S1024x128 g hc := by
    unfold headV
    refine (Memref.read_squeeze_slice (Val := Elt Ideal) kA _ (fun _ => rfl) squeezes_S1x1024x1x128_S1024x128 hc f).trans ?_
    congr 1
    funext y
    show f _ = f _
    congr 1
    funext a
    match a with
    | ⟨0, _⟩ => rfl
    | ⟨1, _⟩ => rfl
    | ⟨2, _⟩ => rfl
    | ⟨3, _⟩ => rfl
  rw [hg]
  pointwise
  show f _ = f _
  congr 1
  funext a
  apply Fin.ext
  match a with
  | ⟨0, _⟩ => show t.val / 2 + 1 * 0 = t.val / 2; omega
  | ⟨1, _⟩ => show 0 + 1 * j.val = j.val; omega
  | ⟨2, _⟩ => show 2 * c.val + t.val % 2 + 1 * 0 = 2 * c.val + t.val % 2; omega
  | ⟨3, _⟩ => show 0 + 1 * e.val = e.val; omega

end Cert.KernelIdeal.Ring

end
-- ==== Proof.SumValue.lean ====
module

public import proofs.«01_k».proof.Proof.KerValue

@[expose] public section

set_option maxRecDepth 16384

noncomputable section

/-! What the ring finishes, read at an index over the extended reals: the four devices' partial sums added. -/

namespace Cert.KernelIdeal.Ring

open Cert.KernelIdeal Cert.KernelIdeal.Gen
open Idealize.ShloMosaic Idealize.ShloMosaic.TcCoe

/-- The device `n` steps upstream. -/
def up (d : Fin 2) : ℕ → Dev nD → Dev nD
  | 0, c => c
  | n + 1, c => up d n (src c d)

/-- Device `c`'s own rows at send and at step `k` are those of the chunk whose number is the device `k` steps upstream. -/
theorem offA_row : ∀ (c : Dev nD) (d : Fin 2) (j : Fin 4), offA c d j 0 = 512 * d.val + 128 * c.val + 32 * j.val ∧ offA c d j 1 = 0 := by decide +kernel
theorem offB_row : ∀ (c : Dev nD) (d : Fin 2) (j : Fin 4) (k : Fin 4),
    offB c d j k.val 0 = 512 * d.val + 128 * (up d k.val c).val + 32 * j.val ∧ offB c d j k.val 1 = 0 := by decide +kernel

/-- From any device and in either direction the steps upstream visit all four. -/
theorem up_all : ∀ (q : Dev nD) (d : Fin 2), [up d 4 q, up d 3 q, up d 2 q, up d 1 q].Perm [0, 1, 2, 3] := by decide +kernel
theorem up_four : ∀ (q : Dev nD) (d : Fin 2), up d 4 q = q := by decide +kernel

variable (P : Dev nD → FVec Ideal S1024x1024 .bf16)

/-- Row `i` of sub-chunk `j` of chunk `q` of direction `d`. -/
def row (d : Fin 2) (q : Dev nD) (j : Fin 4) (i : Fin 32) : Fin 1024 :=
  ⟨512 * d.val + 128 * q.val + 32 * j.val + i.val, by have : q.val < 4 := q.isLt; omega⟩

theorem pc_apply (c : Dev nD) (d : Fin 2) (j : Fin 4) (i : Fin 32) (y : Fin 1024) (f : FVec Ideal S1024x1024 .bf16) :
    ((pcP c d j).view.read (Elt Ideal) f : FVec Ideal S32x1024 .bf16) (ix2 i y) = f (ix2 (row d c j i) y) := by
  obtain ⟨h0, h1⟩ := offA_row c d j
  rw [View.read_apply]
  show f _ = f _
  congr 1
  funext a
  apply Fin.ext
  match a with
  | ⟨0, _⟩ => show offA c d j 0 + 1 * i.val = 512 * d.val + 128 * c.val + 32 * j.val + i.val; omega
  | ⟨1, _⟩ => show offA c d j 1 + 1 * y.val = y.val; omega

theorem own_apply (c : Dev nD) (d : Fin 2) (j : Fin 4) (k : Fin 4) (i : Fin 32) (y : Fin 1024) :
    (ownRows (F := Ideal) P c d j k : FVec Ideal S32x1024 .bf16) (ix2 i y) = P c (ix2 (row d (up d k.val c) j i) y) := by
  obtain ⟨h0, h1⟩ := offB_row c d j k
  unfold ownRows
  rw [View.readAt_apply]
  show P c _ = P c _
  congr 1
  funext a
  apply Fin.ext
  match a with
  | ⟨0, _⟩ => show offB c d j k.val 0 + 1 * i.val = 512 * d.val + 128 * (up d k.val c).val + 32 * j.val + i.val; omega
  | ⟨1, _⟩ => show offB c d j k.val 1 + 1 * y.val = y.val; omega

/-- The finished rows. -/
theorem partSum_apply (d : Fin 2) (q : Dev nD) (j : Fin 4) (i : Fin 32) (y : Fin 1024) :
    (partSum (F := Ideal) P d j 3 (src q d) : FVec Ideal S32x1024 .bf16) (ix2 i y) = ∑ c : Dev nD, P c (ix2 (row d q j i) y) := by
  show ((partSum (F := Ideal) P d j 0 (src (src (src (src q d) d) d) d) : FVec Ideal S32x1024 .bf16) (ix2 i y)
      + (ownRows (F := Ideal) P (src (src (src q d) d) d) d j 1 : FVec Ideal S32x1024 .bf16) (ix2 i y)
      + (ownRows (F := Ideal) P (src (src q d) d) d j 2 : FVec Ideal S32x1024 .bf16) (ix2 i y)
      + (ownRows (F := Ideal) P (src q d) d j 3 : FVec Ideal S32x1024 .bf16) (ix2 i y) : EReal) = _
  rw [own_apply, own_apply, own_apply]
  show ((pcP (up d 4 q) d j).view.read (Elt Ideal) (P (up d 4 q)) : FVec Ideal S32x1024 .bf16) (ix2 i y)
      + P (up d 3 q) (ix2 (row d (up d 4 q) j i) y) + P (up d 2 q) (ix2 (row d (up d 4 q) j i) y) + P (up d 1 q) (ix2 (row d (up d 4 q) j i) y) = _
  rw [pc_apply, up_four]
  have h := ((up_all q d).map fun c => (P c (ix2 (row d q j i) y) : EReal)).sum_eq
  simp only [List.map_cons, List.map_nil, List.sum_cons, List.sum_nil, add_zero] at h
  rw [up_four] at h
  rw [add_assoc, add_assoc]
  refine h.trans ?_
  rw [Fin.sum_univ_four, add_assoc, add_assoc]

/-- Every entry of the result is the four devices' entries added. -/
theorem outFin_apply (r y : Fin 1024) : (outFin (F := Ideal) P : FVec Ideal S1024x1024 .f32) (ix2 r y) = ∑ c : Dev nD, P c (ix2 r y) := by
  have hr := r.isLt
  refine (outFin_block (F := Ideal) P ⟨r.val / 512, by omega⟩ ⟨r.val % 512 / 128, by show _ < 4; omega⟩ ⟨r.val % 128 / 32, by omega⟩
    (fun a => match a with | ⟨0, _⟩ => 512 * (r.val / 512) + 128 * (r.val % 512 / 128) + 32 * (r.val % 128 / 32) | ⟨1, _⟩ => 0) rfl rfl
    (ix2 r y) (ix2 (⟨r.val % 32, by omega⟩ : Fin 32) y) (by show r.val = _ + r.val % 32; dsimp only; omega) (by show y.val = 0 + y.val; omega)).trans ?_
  refine (partSum_apply P _ _ _ _ _).trans ?_
  congr 1
  funext c
  congr 2
  exact Fin.ext (by show 512 * (r.val / 512) + 128 * (r.val % 512 / 128) + 32 * (r.val % 128 / 32) + r.val % 32 = r.val; omega)

end Cert.KernelIdeal.Ring

end
-- ==== Proof.Heads.lean ====
module

public import proofs.«01_k».proof.Proof.SumValue
public import Idealize.ShloMosaic.Lib.Layout

@[expose] public section

set_option maxRecDepth 16384

noncomputable section

/-! The kernel's result in terms of the whole arrays the devices hold blocks of. -/

namespace Cert.KernelIdeal.Ring

open Cert.KernelIdeal Cert.KernelIdeal.Gen
open Idealize.ShloMosaic Idealize.ShloMosaic.TcCoe

variable (X : FVec Ideal S4x256x1024 .bf16) (W : FVec Ideal ⟨2, ![1024, 4096]⟩ .bf16) (K U : FVec Ideal S4x1024x8x128 .f32) (O : FVec Ideal ⟨2, ![4096, 1024]⟩ .bf16)

/-- The attention's output before the output projection: batch `b`, row `i`, column `k` of all the heads side by side. -/
def whole (b : Fin 4) (i : Fin 256) (k : Fin 4096) : EReal :=
  mean (fun j => ∑ e : Fin 128, ((∑ y : Fin 1024, X (ix3 b i y) * W (ix2 y ⟨k.val / 128 * 128 + e.val, by omega⟩)) * (((Real.sqrt 128)⁻¹ : ℝ) : EReal))
      * K (ix4 b j ⟨k.val / 512, by omega⟩ e))
    (fun j => U (ix4 b j ⟨k.val / 512, by omega⟩ ⟨k.val % 128, by omega⟩))

variable (m : (ℓ : Loc nD τ sig) → Buf (Elt Ideal) ℓ) (c : Dev nD)

/-- Device `c`'s arguments are its parts of the whole arrays. -/
def Holds : Prop :=
  m ((c.tc : Thread nD τ).loc main_arg0) = X
    ∧ m ((c.tc : Thread nD τ).loc main_arg1) = Layout.block ⟨2, ![1024, 1024]⟩ ⟨2, ![1024, 4096]⟩ 1 4 c W
    ∧ m ((c.tc : Thread nD τ).loc main_arg2) = K
    ∧ m ((c.tc : Thread nD τ).loc main_arg3) = U
    ∧ m ((c.tc : Thread nD τ).loc main_arg4) = Layout.block ⟨2, ![1024, 1024]⟩ ⟨2, ![4096, 1024]⟩ 0 4 c O

/-- A column of device `c`'s block of columns. -/
theorem cols_apply (y e : Fin 1024) : Layout.block ⟨2, ![1024, 1024]⟩ ⟨2, ![1024, 4096]⟩ 1 4 c W (by decide) (ix2 y e)
    = W (ix2 y ⟨c.val * 1024 + e.val, by have : c.val < 4 := c.isLt; omega⟩) := by
  rw [Layout.block_apply]
  congr 1
  funext a
  apply Fin.ext
  match a with
  | ⟨0, _⟩ => rfl
  | ⟨1, _⟩ => rfl

/-- A row of device `c`'s block of rows. -/
theorem rows_apply (e y : Fin 1024) : Layout.block ⟨2, ![1024, 1024]⟩ ⟨2, ![4096, 1024]⟩ 0 4 c O (by decide) (ix2 e y)
    = O (ix2 ⟨c.val * 1024 + e.val, by have : c.val < 4 := c.isLt; omega⟩ y) := by
  rw [Layout.block_apply]
  congr 1
  funext a
  apply Fin.ext
  match a with
  | ⟨0, _⟩ => rfl
  | ⟨1, _⟩ => rfl

/-- Column `d` of the heads that device `c` computes at point `t`, among all the heads' columns. -/
abbrev col (t : Fin 8) (d : Fin 512) : Fin 4096 := ⟨c.val * 1024 + (t.val % 2 * 512 + d.val), by have : c.val < 4 := c.isLt; omega⟩

variable {X W K U O m c}

/-- A head column of a group is a column of the whole attention's output, given where its queries, keys and values lie. -/
theorem attn_whole {k v : FVec Ideal S1024x128 .bf16} {Q : FVec Ideal S256x512 .bf16} {b : Fin 4} {i : Fin 256} {d : Fin 512} {D : Fin 4096}
    (hQ : ∀ e : Fin 128, Q (ix2 i ⟨d.val / 128 * 128 + e.val, by omega⟩)
      = (∑ y : Fin 1024, X (ix3 b i y) * W (ix2 y ⟨D.val / 128 * 128 + e.val, by omega⟩)) * (((Real.sqrt 128)⁻¹ : ℝ) : EReal))
    (hk : ∀ j e, k (ix2 j e) = K (ix4 b j ⟨D.val / 512, by omega⟩ e))
    (hv : ∀ j, v (ix2 j ⟨d.val % 128, by omega⟩) = U (ix4 b j ⟨D.val / 512, by omega⟩ ⟨D.val % 128, by omega⟩)) :
    attn k v Q i d = whole X W K U b i D := by
  unfold attn whole
  simp only [hQ, hk, hv]

/-- The queries of a point, in the whole arrays. -/
theorem query_whole (h : Holds X W K U O m c) (t : Fin 8) (i : Fin 256) (d : Fin 512) :
    queries (F := Ideal) (iblk (F := Ideal) m c 0 (pt t)) (iblk (F := Ideal) m c 1 (pt t)) (ix2 i d)
      = (∑ y : Fin 1024, X (ix3 ⟨t.val / 2, by omega⟩ i y) * W (ix2 y (col c t d))) * (((Real.sqrt 128)⁻¹ : ℝ) : EReal) := by
  obtain ⟨h0, h1, -⟩ := h
  refine (queries_apply _ _ i d).trans ?_
  congr 1
  refine Finset.sum_congr rfl fun z _ => congrArg₂ (· * ·) ?_ ?_
  · rw [iblk_x, h0]
  · rw [iblk_q, h1, cols_apply]

/-- A head of a point, in the whole array. -/
theorem head_whole (f : FVec Ideal S4x1024x8x128 .f32) (t : Fin 8) (d : Fin 512) (j : Fin 1024) (e : Fin 128) :
    ((truncf .bf16 (headV (F := Ideal) c t f : FVec Ideal S1024x128 .f32) bitsLt_bf16_f32 : FVec Ideal S1024x128 .bf16) (ix2 j e) : EReal)
      = f (ix4 ⟨t.val / 2, by omega⟩ j ⟨(col c t d).val / 512, by omega⟩ e) := by
  have hc : c.val < 4 := c.isLt
  have hh : (⟨2 * c.val + t.val % 2, by omega⟩ : Fin 8) = ⟨(col c t d).val / 512, by omega⟩ :=
    Fin.ext (by show 2 * c.val + t.val % 2 = (c.val * 1024 + (t.val % 2 * 512 + d.val)) / 512; omega)
  pointwise
  rw [headV_apply, hh]

/-- A point's product: its group's columns of the attention's output times the same rows of the output weights. -/
theorem prodAt_apply (h : Holds X W K U O m c) (t : Fin 8) (i : Fin 256) (y : Fin 1024) : (prodAt (F := Ideal) m c t : FVec Ideal S256x1024 .f32) (ix2 i y)
    = ∑ d : Fin 512, whole X W K U ⟨t.val / 2, by omega⟩ i (col c t d) * O (ix2 (col c t d) y) := by
  have hc : c.val < 4 := c.isLt
  have h2 : keys (F := Ideal) m c = K := h.2.2.1
  have h3 : vals (F := Ideal) m c = U := h.2.2.2.1
  unfold prodAt groupV
  rw [h2, h3]
  refine (groupOut_apply _ _ _ _ i y).trans ?_
  refine Finset.sum_congr rfl fun d _ => congrArg₂ (· * ·) (attn_whole (fun e => ?_) (fun j e => head_whole K t d j e) fun j => ?_) ?_
  · refine (query_whole h t i _).trans ?_
    congr 4
    funext z
    congr 3
    exact Fin.ext (by show c.val * 1024 + (t.val % 2 * 512 + (d.val / 128 * 128 + e.val)) = (c.val * 1024 + (t.val % 2 * 512 + d.val)) / 128 * 128 + e.val; omega)
  · refine (head_whole U t d j _).trans ?_
    congr 2
    exact Fin.ext (by show d.val % 128 = (c.val * 1024 + (t.val % 2 * 512 + d.val)) % 128; omega)
  · rw [iblk_o, h.2.2.2.2, rows_apply]

/-- A device's partial sums: its columns of the attention's output times the same rows of the output weights. -/
theorem parts_apply (h : Holds X W K U O m c) (r y : Fin 1024) : (parts (F := Ideal) m c : FVec Ideal S1024x1024 .bf16) (ix2 r y)
    = ∑ e : Fin 1024, whole X W K U ⟨r.val / 256, by omega⟩ ⟨r.val % 256, by omega⟩ ⟨c.val * 1024 + e.val, by have : c.val < 4 := c.isLt; omega⟩
        * O (ix2 ⟨c.val * 1024 + e.val, by have : c.val < 4 := c.isLt; omega⟩ y) := by
  have hr := r.isLt
  show (prods (F := Ideal) m c (2 * (r.val / 256)) : FVec Ideal S256x1024 .f32) (fun a => _) + (prods (F := Ideal) m c (2 * (r.val / 256) + 1) : FVec Ideal S256x1024 .f32) (fun a => _) = _
  have hx : (fun a => match a with | ⟨0, _⟩ => ⟨r.val % 256, by show _ < 256; omega⟩ | ⟨1, _⟩ => y : S256x1024.Idx) = ix2 ⟨r.val % 256, by omega⟩ y := by
    funext a
    match a with
    | ⟨0, _⟩ => rfl
    | ⟨1, _⟩ => rfl
  have p0 := prods_val (F := Ideal) m c (⟨2 * (r.val / 256), by omega⟩ : Fin 8)
  have p1 := prods_val (F := Ideal) m c (⟨2 * (r.val / 256) + 1, by omega⟩ : Fin 8)
  refine (congrArg₂ (· + ·) ((congrFun p0 _).trans (congrArg _ hx)) ((congrFun p1 _).trans (congrArg _ hx))).trans ?_
  rw [prodAt_apply h, prodAt_apply h, Idealize.ShloMosaic.Fin.sum_univ_tiles (N := 1024) 2 512 (by norm_num), Fin.sum_univ_two]
  have b0 : (⟨2 * (r.val / 256) / 2, by omega⟩ : Fin 4) = ⟨r.val / 256, by omega⟩ := Fin.ext (by dsimp only; omega)
  have b1 : (⟨(2 * (r.val / 256) + 1) / 2, by omega⟩ : Fin 4) = ⟨r.val / 256, by omega⟩ := Fin.ext (by dsimp only; omega)
  congr 1
  · refine Finset.sum_congr rfl fun d _ => ?_
    have hd : col c ⟨2 * (r.val / 256), by omega⟩ d = ⟨c.val * 1024 + (0 * 512 + d.val), by have : c.val < 4 := c.isLt; omega⟩ :=
      Fin.ext (by show c.val * 1024 + (2 * (r.val / 256) % 2 * 512 + d.val) = c.val * 1024 + (0 * 512 + d.val); omega)
    rw [hd, b0]
    rfl
  · refine Finset.sum_congr rfl fun d _ => ?_
    have hd : col c ⟨2 * (r.val / 256) + 1, by omega⟩ d = ⟨c.val * 1024 + (1 * 512 + d.val), by have : c.val < 4 := c.isLt; omega⟩ :=
      Fin.ext (by show c.val * 1024 + ((2 * (r.val / 256) + 1) % 2 * 512 + d.val) = c.val * 1024 + (1 * 512 + d.val); omega)
    rw [hd, b1]
    rfl

/-- The kernel's result: the attention's output times the output weights. -/
theorem result_apply (h : ∀ c, Holds X W K U O m c) (r y : Fin 1024) : (outFin (F := Ideal) (parts m) : FVec Ideal S1024x1024 .f32) (ix2 r y)
    = ∑ k : Fin 4096, whole X W K U ⟨r.val / 256, by omega⟩ ⟨r.val % 256, by omega⟩ k * O (ix2 k y) := by
  rw [outFin_apply, Idealize.ShloMosaic.Fin.sum_univ_tiles (N := 4096) 4 1024 (by norm_num)]
  exact Finset.sum_congr rfl fun c _ => parts_apply (h c) r y

end Cert.KernelIdeal.Ring

end
-- ==== Proof.RefValue.lean ====
module

public import proofs.«01_k».proof.Proof.Gen.ReferenceIdeal.Run
public import Idealize.ShloMosaic.Lib.Pointwise

@[expose] public section

set_option maxRecDepth 16384

noncomputable section

/-! The reference's result, read at an index. -/

namespace Cert.ReferenceIdeal.Read

open Cert.ReferenceIdeal Cert.ReferenceIdeal.Gen Cert.ReferenceIdeal.Value Idealize.ShloMosaic Idealize.ShloMosaic.TcCoe

local instance : Cert.ReferenceIdeal.Facts := Cert.ReferenceIdeal.Gen.facts

variable (X : FVec Ideal S4x256x1024 .bf16) (W : FVec Ideal S1024x4096 .bf16) (K U : FVec Ideal S4x1024x8x128 .f32) (O : FVec Ideal S4096x1024 .bf16)

/-- The scores of every head. -/
def scores : FVec Ideal S4x32x256x1024 .f32 :=
  Host.divf (Host.dotGeneral (F := Ideal) dot_S4x256x32x128_S4x1024x32x128_S4x32x256x1024_3_3_1_1_02_02 none (shapeCast _ (Host.dotGeneral dot_S4x256x1024_S1024x4096_S4x256x4096_2_0_01_1_n_n none (extf .f32 X bitsLt_bf16_f32) (extf .f32 W bitsLt_bf16_f32)) shapeCasts_S4x256x4096_S4x256x32x128) (shapeCast _ (broadcastInDim S4x1024x8x4x128 ![0, 1, 2, 4] bcast_S4x1024x8x128_S4x1024x8x4x128_0_1_2_4 K) shapeCasts_S4x1024x8x4x128_S4x1024x32x128)) (broadcastInDim S4x32x256x1024 ![] bcast_S_S4x32x256x1024 (Host.sqrt (constant S_ .f32 0x43000000#32)))

variable (s : FVec Ideal S4x32x256x1024 .f32)

/-- The exponentials of the scores less their row's maximum. -/
def weights : FVec Ideal S4x32x256x1024 .f32 :=
  Host.exp (subf s (broadcastInDim S4x32x256x1024 ![0, 1, 2, 3] bcast_S4x32x256x1_S4x32x256x1024_0_1_2_3 (broadcastInDim S4x32x256x1 ![0, 1, 2] bcast_S4x32x256_S4x32x256x1_0_1_2 (Host.reduce FloatOps.maximumf s (constant S_ .f32 0xFF800000#32) reducesTo_S4x32x256x1024_S4x32x256_d3 h_S_))))

variable (p : FVec Ideal S4x32x256x1024 .f32)

/-- The weighted means of the values. -/
def means : FVec Ideal S4x256x32x128 .f32 :=
  Host.divf (transpose S4x256x32x128 [0, 3, 1, 2] (Host.dotGeneral dot_S4x1024x32x128_S4x32x256x1024_S4x32x128x256_1_3_3_2_02_01 none (shapeCast _ (broadcastInDim S4x1024x8x4x128 ![0, 1, 2, 4] bcast_S4x1024x8x128_S4x1024x8x4x128_0_1_2_4 U) shapeCasts_S4x1024x8x4x128_S4x1024x32x128) p) transposes_S4x32x128x256_S4x256x32x128_0_3_1_2) (broadcastInDim S4x256x32x128 ![0, 1, 2, 3] bcast_S4x256x32x1_S4x256x32x128_0_1_2_3 (transpose S4x256x32x1 [0, 2, 1, 3] (broadcastInDim S4x32x256x1 ![0, 1, 2] bcast_S4x32x256_S4x32x256x1_0_1_2 (Host.reduceAdd p (constant S_ .f32 0x00000000#32) reducesTo_S4x32x256x1024_S4x32x256_d3 h_S_)) transposes_S4x32x256x1_S4x256x32x1_0_2_1_3))

/-- The output projection. -/
def output (a : FVec Ideal S4x256x32x128 .f32) : FVec Ideal S1024x1024 .f32 :=
  Host.dotGeneral dot_S1024x4096_S4096x1024_S1024x1024_1_0_0_1_n_n none (shapeCast _ a shapeCasts_S4x256x32x128_S1024x4096) (extf .f32 O bitsLt_bf16_f32)

theorem ofBits_128 : Ideal.ofBits .f32 0x43000000#32 = ((128 : ℝ) : EReal) := by simp [Ideal.ofBits, Ideal.ieee, -EReal.coe_mul]; norm_num
theorem ofBits_neg_inf : Ideal.ofBits .f32 0xFF800000#32 = ⊥ := by simp [Ideal.ofBits, Ideal.ieee]

theorem scores_apply (b : Fin 4) (h : Fin 32) (i : Fin 256) (j : Fin 1024) : scores X W K (ix4 b h i j)
    = Ideal.div (∑ d : Fin 128, (∑ e : Fin 1024, X (ix3 b i e) * W (ix2 e ⟨h.val * 128 + d.val, by omega⟩)) * K (ix4 b j ⟨h.val / 4, by omega⟩ d))
        ((Real.sqrt 128 : ℝ) : EReal) := by
  pointwise [scores]
  rw [ofBits_128, Ideal.sqrt_coe, if_neg (by norm_num)]

theorem weights_apply (b : Fin 4) (h : Fin 32) (i : Fin 256) (j : Fin 1024) : weights s (ix4 b h i j)
    = Ideal.exp (s (ix4 b h i j) - Finset.univ.fold max ⊥ fun x => s (ix4 b h i x)) := by
  pointwise [weights]
  rw [ofBits_neg_inf]

theorem means_apply (b : Fin 4) (h : Fin 32) (i : Fin 256) (d : Fin 128) : means U p (ix4 b i h d)
    = Ideal.div (∑ j : Fin 1024, U (ix4 b j ⟨h.val / 4, by omega⟩ d) * p (ix4 b h i j)) (∑ j : Fin 1024, p (ix4 b h i j)) := by
  pointwise [means]

theorem output_apply (a : FVec Ideal S4x256x32x128 .f32) (r x : Fin 1024) : output O a (ix2 r x)
    = ∑ k : Fin 4096, a (ix4 ⟨r.val / 256, by omega⟩ ⟨r.val % 256, by omega⟩ ⟨k.val / 128, by omega⟩ ⟨k.val % 128, by omega⟩) * O (ix2 k x) := by
  pointwise [output]

/-- The reference's result is the output projection of the weighted means. -/
theorem result_eq (m : (ℓ : Loc nD τ sig) → Buf (Elt Ideal) ℓ) (c : Dev nD) : res_main_v26 m c
    = output (m ((c.tc : Thread nD τ).loc main_arg4)) (means (m ((c.tc : Thread nD τ).loc main_arg3))
        (weights (scores (m ((c.tc : Thread nD τ).loc main_arg0)) (m ((c.tc : Thread nD τ).loc main_arg1)) (m ((c.tc : Thread nD τ).loc main_arg2))))) := by
  unfold res_main_v26 output means weights scores; rfl

end Cert.ReferenceIdeal.Read

end
-- ==== Proof.Softmax.lean ====
module

public import Idealize.ShloMosaic.PureOps.Ideal.Laws
public import Idealize.ShloMosaic.Lib.Pointwise

@[expose] public section

noncomputable section

/-! Attention weights with and without the row's maximum subtracted, over the extended reals. -/

namespace Cert.Attn

open Idealize.ShloMosaic

/-- A real factor that is not negative goes through a sum of extended reals. -/
theorem mul_sum {ι : Type} (S : Finset ι) (c : ℝ) (hc : 0 ≤ c) (f : ι → EReal) : (c : EReal) * ∑ j ∈ S, f j = ∑ j ∈ S, (c : EReal) * f j := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

/-- A sum of reals is real. -/
theorem coe_sum {ι : Type} (S : Finset ι) (f : ι → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- The largest of finitely many reals, folded from minus infinity, is real. -/
theorem fold_max_real {n : ℕ} (s : Fin (n + 1) → ℝ) : ∃ M : ℝ, Finset.univ.fold max (⊥ : EReal) (fun j => (s j : EReal)) = (M : EReal) := by
  have h : Finset.univ.fold max (⊥ : EReal) (fun j => (s j : EReal)) = Finset.univ.sup fun j => (s j : EReal) := rfl
  obtain ⟨j, -, hj⟩ := Finset.exists_mem_eq_sup Finset.univ Finset.univ_nonempty fun j => (s j : EReal)
  exact ⟨s j, h.trans hj⟩

/-- Subtracting one real from every score changes no weighted mean, whatever the values are. -/
theorem shift {n : ℕ} (s : Fin (n + 1) → ℝ) (M : ℝ) (v : Fin (n + 1) → EReal) :
    Ideal.div (∑ j, v j * Ideal.exp ((s j : EReal) - (M : EReal))) (∑ j, Ideal.exp ((s j : EReal) - (M : EReal)))
      = Ideal.div (∑ j, Ideal.exp (s j : EReal) * v j) (∑ j, Ideal.exp (s j : EReal)) := by
  have he : ∀ j, Real.exp (s j) = Real.exp M * Real.exp (s j - M) := fun j => by rw [← Real.exp_add]; congr 1; ring
  have hp : 0 < ∑ j, Real.exp (s j - M) := Finset.sum_pos (fun j _ => Real.exp_pos _) Finset.univ_nonempty
  have hL : (∑ j, Ideal.exp ((s j : EReal) - (M : EReal))) = ((∑ j, Real.exp (s j - M) : ℝ) : EReal) := by
    rw [← coe_sum]; exact Finset.sum_congr rfl fun j _ => by rw [← EReal.coe_sub, Ideal.exp_coe]
  have hK : (∑ j, Ideal.exp (s j : EReal)) = ((Real.exp M * ∑ j, Real.exp (s j - M) : ℝ) : EReal) := by
    rw [Finset.mul_sum, ← coe_sum]; exact Finset.sum_congr rfl fun j _ => by rw [Ideal.exp_coe, he j]
  have hA : (∑ j, Ideal.exp (s j : EReal) * v j) = (Real.exp M : EReal) * ∑ j, v j * Ideal.exp ((s j : EReal) - (M : EReal)) := by
    rw [mul_sum _ _ (Real.exp_pos M).le]
    exact Finset.sum_congr rfl fun j _ => by
      rw [Ideal.exp_coe, ← EReal.coe_sub, Ideal.exp_coe, he j, EReal.coe_mul, mul_assoc, mul_comm (v j)]
  rw [hL, hK, hA, Ideal.div_coe hp.ne', Ideal.div_coe (mul_pos (Real.exp_pos M) hp).ne', mul_comm (Real.exp M : EReal), mul_assoc, ← EReal.coe_mul]
  congr 2
  have h1 := (Real.exp_pos M).ne'
  field_simp

/-- A score: a query row times a key row, the scaling taken inside. -/
def score (c : ℝ) (x : Fin 1024 → ℝ) (w : Fin 1024 → Fin 128 → ℝ) (k : Fin 128 → ℝ) : ℝ := ∑ d, ((∑ e, x e * w e d) * c) * k d

theorem score_inside (c : ℝ) (x : Fin 1024 → ℝ) (w : Fin 1024 → Fin 128 → ℝ) (k : Fin 128 → ℝ) :
    ∑ d, ((∑ e, (x e : EReal) * (w e d : EReal)) * (c : EReal)) * (k d : EReal) = (score c x w k : EReal) := by
  unfold score
  rw [← coe_sum]
  refine Finset.sum_congr rfl fun d _ => ?_
  rw [EReal.coe_mul, EReal.coe_mul, ← coe_sum]
  simp only [EReal.coe_mul]

/-- The scaling taken outside, as a division by the root, is the same score. -/
theorem score_outside (r : ℝ) (hr : r ≠ 0) (x : Fin 1024 → ℝ) (w : Fin 1024 → Fin 128 → ℝ) (k : Fin 128 → ℝ) :
    Ideal.div (∑ d, (∑ e, (x e : EReal) * (w e d : EReal)) * (k d : EReal)) (r : EReal) = (score r⁻¹ x w k : EReal) := by
  have h : ∑ d, (∑ e, (x e : EReal) * (w e d : EReal)) * (k d : EReal) = ((∑ d, (∑ e, x e * w e d) * k d : ℝ) : EReal) := by
    rw [← coe_sum]
    refine Finset.sum_congr rfl fun d _ => ?_
    rw [EReal.coe_mul, ← coe_sum]
    simp only [EReal.coe_mul]
  rw [h, Ideal.div_coe hr, ← EReal.coe_mul]
  unfold score
  rw [Finset.sum_mul]
  exact congrArg _ (Finset.sum_congr rfl fun d _ => by rw [one_div]; ring)

end Cert.Attn

end
-- ==== Proof.RefHeads.lean ====
module

public import proofs.«01_k».proof.Proof.RefValue
public import proofs.«01_k».proof.Proof.Softmax

@[expose] public section

set_option maxRecDepth 16384

noncomputable section

/-! The reference's weighted means as the kernel has them, where the scores are real. -/

namespace Cert.ReferenceIdeal.Read

open Cert.ReferenceIdeal Cert.ReferenceIdeal.Gen Idealize.ShloMosaic Cert.Attn

local instance : Cert.ReferenceIdeal.Facts := Cert.ReferenceIdeal.Gen.facts

variable (x : S4x256x1024.Idx → ℝ) (w : S1024x4096.Idx → ℝ) (k : S4x1024x8x128.Idx → ℝ)
variable (X : FVec Ideal S4x256x1024 .bf16) (W : FVec Ideal S1024x4096 .bf16) (K U : FVec Ideal S4x1024x8x128 .f32)

/-- A head's scaled scores of real arguments. -/
def real (b : Fin 4) (h : Fin 32) (i : Fin 256) (j : Fin 1024) : ℝ :=
  score (Real.sqrt 128)⁻¹ (fun e => x (ix3 b i e)) (fun e d => w (ix2 e ⟨h.val * 128 + d.val, by omega⟩)) (fun d => k (ix4 b j ⟨h.val / 4, by omega⟩ d))

variable {x w k X W K}

theorem scores_real (hX : ∀ i, X i = (x i : EReal)) (hW : ∀ i, W i = (w i : EReal)) (hK : ∀ i, K i = (k i : EReal))
    (b : Fin 4) (h : Fin 32) (i : Fin 256) (j : Fin 1024) : scores X W K (ix4 b h i j) = (real x w k b h i j : EReal) := by
  rw [scores_apply]
  simp only [hX, hW, hK]
  exact score_outside (Real.sqrt 128) (by positivity) (fun e => x (ix3 b i e)) (fun e d => w (ix2 e ⟨h.val * 128 + d.val, by omega⟩)) (fun d => k (ix4 b j ⟨h.val / 4, by omega⟩ d))

/-- The maximum subtracted from a row of scores changes no weighted mean. -/
theorem means_real (hX : ∀ i, X i = (x i : EReal)) (hW : ∀ i, W i = (w i : EReal)) (hK : ∀ i, K i = (k i : EReal))
    (b : Fin 4) (h : Fin 32) (i : Fin 256) (d : Fin 128) : means U (weights (scores X W K)) (ix4 b i h d)
      = Ideal.div (∑ j : Fin 1024, Ideal.exp (real x w k b h i j : EReal) * U (ix4 b j ⟨h.val / 4, by omega⟩ d)) (∑ j : Fin 1024, Ideal.exp (real x w k b h i j : EReal)) := by
  rw [means_apply]
  simp only [weights_apply, scores_real hX hW hK]
  obtain ⟨M, hM⟩ := fold_max_real (n := 1023) (real x w k b h i)
  rw [show (Finset.univ.fold max (⊥ : EReal) fun y : Fin 1024 => (real x w k b h i y : EReal)) = (M : EReal) from hM]
  exact shift (n := 1023) (real x w k b h i) M (fun j => U (ix4 b j ⟨h.val / 4, by omega⟩ d))

end Cert.ReferenceIdeal.Read

end
-- ==== Proof.Finite.lean ====
module

public import proofs.«01_k».proof.Defs
public import Idealize.ShloMosaic.Lib.ReduceAll
public import Idealize.ShloMosaic.PureOps.Ideal.Laws

@[expose] public section

noncomputable section

/-! What the precondition says of one device's arrays: every input, query weight and key is real. -/

namespace Cert.Attn

open Idealize.ShloMosaic Cert.Pre_finite_scores_KernelIdeal

/-- An extended real whose absolute value is below the infinity is real. -/
theorem real_of_abs (a : EReal) (h : FloatOps.cmpf (F := Ideal) (φ := .f32) .olt (FloatOps.hostAbsf (F := Ideal) (φ := .f32) a) (Ideal.ofBits .f32 0x7F800000#32) = 1#1) :
    a = (a.toReal : EReal) := by
  have ht : Ideal.ofBits .f32 0x7F800000#32 = ⊤ := by simp [Ideal.ofBits, Ideal.ieee]
  rw [ht] at h
  have h' : max a (-a) < ⊤ := by
    by_contra hn
    have : Ideal.cmp .olt (max a (-a)) ⊤ = 1#1 := h
    simp [Ideal.cmp, hn] at this
  obtain ⟨h1, h2⟩ := max_lt_iff.1 h'
  refine (EReal.coe_toReal h1.ne ?_).symm
  rintro rfl
  exact absurd h2 (by simp)

instance : Subsingleton S_.Idx := ⟨fun a b => funext fun i => i.elim0⟩

variable [Facts]
variable {X : FVec Ideal S4x256x1024 .bf16} {W : FVec Ideal S1024x1024 .bf16} {K U : FVec Ideal S4x1024x8x128 .f32} {O : FVec Ideal S1024x1024 .bf16}

theorem finite (h : fn (F := Ideal) X W K U O = fun _ => 1#1) :
    (∀ i, X i = ((X i : EReal).toReal : EReal)) ∧ (∀ i, W i = ((W i : EReal).toReal : EReal)) ∧ (∀ i, K i = ((K i : EReal).toReal : EReal)) := by
  have h0 := congrFun h (fun i => i.elim0)
  obtain ⟨h1, h2⟩ := IntOp.andi_eq_one.1 h0
  obtain ⟨h3, h4⟩ := IntOp.andi_eq_one.1 h1
  exact ⟨fun i => real_of_abs _ (Host.reduce_andi_all _ _ _ _ _ h3 i), fun i => real_of_abs _ (Host.reduce_andi_all _ _ _ _ _ h4 i),
    fun i => real_of_abs _ (Host.reduce_andi_all _ _ _ _ _ h2 i)⟩

end Cert.Attn

end
-- ==== Proof.Equal.lean ====
module

public import proofs.«01_k».proof.Proof.Claims
public import proofs.«01_k».proof.Proof.Heads
public import proofs.«01_k».proof.Proof.RefHeads
public import proofs.«01_k».proof.Proof.Finite

@[expose] public section

set_option maxRecDepth 16384

noncomputable section

/-! The kernel and the reference compute the same array over the extended reals. -/

namespace Cert.Claims

open Idealize.ShloMosaic Idealize.ShloMosaic.TcCoe Idealize.SL.Sem Cert.Attn Cert.KernelIdeal.Ring Cert.ReferenceIdeal.Read
open Cert.ReferenceIdeal (S4x256x1024 S1024x4096 S4x1024x8x128 S4096x1024 S1024x1024)

local instance : Cert.KernelIdeal.Facts := Cert.KernelIdeal.Gen.facts
local instance : Cert.ReferenceIdeal.Facts := Cert.ReferenceIdeal.Gen.facts
local instance : Cert.Pre_finite_scores_KernelIdeal.Facts := preI

variable {X : FVec Ideal S4x256x1024 .bf16} {W : FVec Ideal S1024x4096 .bf16} {K U : FVec Ideal S4x1024x8x128 .f32} {O : FVec Ideal S4096x1024 .bf16}

/-- Where the scores are real, the reference's weighted means are the kernel's. -/
theorem means_whole (hX : ∀ i, X i = ((X i : EReal).toReal : EReal)) (hW : ∀ i, W i = ((W i : EReal).toReal : EReal)) (hK : ∀ i, K i = ((K i : EReal).toReal : EReal))
    (b : Fin 4) (i : Fin 256) (k : Fin 4096) :
    means U (weights (scores X W K)) (ix4 b i ⟨k.val / 128, by omega⟩ ⟨k.val % 128, by omega⟩) = whole X W K U b i k := by
  rw [means_real U hX hW hK]
  have hq : (⟨k.val / 128 / 4, by omega⟩ : Fin 8) = ⟨k.val / 512, by omega⟩ := Fin.ext (by show k.val / 128 / 4 = k.val / 512; omega)
  have hs : ∀ j : Fin 1024, (real (fun i => (X i : EReal).toReal) (fun i => (W i : EReal).toReal) (fun i => (K i : EReal).toReal) b ⟨k.val / 128, by omega⟩ i j : EReal)
      = ∑ e : Fin 128, ((∑ y : Fin 1024, X (ix3 b i y) * W (ix2 y ⟨k.val / 128 * 128 + e.val, by omega⟩)) * (((Real.sqrt 128)⁻¹ : ℝ) : EReal))
        * K (ix4 b j ⟨k.val / 512, by omega⟩ e) := by
    intro j
    unfold real
    rw [← score_inside]
    simp only [← hX, ← hW, ← hK, hq]
  simp only [hs, hq]
  rfl

/-- The two results are one array. -/
theorem result_same {m : (ℓ : Loc Cert.KernelIdeal.nD Cert.KernelIdeal.τ Cert.KernelIdeal.sig) → Buf (Elt Ideal) ℓ}
    (hX : ∀ i, X i = ((X i : EReal).toReal : EReal)) (hW : ∀ i, W i = ((W i : EReal).toReal : EReal)) (hK : ∀ i, K i = ((K i : EReal).toReal : EReal))
    (h : ∀ c, Holds X W K U O m c) :
    (outFin (F := Ideal) (parts m) : FVec Ideal S1024x1024 .f32) = output O (means U (weights (scores X W K))) := by
  funext z
  obtain ⟨r, y, rfl⟩ : ∃ r y : Fin 1024, z = ix2 r y := ⟨z 0, z 1, by funext a; match a with | ⟨0, _⟩ => rfl | ⟨1, _⟩ => rfl⟩
  refine (result_apply h r y).trans ?_
  rw [output_apply]
  exact Finset.sum_congr rfl fun k _ => congrArg (· * O (ix2 k y)) (means_whole hX hW hK _ _ k).symm

/-- The precondition, read of the whole arrays: every input, query weight and key is real. -/
theorem whole_real {m : (ℓ : Loc Cert.KernelIdeal.nD Cert.KernelIdeal.τ Cert.KernelIdeal.sig) → Buf (Elt Ideal) ℓ}
    (hp : Cert.Pre_KernelIdeal_finite_scores_KernelIdeal m) (h : ∀ c, Holds X W K U O m c) :
    (∀ i, X i = ((X i : EReal).toReal : EReal)) ∧ (∀ i, W i = ((W i : EReal).toReal : EReal)) ∧ (∀ i, K i = ((K i : EReal).toReal : EReal)) := by
  obtain ⟨a, -, b⟩ := finite (hp 0)
  rw [(h 0).1] at a
  rw [(h 0).2.2.1] at b
  refine ⟨a, fun z => ?_, b⟩
  obtain ⟨y, k, rfl⟩ : ∃ (y : Fin 1024) (k : Fin 4096), z = ix2 y k := ⟨z 0, z 1, by funext a; match a with | ⟨0, _⟩ => rfl | ⟨1, _⟩ => rfl⟩
  have hk := k.isLt
  let c : Dev Cert.KernelIdeal.nD := ⟨k.val / 1024, by show _ < 4; omega⟩
  have w := (finite (hp c)).2.1
  rw [(h c).2.1] at w
  have w' := w (ix2 y ⟨k.val % 1024, by omega⟩)
  rw [cols_apply] at w'
  have e : (⟨c.val * 1024 + k.val % 1024, by show k.val / 1024 * 1024 + k.val % 1024 < 4096; omega⟩ : Fin 4096) = k :=
    Fin.ext (by show k.val / 1024 * 1024 + k.val % 1024 = k.val; omega)
  rw [e] at w'
  exact w'

/-- On devices that hold their parts of the reference's arguments, the kernel leaves on every device the reference's result. -/
theorem algebraic : Cert.algebraic_KernelIdeal_ReferenceIdeal_pre_finite_scores_KernelIdeal := by
  intro m g m' g' hp h
  obtain ⟨hX, hW, hK⟩ := whole_real hp h
  refine ⟨Cert.ReferenceIdeal.Value.res_main_v26 m' 0, (θ_run Cert.KernelIdeal.defs _ _).mono (fun r hr c => ?_) (run_value m g),
    (θ_run Cert.ReferenceIdeal.defs _ _).mono (fun r hr => hr 0) (Cert.ReferenceIdeal.Value.run m' g')⟩
  obtain ⟨h1, h2⟩ := hr c
  refine ⟨h1.trans ?_, h2⟩
  rw [result_eq]
  exact result_same hX hW hK h

end Cert.Claims

end
-- ==== Proof.lean ====
module

public import proofs.«01_k».proof.Defs
public import proofs.«01_k».proof.Proof.Gen.Kernel

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Claims.preI, Cert.Claims.preR, Cert.Same.frame, Cert.Claims.frame_pi, Cert.Claims.frame_pi_pre, Cert.Claims.frame_ri,
  Cert.Claims.frame_ri_pre, Cert.Claims.preserves, Cert.Claims.algebraic⟩

end Cert.Proof

end
